-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v4_0)) (v1 : (c : Dev Cert.KernelIdeal.nD) → Buf (Elt Ideal) ((c.tc : Thread Cert.KernelIdeal.nD Cert.KernelIdeal.τ).loc Cert.KernelIdeal.main_v4_1)) (v2 : (c : Dev Cert.KernelIdeal.nD) → Buf (Elt Ideal) ((c.tc : Thread Cert.KernelIdeal.nD Cert.KernelIdeal.τ).loc Cert.KernelIdeal.main_v5)) (v3 : (c : Dev Cert.KernelIdeal.nD) → Buf (Elt Ideal) ((c.tc : Thread Cert.KernelIdeal.nD Cert.KernelIdeal.τ).loc Cert.KernelIdeal.main_v1)) (v4 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4_0) = v0 c
          ∧ r.2.mem ((c.tc : Thread Cert.KernelIdeal.nD Cert.KernelIdeal.τ).loc Cert.KernelIdeal.main_v4_1) = v1 c
          ∧ r.2.mem ((c.tc : Thread Cert.KernelIdeal.nD Cert.KernelIdeal.τ).loc Cert.KernelIdeal.main_v5) = v2 c
          ∧ r.2.mem ((c.tc : Thread Cert.KernelIdeal.nD Cert.KernelIdeal.τ).loc Cert.KernelIdeal.main_v1) = v3 c
          ∧ r.2.mem ((c.tc : Thread Cert.KernelIdeal.nD Cert.KernelIdeal.τ).loc Cert.KernelIdeal.main_v6) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v55_0) = v0 c
          ∧ r.2.mem ((c.tc : Thread Cert.ReferenceIdeal.nD Cert.ReferenceIdeal.τ).loc Cert.ReferenceIdeal.main_v55_1) = v1 c
          ∧ r.2.mem ((c.tc : Thread Cert.ReferenceIdeal.nD Cert.ReferenceIdeal.τ).loc Cert.ReferenceIdeal.main_v19) = v2 c
          ∧ r.2.mem ((c.tc : Thread Cert.ReferenceIdeal.nD Cert.ReferenceIdeal.τ).loc Cert.ReferenceIdeal.main_v55_2) = v3 c
          ∧ r.2.mem ((c.tc : Thread Cert.ReferenceIdeal.nD Cert.ReferenceIdeal.τ).loc Cert.ReferenceIdeal.main_v44) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S8x2048x3200 : Shape := ⟨3, ![8, 2048, 3200]⟩
abbrev S2048x3200 : Shape := ⟨2, ![2048, 3200]⟩
abbrev S1x1 : Shape := ⟨2, ![1, 1]⟩
abbrev S256x3200 : Shape := ⟨2, ![256, 3200]⟩
abbrev S8x3200 : Shape := ⟨2, ![8, 3200]⟩
abbrev S32x8x3200 : Shape := ⟨3, ![32, 8, 3200]⟩
abbrev S1x8x3200 : Shape := ⟨3, ![1, 8, 3200]⟩
abbrev S1 : Shape := ⟨1, ![1]⟩
abbrev S1x1x1 : Shape := ⟨3, ![1, 1, 1]⟩
abbrev S1x256 : Shape := ⟨2, ![1, 256]⟩
abbrev S16384x3200 : Shape := ⟨2, ![16384, 3200]⟩
abbrev S1024x3200 : Shape := ⟨2, ![1024, 3200]⟩
abbrev S16x3200 : Shape := ⟨2, ![16, 3200]⟩
abbrev S64x16x3200 : Shape := ⟨3, ![64, 16, 3200]⟩
abbrev S1x16x3200 : Shape := ⟨3, ![1, 16, 3200]⟩
abbrev S8x2048x2048 : Shape := ⟨3, ![8, 2048, 2048]⟩
abbrev S1x512x3200 : Shape := ⟨3, ![1, 512, 3200]⟩
abbrev S1x512x2048 : Shape := ⟨3, ![1, 512, 2048]⟩
abbrev S512x3200 : Shape := ⟨2, ![512, 3200]⟩
abbrev S512x2048 : Shape := ⟨2, ![512, 2048]⟩
abbrev S_ : Shape := ⟨0, ![]⟩

abbrev nBuf : Space → Nat
  | .hbm => 12
  | .vmem => 25
  | .smem => 0
  | _ => 0

abbrev bufTy : (tb : Table) → Fin (tcTables nBuf tb) → BufTy
  | .hbm, ⟨0, _⟩ => ⟨S8x2048x3200, .bf16⟩
  | .hbm, ⟨1, _⟩ => ⟨S2048x3200, .f32⟩
  | .hbm, ⟨2, _⟩ => ⟨S1x1, .f32⟩
  | .hbm, ⟨3, _⟩ => ⟨S1x1, .f32⟩
  | .hbm, ⟨4, _⟩ => ⟨S2048x3200, .fp8e4m3⟩
  | .hbm, ⟨5, _⟩ => ⟨S16384x3200, .bf16⟩
  | .hbm, ⟨6, _⟩ => ⟨S1x1, .f32⟩
  | .hbm, ⟨7, _⟩ => ⟨S1x1, .f32⟩
  | .hbm, ⟨8, _⟩ => ⟨S8x2048x2048, .bf16⟩
  | .hbm, ⟨9, _⟩ => ⟨S8x2048x3200, .fp8e5m2⟩
  | .hbm, ⟨10, _⟩ => ⟨S_, .f32⟩
  | .hbm, ⟨11, _⟩ => ⟨S_, .f32⟩
  | .local _ .vmem, ⟨0, _⟩ => ⟨S256x3200, .f32⟩
  | .local _ .vmem, ⟨1, _⟩ => ⟨S256x3200, .f32⟩
  | .local _ .vmem, ⟨2, _⟩ => ⟨S1x1, .f32⟩
  | .local _ .vmem, ⟨3, _⟩ => ⟨S1x1, .f32⟩
  | .local _ .vmem, ⟨4, _⟩ => ⟨S8x3200, .f32⟩
  | .local _ .vmem, ⟨5, _⟩ => ⟨S1x1, .f32⟩
  | .local _ .vmem, ⟨6, _⟩ => ⟨S256x3200, .f32⟩
  | .local _ .vmem, ⟨7, _⟩ => ⟨S256x3200, .f32⟩
  | .local _ .vmem, ⟨8, _⟩ => ⟨S256x3200, .fp8e4m3⟩
  | .local _ .vmem, ⟨9, _⟩ => ⟨S256x3200, .fp8e4m3⟩
  | .local _ .vmem, ⟨10, _⟩ => ⟨S1024x3200, .bf16⟩
  | .local _ .vmem, ⟨11, _⟩ => ⟨S1024x3200, .bf16⟩
  | .local _ .vmem, ⟨12, _⟩ => ⟨S1x1, .f32⟩
  | .local _ .vmem, ⟨13, _⟩ => ⟨S1x1, .f32⟩
  | .local _ .vmem, ⟨14, _⟩ => ⟨S16x3200, .bf16⟩
  | .local _ .vmem, ⟨15, _⟩ => ⟨S1x1, .f32⟩
  | .local _ .vmem, ⟨16, _⟩ => ⟨S1x1, .f32⟩
  | .local _ .vmem, ⟨17, _⟩ => ⟨S1x1, .f32⟩
  | .local _ .vmem, ⟨18, _⟩ => ⟨S1x512x3200, .bf16⟩
  | .local _ .vmem, ⟨19, _⟩ => ⟨S1x512x3200, .bf16⟩
  | .local _ .vmem, ⟨20, _⟩ => ⟨S2048x3200, .fp8e4m3⟩
  | .local _ .vmem, ⟨21, _⟩ => ⟨S1x512x2048, .bf16⟩
  | .local _ .vmem, ⟨22, _⟩ => ⟨S1x512x2048, .bf16⟩
  | .local _ .vmem, ⟨23, _⟩ => ⟨S1x512x3200, .fp8e5m2⟩
  | .local _ .vmem, ⟨24, _⟩ => ⟨S1x512x3200, .fp8e5m2⟩
  | _, _ => ⟨S8x2048x3200, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_v1 : Ref sig .tc := ⟨.hbm, 4, rfl⟩
abbrev main_v2 : Ref sig .tc := ⟨.hbm, 5, rfl⟩
abbrev main_v3_0 : Ref sig .tc := ⟨.hbm, 6, rfl⟩
abbrev main_v3_1 : Ref sig .tc := ⟨.hbm, 7, rfl⟩
abbrev main_v4_0 : Ref sig .tc := ⟨.hbm, 8, rfl⟩
abbrev main_v4_1 : Ref sig .tc := ⟨.hbm, 9, rfl⟩
abbrev main_v5 : Ref sig .tc := ⟨.hbm, 10, rfl⟩
abbrev main_v6 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_scratch0 : Ref sig .tc := ⟨.vmem, 4, rfl⟩
abbrev cc1_stg0_0 : Ref sig .tc := ⟨.vmem, 5, rfl⟩
abbrev cc1_stg1_0 : Ref sig .tc := ⟨.vmem, 6, rfl⟩
abbrev cc1_stg1_1 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_scratch0 : Ref sig .tc := ⟨.vmem, 14, rfl⟩
abbrev cc3_stg0_0 : Ref sig .tc := ⟨.vmem, 15, rfl⟩
abbrev cc3_stg1_0 : Ref sig .tc := ⟨.vmem, 16, rfl⟩
abbrev cc3_stg2_0 : Ref sig .tc := ⟨.vmem, 17, rfl⟩
abbrev cc3_stg3_0 : Ref sig .tc := ⟨.vmem, 18, rfl⟩
abbrev cc3_stg3_1 : Ref sig .tc := ⟨.vmem, 19, rfl⟩
abbrev cc3_stg4_0 : Ref sig .tc := ⟨.vmem, 20, rfl⟩
abbrev cc3_stg5_0 : Ref sig .tc := ⟨.vmem, 21, rfl⟩
abbrev cc3_stg5_1 : Ref sig .tc := ⟨.vmem, 22, rfl⟩
abbrev cc3_stg6_0 : Ref sig .tc := ⟨.vmem, 23, rfl⟩
abbrev cc3_stg6_1 : Ref sig .tc := ⟨.vmem, 24, rfl⟩
abbrev cc0_sem0_0 : DmaSem sig := 0
abbrev cc0_sem0_1 : DmaSem sig := 1
abbrev cc0_sem1_0 : DmaSem sig := 2
abbrev cc0_sem2_0 : DmaSem sig := 3
abbrev cc1_sem0_0 : DmaSem sig := 4
abbrev cc1_sem1_0 : DmaSem sig := 5
abbrev cc1_sem1_1 : DmaSem sig := 6
abbrev cc1_sem2_0 : DmaSem sig := 7
abbrev cc1_sem2_1 : DmaSem sig := 8
abbrev cc2_sem0_0 : DmaSem sig := 9
abbrev cc2_sem0_1 : DmaSem sig := 10
abbrev cc2_sem1_0 : DmaSem sig := 11
abbrev cc2_sem2_0 : DmaSem sig := 12
abbrev cc3_sem0_0 : DmaSem sig := 13
abbrev cc3_sem1_0 : DmaSem sig := 14
abbrev cc3_sem2_0 : DmaSem sig := 15
abbrev cc3_sem3_0 : DmaSem sig := 16
abbrev cc3_sem3_1 : DmaSem sig := 17
abbrev cc3_sem4_0 : DmaSem sig := 18
abbrev cc3_sem5_0 : DmaSem sig := 19
abbrev cc3_sem5_1 : DmaSem sig := 20
abbrev cc3_sem6_0 : DmaSem sig := 21
abbrev cc3_sem6_1 : DmaSem sig := 22

abbrev nD : Nat := 1
abbrev τ : Topo := Topo.v7x

variable {F : FTy → Type} [FloatOps F]

abbrev grid0 : Pipeline.Grid := ⟨1, ![8], ![false]⟩

def k0_cond3 (i : grid0.Coords) : BitVec 1 :=
  let arg0 : BitVec 32 := BitVec.ofNat 32 (i 0).val
  let c7_i32 : BitVec 32 := 7#32
  let v10 : BitVec 1 := Scalar.cmpi .eq arg0 c7_i32
  let v11 : BitVec 32 := Scalar.extui v10
  let c0_i32_4 : BitVec 32 := 0#32
  let v12 : BitVec 1 := Scalar.cmpi .ne v11 c0_i32_4
  v12

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x3200 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 1 → Memref sig .tc .vmem S1x1 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 2 → Memref sig .tc .vmem S256x3200 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S256x3200 .fp8e4m3 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![16], ![false]⟩

def k2_cond3 (i : grid2.Coords) : BitVec 1 :=
  let arg0 : BitVec 32 := BitVec.ofNat 32 (i 0).val
  let c15_i32 : BitVec 32 := 15#32
  let v11 : BitVec 1 := Scalar.cmpi .eq arg0 c15_i32
  let v12 : BitVec 32 := Scalar.extui v11
  let c0_i32_4 : BitVec 32 := 0#32
  let v13 : BitVec 1 := Scalar.cmpi .ne v12 c0_i32_4
  v13

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 2 → Memref sig .tc .vmem S1024x3200 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x1 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x1 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev grid3 : Pipeline.Grid := ⟨2, ![8, 4], ![false, false]⟩

def cc3_transform_0 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc3_transform_1 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc3_transform_4 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc3_transform_6 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage3_0 : Fin 1 → Memref sig .tc .vmem S1x1 .f32 := fun | 0 => Memref.whole cc3_stg0_0 | ⟨_ + 1, h⟩ => absurd h (Nat.not_lt.2 (Nat.le_add_left _ _))
abbrev sem3_0 : Fin 1 → DmaSem sig := fun | 0 => cc3_sem0_0 | ⟨_ + 1, h⟩ => absurd h (Nat.not_lt.2 (Nat.le_add_left _ _))
abbrev reads3_0 : Fin grid3.rank → Bool := ![false, false]

abbrev stage3_1 : Fin 1 → Memref sig .tc .vmem S1x1 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false, false]

abbrev stage3_2 : Fin 1 → Memref sig .tc .vmem S1x1 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false, false]

abbrev stage3_3 : Fin 2 → Memref sig .tc .vmem S1x512x3200 .bf16 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true, true]

abbrev stage3_4 : Fin 1 → Memref sig .tc .vmem S2048x3200 .fp8e4m3 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false, false]

abbrev stage3_5 : Fin 2 → Memref sig .tc .vmem S1x512x2048 .bf16 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true, true]

abbrev stage3_6 : Fin 2 → Memref sig .tc .vmem S1x512x3200 .fp8e5m2 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true, true]
-- ==== ReferenceIdeal.lean ====
abbrev S8x2048x3200 : Shape := ⟨3, ![8, 2048, 3200]⟩
abbrev S2048x3200 : Shape := ⟨2, ![2048, 3200]⟩
abbrev S_ : Shape := ⟨0, ![]⟩
abbrev S1x1x1 : Shape := ⟨3, ![1, 1, 1]⟩
abbrev S1x1 : Shape := ⟨2, ![1, 1]⟩
abbrev S8x2048x2048 : Shape := ⟨3, ![8, 2048, 2048]⟩

abbrev nBuf : Space → Nat
  | .hbm => 110
  | .vmem => 9
  | .smem => 0
  | _ => 0

abbrev bufTy : (tb : Table) → Fin (tcTables nBuf tb) → BufTy
  | .hbm, ⟨0, _⟩ => ⟨S8x2048x3200, .bf16⟩
  | .hbm, ⟨1, _⟩ => ⟨S2048x3200, .f32⟩
  | .hbm, ⟨2, _⟩ => ⟨S8x2048x3200, .f32⟩
  | .hbm, ⟨3, _⟩ => ⟨S8x2048x3200, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .i1⟩
  | .hbm, ⟨17, _⟩ => ⟨S_, .f32⟩
  | .hbm, ⟨18, _⟩ => ⟨S_, .i1⟩
  | .hbm, ⟨19, _⟩ => ⟨S_, .i1⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .i1⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S_, .i1⟩
  | .hbm, ⟨30, _⟩ => ⟨S_, .f32⟩
  | .hbm, ⟨31, _⟩ => ⟨S_, .i1⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S_, .i1⟩
  | .hbm, ⟨43, _⟩ => ⟨S_, .f32⟩
  | .hbm, ⟨44, _⟩ => ⟨S_, .i1⟩
  | .hbm, ⟨45, _⟩ => ⟨S_, .f32⟩
  | .hbm, ⟨46, _⟩ => ⟨S_, .f32⟩
  | .hbm, ⟨47, _⟩ => ⟨S_, .f32⟩
  | .hbm, ⟨48, _⟩ => ⟨S_, .f32⟩
  | .hbm, ⟨49, _⟩ => ⟨S_, .f32⟩
  | .hbm, ⟨50, _⟩ => ⟨S_, .f32⟩
  | .hbm, ⟨51, _⟩ => ⟨S_, .f32⟩
  | .hbm, ⟨52, _⟩ => ⟨S_, .f32⟩
  | .hbm, ⟨53, _⟩ => ⟨S2048x3200, .f32⟩
  | .hbm, ⟨54, _⟩ => ⟨S_, .f32⟩
  | .hbm, ⟨55, _⟩ => ⟨S_, .f32⟩
  | .hbm, ⟨56, _⟩ => ⟨S_, .f32⟩
  | .hbm, ⟨57, _⟩ => ⟨S_, .f32⟩
  | .hbm, ⟨58, _⟩ => ⟨S_, .f32⟩
  | .hbm, ⟨59, _⟩ => ⟨S_, .f32⟩
  | .hbm, ⟨60, _⟩ => ⟨S_, .f32⟩
  | .hbm, ⟨61, _⟩ => ⟨S_, .f32⟩
  | .hbm, ⟨62, _⟩ => ⟨S_, .f32⟩
  | .hbm, ⟨63, _⟩ => ⟨S_, .f32⟩
  | .hbm, ⟨64, _⟩ => ⟨S_, .f32⟩
  | .hbm, ⟨65, _⟩ => ⟨S_, .f32⟩
  | .hbm, ⟨66, _⟩ => ⟨S_, .i1⟩
  | .hbm, ⟨67, _⟩ => ⟨S_, .f32⟩
  | .hbm, ⟨68, _⟩ => ⟨S_, .i1⟩
  | .hbm, ⟨69, _⟩ => ⟨S_, .i1⟩
  | .hbm, ⟨70, _⟩ => ⟨S_, .f32⟩
  | .hbm, ⟨71, _⟩ => ⟨S_, .f32⟩
  | .hbm, ⟨72, _⟩ => ⟨S_, .f32⟩
  | .hbm, ⟨73, _⟩ => ⟨S_, .f32⟩
  | .hbm, ⟨74, _⟩ => ⟨S_, .i1⟩
  | .hbm, ⟨75, _⟩ => ⟨S_, .f32⟩
  | .hbm, ⟨76, _⟩ => ⟨S_, .f32⟩
  | .hbm, ⟨77, _⟩ => ⟨S_, .f32⟩
  | .hbm, ⟨78, _⟩ => ⟨S_, .f32⟩
  | .hbm, ⟨79, _⟩ => ⟨S_, .i1⟩
  | .hbm, ⟨80, _⟩ => ⟨S_, .f32⟩
  | .hbm, ⟨81, _⟩ => ⟨S_, .i1⟩
  | .hbm, ⟨82, _⟩ => ⟨S_, .f32⟩
  | .hbm, ⟨83, _⟩ => ⟨S_, .f32⟩
  | .hbm, ⟨84, _⟩ => ⟨S_, .f32⟩
  | .hbm, ⟨85, _⟩ => ⟨S_, .f32⟩
  | .hbm, ⟨86, _⟩ => ⟨S_, .f32⟩
  | .hbm, ⟨87, _⟩ => ⟨S_, .f32⟩
  | .hbm, ⟨88, _⟩ => ⟨S_, .f32⟩
  | .hbm, ⟨89, _⟩ => ⟨S_, .f32⟩
  | .hbm, ⟨90, _⟩ => ⟨S_, .f32⟩
  | .hbm, ⟨91, _⟩ => ⟨S_, .f32⟩
  | .hbm, ⟨92, _⟩ => ⟨S_, .i1⟩
  | .hbm, ⟨93, _⟩ => ⟨S_, .f32⟩
  | .hbm, ⟨94, _⟩ => ⟨S_, .i1⟩
  | .hbm, ⟨95, _⟩ => ⟨S_, .f32⟩
  | .hbm, ⟨96, _⟩ => ⟨S_, .f32⟩
  | .hbm, ⟨97, _⟩ => ⟨S_, .f32⟩
  | .hbm, ⟨98, _⟩ => ⟨S_, .f32⟩
  | .hbm, ⟨99, _⟩ => ⟨S_, .f32⟩
  | .hbm, ⟨100, _⟩ => ⟨S_, .f32⟩
  | .hbm, ⟨101, _⟩ => ⟨S_, .f32⟩
  | .hbm, ⟨102, _⟩ => ⟨S_, .f32⟩
  | .hbm, ⟨103, _⟩ => ⟨S1x1x1, .f32⟩
  | .hbm, ⟨104, _⟩ => ⟨S1x1x1, .f32⟩
  | .hbm, ⟨105, _⟩ => ⟨S1x1, .f32⟩
  | .hbm, ⟨106, _⟩ => ⟨S1x1, .f32⟩
  | .hbm, ⟨107, _⟩ => ⟨S8x2048x2048, .bf16⟩
  | .hbm, ⟨108, _⟩ => ⟨S8x2048x3200, .fp8e5m2⟩
  | .hbm, ⟨109, _⟩ => ⟨S2048x3200, .fp8e4m3⟩
  | .local _ .vmem, ⟨0, _⟩ => ⟨S8x2048x3200, .bf16⟩
  | .local _ .vmem, ⟨1, _⟩ => ⟨S2048x3200, .f32⟩
  | .local _ .vmem, ⟨2, _⟩ => ⟨S1x1x1, .f32⟩
  | .local _ .vmem, ⟨3, _⟩ => ⟨S1x1x1, .f32⟩
  | .local _ .vmem, ⟨4, _⟩ => ⟨S1x1, .f32⟩
  | .local _ .vmem, ⟨5, _⟩ => ⟨S1x1, .f32⟩
  | .local _ .vmem, ⟨6, _⟩ => ⟨S8x2048x2048, .bf16⟩
  | .local _ .vmem, ⟨7, _⟩ => ⟨S8x2048x3200, .fp8e5m2⟩
  | .local _ .vmem, ⟨8, _⟩ => ⟨S2048x3200, .fp8e4m3⟩
  | _, _ => ⟨S8x2048x3200, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst_2 : Ref sig .tc := ⟨.hbm, 13, rfl⟩
abbrev main_v8 : Ref sig .tc := ⟨.hbm, 14, rfl⟩
abbrev main_cst_3 : Ref sig .tc := ⟨.hbm, 15, rfl⟩
abbrev main_v9 : Ref sig .tc := ⟨.hbm, 16, rfl⟩
abbrev main_cst_4 : Ref sig .tc := ⟨.hbm, 17, rfl⟩
abbrev main_v10 : Ref sig .tc := ⟨.hbm, 18, rfl⟩
abbrev main_v11 : Ref sig .tc := ⟨.hbm, 19, rfl⟩
abbrev main_cst_5 : Ref sig .tc := ⟨.hbm, 20, rfl⟩
abbrev main_call0_v0 : Ref sig .tc := ⟨.hbm, 21, rfl⟩
abbrev main_v12 : Ref sig .tc := ⟨.hbm, 22, rfl⟩
abbrev main_cst_6 : Ref sig .tc := ⟨.hbm, 23, rfl⟩
abbrev main_v13 : Ref sig .tc := ⟨.hbm, 24, rfl⟩
abbrev main_cst_7 : Ref sig .tc := ⟨.hbm, 25, rfl⟩
abbrev main_call1_v0 : Ref sig .tc := ⟨.hbm, 26, rfl⟩
abbrev main_v14 : Ref sig .tc := ⟨.hbm, 27, rfl⟩
abbrev main_cst_8 : Ref sig .tc := ⟨.hbm, 28, rfl⟩
abbrev main_v15 : Ref sig .tc := ⟨.hbm, 29, rfl⟩
abbrev main_cst_9 : Ref sig .tc := ⟨.hbm, 30, rfl⟩
abbrev main_v16 : Ref sig .tc := ⟨.hbm, 31, rfl⟩
abbrev main_cst_10 : Ref sig .tc := ⟨.hbm, 32, rfl⟩
abbrev main_v17 : Ref sig .tc := ⟨.hbm, 33, rfl⟩
abbrev main_cst_11 : Ref sig .tc := ⟨.hbm, 34, rfl⟩
abbrev main_call2_v0 : Ref sig .tc := ⟨.hbm, 35, rfl⟩
abbrev main_v18 : Ref sig .tc := ⟨.hbm, 36, rfl⟩
abbrev main_cst_12 : Ref sig .tc := ⟨.hbm, 37, rfl⟩
abbrev main_call3_v0 : Ref sig .tc := ⟨.hbm, 38, rfl⟩
abbrev main_v19 : Ref sig .tc := ⟨.hbm, 39, rfl⟩
abbrev main_v20 : Ref sig .tc := ⟨.hbm, 40, rfl⟩
abbrev main_cst_13 : Ref sig .tc := ⟨.hbm, 41, rfl⟩
abbrev main_v21 : Ref sig .tc := ⟨.hbm, 42, rfl⟩
abbrev main_cst_14 : Ref sig .tc := ⟨.hbm, 43, rfl⟩
abbrev main_v22 : Ref sig .tc := ⟨.hbm, 44, rfl⟩
abbrev main_cst_15 : Ref sig .tc := ⟨.hbm, 45, rfl⟩
abbrev main_v23 : Ref sig .tc := ⟨.hbm, 46, rfl⟩
abbrev main_cst_16 : Ref sig .tc := ⟨.hbm, 47, rfl⟩
abbrev main_call4_v0 : Ref sig .tc := ⟨.hbm, 48, rfl⟩
abbrev main_v24 : Ref sig .tc := ⟨.hbm, 49, rfl⟩
abbrev main_cst_17 : Ref sig .tc := ⟨.hbm, 50, rfl⟩
abbrev main_call5_v0 : Ref sig .tc := ⟨.hbm, 51, rfl⟩
abbrev main_v25 : Ref sig .tc := ⟨.hbm, 52, rfl⟩
abbrev main_v26 : Ref sig .tc := ⟨.hbm, 53, rfl⟩
abbrev main_cst_18 : Ref sig .tc := ⟨.hbm, 54, rfl⟩
abbrev main_v27 : Ref sig .tc := ⟨.hbm, 55, rfl⟩
abbrev main_cst_19 : Ref sig .tc := ⟨.hbm, 56, rfl⟩
abbrev main_v28 : Ref sig .tc := ⟨.hbm, 57, rfl⟩
abbrev main_v29 : Ref sig .tc := ⟨.hbm, 58, rfl⟩
abbrev main_cst_20 : Ref sig .tc := ⟨.hbm, 59, rfl⟩
abbrev main_v30 : Ref sig .tc := ⟨.hbm, 60, rfl⟩
abbrev main_v31 : Ref sig .tc := ⟨.hbm, 61, rfl⟩
abbrev main_v32 : Ref sig .tc := ⟨.hbm, 62, rfl⟩
abbrev main_cst_21 : Ref sig .tc := ⟨.hbm, 63, rfl⟩
abbrev main_v33 : Ref sig .tc := ⟨.hbm, 64, rfl⟩
abbrev main_cst_22 : Ref sig .tc := ⟨.hbm, 65, rfl⟩
abbrev main_v34 : Ref sig .tc := ⟨.hbm, 66, rfl⟩
abbrev main_cst_23 : Ref sig .tc := ⟨.hbm, 67, rfl⟩
abbrev main_v35 : Ref sig .tc := ⟨.hbm, 68, rfl⟩
abbrev main_v36 : Ref sig .tc := ⟨.hbm, 69, rfl⟩
abbrev main_cst_24 : Ref sig .tc := ⟨.hbm, 70, rfl⟩
abbrev main_call6_v0 : Ref sig .tc := ⟨.hbm, 71, rfl⟩
abbrev main_v37 : Ref sig .tc := ⟨.hbm, 72, rfl⟩
abbrev main_cst_25 : Ref sig .tc := ⟨.hbm, 73, rfl⟩
abbrev main_v38 : Ref sig .tc := ⟨.hbm, 74, rfl⟩
abbrev main_cst_26 : Ref sig .tc := ⟨.hbm, 75, rfl⟩
abbrev main_call7_v0 : Ref sig .tc := ⟨.hbm, 76, rfl⟩
abbrev main_v39 : Ref sig .tc := ⟨.hbm, 77, rfl⟩
abbrev main_cst_27 : Ref sig .tc := ⟨.hbm, 78, rfl⟩
abbrev main_v40 : Ref sig .tc := ⟨.hbm, 79, rfl⟩
abbrev main_cst_28 : Ref sig .tc := ⟨.hbm, 80, rfl⟩
abbrev main_v41 : Ref sig .tc := ⟨.hbm, 81, rfl⟩
abbrev main_cst_29 : Ref sig .tc := ⟨.hbm, 82, rfl⟩
abbrev main_v42 : Ref sig .tc := ⟨.hbm, 83, rfl⟩
abbrev main_cst_30 : Ref sig .tc := ⟨.hbm, 84, rfl⟩
abbrev main_call8_v0 : Ref sig .tc := ⟨.hbm, 85, rfl⟩
abbrev main_v43 : Ref sig .tc := ⟨.hbm, 86, rfl⟩
abbrev main_cst_31 : Ref sig .tc := ⟨.hbm, 87, rfl⟩
abbrev main_call9_v0 : Ref sig .tc := ⟨.hbm, 88, rfl⟩
abbrev main_v44 : Ref sig .tc := ⟨.hbm, 89, rfl⟩
abbrev main_v45 : Ref sig .tc := ⟨.hbm, 90, rfl⟩
abbrev main_cst_32 : Ref sig .tc := ⟨.hbm, 91, rfl⟩
abbrev main_v46 : Ref sig .tc := ⟨.hbm, 92, rfl⟩
abbrev main_cst_33 : Ref sig .tc := ⟨.hbm, 93, rfl⟩
abbrev main_v47 : Ref sig .tc := ⟨.hbm, 94, rfl⟩
abbrev main_cst_34 : Ref sig .tc := ⟨.hbm, 95, rfl⟩
abbrev main_v48 : Ref sig .tc := ⟨.hbm, 96, rfl⟩
abbrev main_cst_35 : Ref sig .tc := ⟨.hbm, 97, rfl⟩
abbrev main_call10_v0 : Ref sig .tc := ⟨.hbm, 98, rfl⟩
abbrev main_v49 : Ref sig .tc := ⟨.hbm, 99, rfl⟩
abbrev main_cst_36 : Ref sig .tc := ⟨.hbm, 100, rfl⟩
abbrev main_call11_v0 : Ref sig .tc := ⟨.hbm, 101, rfl⟩
abbrev main_v50 : Ref sig .tc := ⟨.hbm, 102, rfl⟩
abbrev main_v51 : Ref sig .tc := ⟨.hbm, 103, rfl⟩
abbrev main_v52 : Ref sig .tc := ⟨.hbm, 104, rfl⟩
abbrev main_v53 : Ref sig .tc := ⟨.hbm, 105, rfl⟩
abbrev main_v54 : Ref sig .tc := ⟨.hbm, 106, rfl⟩
abbrev main_v55_0 : Ref sig .tc := ⟨.hbm, 107, rfl⟩
abbrev main_v55_1 : Ref sig .tc := ⟨.hbm, 108, rfl⟩
abbrev main_v55_2 : Ref sig .tc := ⟨.hbm, 109, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := .none

abbrev stage0_0 : Fin 1 → Memref sig .tc .vmem S8x2048x3200 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2048x3200 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x1x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S8x2048x2048 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S8x2048x3200 .fp8e5m2 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S2048x3200 .fp8e4m3 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
-- ==== Proof.KAmaxWRun.lean ====
module

public import proofs.«01_k».proof.Proof.Gen.Kernel.Launch
public import proofs.«01_k».proof.Proof.Gen.Kernel.Skeleton
public import proofs.«01_k».proof.Proof.Gen.Kernel.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

@[expose] public section

set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # What `amax_w`'s body does at the first point (case A), at a middle point (B) and at the last (C) -/

-- the TensorCore's buffer contents when the call is entered
variable (V : (c : Dev nD) → (b : Ref sig .tc) → Buf (Elt F) ((c : Thread nD τ).loc b))

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-! ## The body's branch conditions -/

/-- The condition of the body's `scf.if` 0 (`k0_h1`), from the grid coordinates (the skeleton's scalar
    chain substituted). -/
abbrev cond0_0 (i : grid0.Coords) : Prop := (Scalar.cmpi .ne (Scalar.extui (Scalar.cmpi .eq (BitVec.ofNat 32 (i 0).val) 0#32)) 0#32) = 1#1
/-- It holds at the first point only — by arithmetic of the point. -/
theorem hcond0_0 : ∀ t : Fin cfg0.N, cond0_0 (grid0.coords t) ↔ t.val % 8 = 0 :=
  (fun t => by
    have ht : t.val < 8 := Nat.lt_of_lt_of_eq t.isLt N_0
    have e0 : (grid0.coords t 0).val = t.val / 1 % 8 := Pipeline.Grid.coords_val t 0 (by decide) rfl
    simp only [cond0_0, e0]
    word_cmp
   : ∀ t : Fin grid0.N, cond0_0 (grid0.coords t) ↔ t.val % 8 = 0)

/-- The condition of the body's `scf.if` 1 (`k0_h2`), from the grid coordinates (the skeleton's scalar
    chain substituted). -/
abbrev cond0_1 (i : grid0.Coords) : Prop := (Scalar.cmpi .ne (Scalar.extui (Scalar.cmpi .sgt (BitVec.ofNat 32 (i 0).val) 0#32)) 0#32) = 1#1
/-- It holds at the points from point 1 on — decided over the grid. -/
theorem hcond0_1 : ∀ t : Fin cfg0.N, cond0_1 (grid0.coords t) ↔ 1 ≤ t.val :=
  (by decide +kernel : ∀ t : Fin grid0.N, cond0_1 (grid0.coords t) ↔ 1 ≤ t.val)

/-- The condition of the body's `scf.if` 2 (`k0_h3`), from the grid coordinates (the skeleton's scalar
    chain substituted). -/
abbrev cond0_2 (i : grid0.Coords) : Prop := k0_cond3 i = 1#1
/-- It holds at the last point only — by arithmetic of the point. -/
theorem hcond0_2 : ∀ t : Fin cfg0.N, cond0_2 (grid0.coords t) ↔ t.val % 8 = 7 :=
  (fun t => by
    have ht : t.val < 8 := Nat.lt_of_lt_of_eq t.isLt N_0
    have e0 : (grid0.coords t 0).val = t.val / 1 % 8 := Pipeline.Grid.coords_val t 0 (by decide) rfl
    simp only [cond0_2, k0_cond3, e0]
    word_cmp
   : ∀ t : Fin grid0.N, cond0_2 (grid0.coords t) ↔ t.val % 8 = 7)

/-! ## Where the windows are idle (the printed configuration's table `Cfg.idle`) -/

/-- Window 0 is never idle (an input). -/
theorem liveAt0_0 : ∀ t : Fin cfg0.N, cfg0.idle 0 (grid0.coords t) = false := fun _ => rfl
/-- At the points of case A the printed configuration (`Cfg.idle`) calls output 1 idle: the case stores nothing into it. -/
theorem idleAt0_1_A : ∀ t : Fin cfg0.N, cond0_0 (grid0.coords t) → ¬cond0_1 (grid0.coords t) → ¬cond0_2 (grid0.coords t) → cfg0.idle 1 (grid0.coords t) = true := by decide +kernel
/-- At the points of case A the pipeline does not write output 1's block back. -/
theorem noFlush0_1_A : ∀ t : Fin cfg0.N, cond0_0 (grid0.coords t) → ¬cond0_1 (grid0.coords t) → ¬cond0_2 (grid0.coords t) → (cfg0.win 1).flush t = false := by decide +kernel
/-- At the points of case B the printed configuration (`Cfg.idle`) calls output 1 idle: the case stores nothing into it. -/
theorem idleAt0_1_B : ∀ t : Fin cfg0.N, ¬cond0_0 (grid0.coords t) → cond0_1 (grid0.coords t) → ¬cond0_2 (grid0.coords t) → cfg0.idle 1 (grid0.coords t) = true := by decide +kernel
/-- At the points of case B the pipeline does not write output 1's block back. -/
theorem noFlush0_1_B : ∀ t : Fin cfg0.N, ¬cond0_0 (grid0.coords t) → cond0_1 (grid0.coords t) → ¬cond0_2 (grid0.coords t) → (cfg0.win 1).flush t = false := by decide +kernel
/-- At the points of case C the printed configuration (`Cfg.idle`) calls output 1 live: the case stores into it. -/
theorem liveAt0_1_C : ∀ t : Fin cfg0.N, ¬cond0_0 (grid0.coords t) → cond0_1 (grid0.coords t) → cond0_2 (grid0.coords t) → cfg0.idle 1 (grid0.coords t) = false := by decide +kernel
/-- At the points of case A the printed configuration (`Cfg.idle`) calls output 2 idle: the case stores nothing into it. -/
theorem idleAt0_2_A : ∀ t : Fin cfg0.N, cond0_0 (grid0.coords t) → ¬cond0_1 (grid0.coords t) → ¬cond0_2 (grid0.coords t) → cfg0.idle 2 (grid0.coords t) = true := by decide +kernel
/-- At the points of case A the pipeline does not write output 2's block back. -/
theorem noFlush0_2_A : ∀ t : Fin cfg0.N, cond0_0 (grid0.coords t) → ¬cond0_1 (grid0.coords t) → ¬cond0_2 (grid0.coords t) → (cfg0.win 2).flush t = false := by decide +kernel
/-- At the points of case B the printed configuration (`Cfg.idle`) calls output 2 idle: the case stores nothing into it. -/
theorem idleAt0_2_B : ∀ t : Fin cfg0.N, ¬cond0_0 (grid0.coords t) → cond0_1 (grid0.coords t) → ¬cond0_2 (grid0.coords t) → cfg0.idle 2 (grid0.coords t) = true := by decide +kernel
/-- At the points of case B the pipeline does not write output 2's block back. -/
theorem noFlush0_2_B : ∀ t : Fin cfg0.N, ¬cond0_0 (grid0.coords t) → cond0_1 (grid0.coords t) → ¬cond0_2 (grid0.coords t) → (cfg0.win 2).flush t = false := by decide +kernel
/-- At the points of case C the printed configuration (`Cfg.idle`) calls output 2 live: the case stores into it. -/
theorem liveAt0_2_C : ∀ t : Fin cfg0.N, ¬cond0_0 (grid0.coords t) → cond0_1 (grid0.coords t) → cond0_2 (grid0.coords t) → cfg0.idle 2 (grid0.coords t) = false := by decide +kernel

/-! ## The kernel body on any staging memrefs: a subtype the run finds -/

/-- One staging buffer of output window 1, through which its contents are stated (`View.read_writes_of_cover`: the
    choice does not matter). -/
abbrev VO0_1 : View sig .tc .vmem S1x1 .f32 := (Memref.whole cc0_stg1_0 : Memref sig .tc .vmem S1x1 .f32).view
/-- One staging buffer of output window 2, through which its contents are stated (`View.read_writes_of_cover`: the
    choice does not matter). -/
abbrev VO0_2 : View sig .tc .vmem S1x1 .f32 := (Memref.whole cc0_stg2_0 : Memref sig .tc .vmem S1x1 .f32).view
/-- Each window's current staging memref at point `t`, spelled as the pipeline passes it (`bodyAt0`), and its wholeness. -/
abbrev ms0_0 (t : Fin cfg0.N) : Memref sig .tc .vmem S256x3200 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x1 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x1 .f32 := win0_2.stage (cfg0.slots t 2)
abbrev hs0_2 (t : Fin cfg0.N) : (ms0_2 t).IsWhole := hstage0_2 ((cfg0.slots t 2).cast nbuf0_2)
/-- The scratch operands: whole scoped buffers of the kernel's own, passed beside the windows. -/
abbrev scM0_0 : Memref sig .tc .vmem S8x3200 .f32 := Memref.whole cc0_scratch0
/-- The scratch `arg4` the kernel carries between points, as a view: what it holds is stated through it. -/
abbrev VS0_0 : View sig .tc .vmem S8x3200 .f32 := scM0_0.view

/-- The scoped buffers of the other calls: this call carries them along untouched. -/
def rest0 (c : Dev nD) : sProp 𝕄 := iprop((∃ f : Buf (Elt F) ((c : Thread nD τ).loc cc1_stg0_0), ((c : Thread nD τ).loc cc1_stg0_0) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc2_stg0_0), ((c : Thread nD τ).loc cc2_stg0_0) ↦{fullShare} f) ∗ (∃ f : Buf (Elt F) ((c : Thread nD τ).loc cc2_stg0_1), ((c : Thread nD τ).loc cc2_stg0_1) ↦{fullShare} f) ∗ (∃ f : Buf (Elt F) ((c : Thread nD τ).loc cc2_stg1_0), ((c : Thread nD τ).loc cc2_stg1_0) ↦{fullShare} f) ∗ (∃ f : Buf (Elt F) ((c : Thread nD τ).loc cc2_stg2_0), ((c : Thread nD τ).loc cc2_stg2_0) ↦{fullShare} f) ∗ (∃ f : Buf (Elt F) ((c : Thread nD τ).loc cc2_scratch0), ((c : Thread nD τ).loc cc2_scratch0) ↦{fullShare} f) ∗ (∃ f : Buf (Elt F) ((c : Thread nD τ).loc cc3_stg0_0), ((c : Thread nD τ).loc cc3_stg0_0) ↦{fullShare} f) ∗ (∃ f : Buf (Elt F) ((c : Thread nD τ).loc cc3_stg1_0), ((c : Thread nD τ).loc cc3_stg1_0) ↦{fullShare} f) ∗ (∃ f : Buf (Elt F) ((c : Thread nD τ).loc cc3_stg2_0), ((c : Thread nD τ).loc cc3_stg2_0) ↦{fullShare} f) ∗ (∃ f : Buf (Elt F) ((c : Thread nD τ).loc cc3_stg3_0), ((c : Thread nD τ).loc cc3_stg3_0) ↦{fullShare} f) ∗ (∃ f : Buf (Elt F) ((c : Thread nD τ).loc cc3_stg3_1), ((c : Thread nD τ).loc cc3_stg3_1) ↦{fullShare} f) ∗ (∃ f : Buf (Elt F) ((c : Thread nD τ).loc cc3_stg4_0), ((c : Thread nD τ).loc cc3_stg4_0) ↦{fullShare} f) ∗ (∃ f : Buf (Elt F) ((c : Thread nD τ).loc cc3_stg5_0), ((c : Thread nD τ).loc cc3_stg5_0) ↦{fullShare} f) ∗ (∃ f : Buf (Elt F) ((c : Thread nD τ).loc cc3_stg5_1), ((c : Thread nD τ).loc cc3_stg5_1) ↦{fullShare} f) ∗ (∃ f : Buf (Elt F) ((c : Thread nD τ).loc cc3_stg6_0), ((c : Thread nD τ).loc cc3_stg6_0) ↦{fullShare} f) ∗ (∃ f : Buf (Elt F) ((c : Thread nD τ).loc cc3_stg6_1), ((c : Thread nD τ).loc cc3_stg6_1) ↦{fullShare} f))

/-- Before the first point: the scratch at anything, the other calls' scoped buffers, and the generator register. -/
def PhiJ0 (c : Dev nD) : sProp 𝕄 :=
  iprop(iprop((∃ d, owns (c : Thread nD τ) scM0_0 fullShare d) ∗ rest0 c) ∗ (∃ r, prngReg c r))

/-- What the launch hands the call gives the invariant before the first point. -/
theorem PhiJ0_of (c : Dev nD) : (Pipeline.ΦA spec0 c : sProp 𝕄) ⊢ PhiJ0 c := by
  unfold Pipeline.ΦA PhiJ0 rest0; rw [scopedRest0_eq]; simp only [scM0_0, owns_whole]
  iintro ⟨⟨R0, R1, R2, R3, R4, R5, R6, R7, R8, R9, R10, R11, R12, R13, R14, R15, R16, R17, R18, R19, R20⟩, Hg⟩
  isplitr [Hg]
  · isplitl [R0]; · iexact R0
    isplitl [R1]; · iexact R1
    isplitl [R2]; · iexact R2
    isplitl [R3]; · iexact R3
    isplitl [R4]; · iexact R4
    isplitl [R5]; · iexact R5
    isplitl [R6]; · iexact R6
    isplitl [R7]; · iexact R7
    isplitl [R8]; · iexact R8
    isplitl [R9]; · iexact R9
    isplitl [R10]; · iexact R10
    isplitl [R11]; · iexact R11
    isplitl [R12]; · iexact R12
    isplitl [R13]; · iexact R13
    isplitl [R14]; · iexact R14
    isplitl [R15]; · iexact R15
    isplitl [R16]; · iexact R16
    isplitl [R17]; · iexact R17
    isplitl [R18]; · iexact R18
    isplitl [R19]; · iexact R19
    iexact R20
  iexact Hg

/-- And back. -/
theorem PhiJ0_to (c : Dev nD) : (PhiJ0 c : sProp 𝕄) ⊢ Pipeline.ΦA spec0 c := by
  unfold Pipeline.ΦA PhiJ0 rest0; rw [scopedRest0_eq]; simp only [scM0_0, owns_whole]
  iintro ⟨⟨R0, R1, R2, R3, R4, R5, R6, R7, R8, R9, R10, R11, R12, R13, R14, R15, R16, R17, R18, R19, R20⟩, Hg⟩
  isplitr [Hg]
  · skip
    isplitl [R0]; · iexact R0
    isplitl [R1]; · iexact R1
    isplitl [R2]; · iexact R2
    isplitl [R3]; · iexact R3
    isplitl [R4]; · iexact R4
    isplitl [R5]; · iexact R5
    isplitl [R6]; · iexact R6
    isplitl [R7]; · iexact R7
    isplitl [R8]; · iexact R8
    isplitl [R9]; · iexact R9
    isplitl [R10]; · iexact R10
    isplitl [R11]; · iexact R11
    isplitl [R12]; · iexact R12
    isplitl [R13]; · iexact R13
    isplitl [R14]; · iexact R14
    isplitl [R15]; · iexact R15
    isplitl [R16]; · iexact R16
    isplitl [R17]; · iexact R17
    isplitl [R18]; · iexact R18
    isplitl [R19]; · iexact R19
    iexact R20
  iexact Hg

-- (the run's proof term is large: the definition's epilogue — `abstractNestedProofs` — walks it past the default budget)
set_option maxHeartbeats 1000000 in
/-- What the body's stores leave in each output's staging memref, as pieces (last first) IN CASE A (`scf.if` 0 taken, `scf.if` 1 not taken, `scf.if` 2 not taken: points 0), WITH the
    proof that on whole staging memrefs — the inputs' at their contents, the outputs it leaves idle (1, 2: no store, the window idle and not written back at the case's points) at contents `xi·` handed back untouched, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs  — each `scf.if` decided by the case's hypotheses `hc·`; the pieces are
    the witness that run finds (assigned when `iexact` hands the buffer to the continuation). -/
noncomputable def kernelRun0_A (c : Dev nD) (i : grid0.Coords) (arg1 : Memref sig .tc .vmem S256x3200 .f32) (harg1 : arg1.IsWhole) (arg2 : Memref sig .tc .vmem S1x1 .f32) (harg2 : arg2.IsWhole) (arg3 : Memref sig .tc .vmem S1x1 .f32) (harg3 : arg3.IsWhole) (arg4 : Memref sig .tc .vmem S8x3200 .f32) (harg4 : arg4.IsWhole) (hc0 : cond0_0 i) (hc1 : ¬cond0_1 i) (hc2 : ¬cond0_2 i)
    (x0 : Vec F S256x3200 .f32) :
    Σ' (L1 : List (View.Piece (Elt F) S1x1 .f32)), Σ' (L2 : List (View.Piece (Elt F) S1x1 .f32)), { LS0 : List (View.Piece (Elt F) S8x3200 .f32) //
      ∀ (xi1 : Vec F S1x1 .f32) (xi2 : Vec F S1x1 .f32) (E : Set ℕ) (K : PUnit → sProp 𝕄),
        iprop(owns (c : Thread nD τ) arg1 fullShare x0 ∗ owns (c : Thread nD τ) arg2 fullShare xi1 ∗ owns (c : Thread nD τ) arg3 fullShare xi2 ∗ (∃ d, owns (c : Thread nD τ) arg4 fullShare d)
            ∗ (iprop(owns (c : Thread nD τ) arg1 fullShare x0 ∗ owns (c : Thread nD τ) arg2 fullShare xi1 ∗ owns (c : Thread nD τ) arg3 fullShare xi2 ∗ (∃ f, arg4.view.loc (c : Thread nD τ) ↦[arg4.view.set]{fullShare} arg4.view.writes (Elt F) f LS0)) -∗ K ⟨⟩))
          ⊢ wp frame (wpE (defs₀ (F := F)) Variants.none c none) E (cc0_amax_w i arg1 harg1 arg2 harg2 arg3 harg3 arg4 harg4) K } := by
  refine ⟨[], [], ?_, fun xi1 xi2 E K => ?run⟩
  case run =>
    simp only [cc0_amax_w_eq_skeleton]; unfold cc0_amax_w_skel
    unfold owns
    iintro ⟨⟨%f0, %hf0, H0⟩, ⟨%f1, %hf1, H1⟩, ⟨%f2, %hf2, H2⟩, ⟨%ds0, %fs0, -, HS0⟩, Hk⟩
    obtain rfl := harg1.eq_unread hf0; obtain rfl := harg2.eq_unread hf1; obtain rfl := harg3.eq_unread hf2
    sl_exec (disch := first | sl_exact hc0 | sl_exact hc1 | sl_exact hc2)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    iexists _; iexact HS0

-- (the run's proof term is large: the definition's epilogue — `abstractNestedProofs` — walks it past the default budget)
set_option maxHeartbeats 1000000 in
/-- What the body's stores leave in each output's staging memref, as pieces (last first) IN CASE B (`scf.if` 0 not taken, `scf.if` 1 taken, `scf.if` 2 not taken: points 1, 2, 3, 4, 5, 6), WITH the
    proof that on whole staging memrefs — the inputs' at their contents, the outputs it leaves idle (1, 2: no store, the window idle and not written back at the case's points) at contents `xi·` handed back untouched, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs  — each `scf.if` decided by the case's hypotheses `hc·`; the pieces are
    the witness that run finds (assigned when `iexact` hands the buffer to the continuation). -/
noncomputable def kernelRun0_B (c : Dev nD) (i : grid0.Coords) (arg1 : Memref sig .tc .vmem S256x3200 .f32) (harg1 : arg1.IsWhole) (arg2 : Memref sig .tc .vmem S1x1 .f32) (harg2 : arg2.IsWhole) (arg3 : Memref sig .tc .vmem S1x1 .f32) (harg3 : arg3.IsWhole) (arg4 : Memref sig .tc .vmem S8x3200 .f32) (harg4 : arg4.IsWhole) (hc0 : ¬cond0_0 i) (hc1 : cond0_1 i) (hc2 : ¬cond0_2 i)
    (x0 : Vec F S256x3200 .f32) (xs0 : Vec F S8x3200 .f32) :
    Σ' (L1 : List (View.Piece (Elt F) S1x1 .f32)), Σ' (L2 : List (View.Piece (Elt F) S1x1 .f32)), { LS0 : List (View.Piece (Elt F) S8x3200 .f32) //
      ∀ (xi1 : Vec F S1x1 .f32) (xi2 : Vec F S1x1 .f32) (E : Set ℕ) (K : PUnit → sProp 𝕄),
        iprop(owns (c : Thread nD τ) arg1 fullShare x0 ∗ owns (c : Thread nD τ) arg2 fullShare xi1 ∗ owns (c : Thread nD τ) arg3 fullShare xi2 ∗ owns (c : Thread nD τ) arg4 fullShare xs0
            ∗ (iprop(owns (c : Thread nD τ) arg1 fullShare x0 ∗ owns (c : Thread nD τ) arg2 fullShare xi1 ∗ owns (c : Thread nD τ) arg3 fullShare xi2 ∗ (∃ f, arg4.view.loc (c : Thread nD τ) ↦[arg4.view.set]{fullShare} arg4.view.writes (Elt F) f LS0)) -∗ K ⟨⟩))
          ⊢ wp frame (wpE (defs₀ (F := F)) Variants.none c none) E (cc0_amax_w i arg1 harg1 arg2 harg2 arg3 harg3 arg4 harg4) K } := by
  refine ⟨[], [], ?_, fun xi1 xi2 E K => ?run⟩
  case run =>
    simp only [cc0_amax_w_eq_skeleton]; unfold cc0_amax_w_skel
    unfold owns
    iintro ⟨⟨%f0, %hf0, H0⟩, ⟨%f1, %hf1, H1⟩, ⟨%f2, %hf2, H2⟩, ⟨%fs0, %hfs0, HS0⟩, Hk⟩
    obtain rfl := harg1.eq_unread hf0; obtain rfl := harg2.eq_unread hf1; obtain rfl := harg3.eq_unread hf2; obtain rfl := harg4.eq_unread hfs0
    sl_exec (disch := first | sl_exact hc0 | sl_exact hc1 | sl_exact hc2)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    iexists _; iexact HS0

-- (the run's proof term is large: the definition's epilogue — `abstractNestedProofs` — walks it past the default budget)
set_option maxHeartbeats 1000000 in
/-- What the body's stores leave in each output's staging memref, as pieces (last first) IN CASE C (`scf.if` 0 not taken, `scf.if` 1 taken, `scf.if` 2 taken: points 7), WITH the
    proof that on whole staging memrefs — the inputs' at their contents, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs  — each `scf.if` decided by the case's hypotheses `hc·`; the pieces are
    the witness that run finds (assigned when `iexact` hands the buffer to the continuation). -/
noncomputable def kernelRun0_C (c : Dev nD) (i : grid0.Coords) (arg1 : Memref sig .tc .vmem S256x3200 .f32) (harg1 : arg1.IsWhole) (arg2 : Memref sig .tc .vmem S1x1 .f32) (harg2 : arg2.IsWhole) (arg3 : Memref sig .tc .vmem S1x1 .f32) (harg3 : arg3.IsWhole) (arg4 : Memref sig .tc .vmem S8x3200 .f32) (harg4 : arg4.IsWhole) (hc0 : ¬cond0_0 i) (hc1 : cond0_1 i) (hc2 : cond0_2 i)
    (x0 : Vec F S256x3200 .f32) (xs0 : Vec F S8x3200 .f32) :
    Σ' (L1 : List (View.Piece (Elt F) S1x1 .f32)), Σ' (L2 : List (View.Piece (Elt F) S1x1 .f32)), { LS0 : List (View.Piece (Elt F) S8x3200 .f32) //
      ∀ (E : Set ℕ) (K : PUnit → sProp 𝕄),
        iprop(owns (c : Thread nD τ) arg1 fullShare x0 ∗ (∃ d, owns (c : Thread nD τ) arg2 fullShare d) ∗ (∃ d, owns (c : Thread nD τ) arg3 fullShare d) ∗ owns (c : Thread nD τ) arg4 fullShare xs0
            ∗ (iprop(owns (c : Thread nD τ) arg1 fullShare x0 ∗ (∃ f, arg2.view.loc (c : Thread nD τ) ↦[arg2.view.set]{fullShare} arg2.view.writes (Elt F) f L1) ∗ (∃ f, arg3.view.loc (c : Thread nD τ) ↦[arg3.view.set]{fullShare} arg3.view.writes (Elt F) f L2) ∗ (∃ f, arg4.view.loc (c : Thread nD τ) ↦[arg4.view.set]{fullShare} arg4.view.writes (Elt F) f LS0)) -∗ K ⟨⟩))
          ⊢ wp frame (wpE (defs₀ (F := F)) Variants.none c none) E (cc0_amax_w i arg1 harg1 arg2 harg2 arg3 harg3 arg4 harg4) K } := by
  refine ⟨?_, ?_, ?_, fun E K => ?run⟩
  case run =>
    simp only [cc0_amax_w_eq_skeleton]; unfold cc0_amax_w_skel
    simp only [k0_part1_eq_skeleton]
    unfold owns
    iintro ⟨⟨%f0, %hf0, H0⟩, ⟨%d1, %f1, -, H1⟩, ⟨%d2, %f2, -, H2⟩, ⟨%fs0, %hfs0, HS0⟩, Hk⟩
    obtain rfl := harg1.eq_unread hf0; obtain rfl := harg4.eq_unread hfs0
    sl_exec (disch := first | sl_exact hc0 | sl_exact hc1 | sl_exact hc2)
    sl_step
    iapply Hk
    isplitl [H0]
    · iexists _; isplitr; · ipureintro; exact harg1.read_unread _
      iexact H0
    isplitl [H1]; · iexists _; iexact H1
    isplitl [H2]; · iexists _; iexact H2
    iexists _; iexact HS0

end Cert.Kernel.Hand

end
-- ==== Proof.KAmaxW.lean ====
module

public import proofs.«01_k».proof.Proof.KAmaxWRun

@[expose] public section

set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # What `amax_w` leaves after each point, and its body's obligation -/

-- the TensorCore's buffer contents when the call is entered
variable (V : (c : Dev nD) → (b : Ref sig .tc) → Buf (Elt F) ((c : Thread nD τ).loc b))

/-- Case A stores nothing into output 1 (the window is idle at its points and not written back there):
    no pieces — a placeholder (junk read back) that nothing consults, since at these points the window is neither
    written back nor read at the next point . -/
def out0_A_1 (c : Dev nD) (i : grid0.Coords) (arg1 : Memref sig .tc .vmem S256x3200 .f32) (harg1 : arg1.IsWhole) (arg2 : Memref sig .tc .vmem S1x1 .f32) (harg2 : arg2.IsWhole) (arg3 : Memref sig .tc .vmem S1x1 .f32) (harg3 : arg3.IsWhole) (arg4 : Memref sig .tc .vmem S8x3200 .f32) (harg4 : arg4.IsWhole) (hc0 : cond0_0 i) (hc1 : ¬cond0_1 i) (hc2 : ¬cond0_2 i)
    (x0 : Vec F S256x3200 .f32) : Vec F S1x1 .f32 :=
  VO0_1.read (Elt F) (VO0_1.writes (Elt F) VO0_1.junk (kernelRun0_A c i arg1 harg1 arg2 harg2 arg3 harg3 arg4 harg4 hc0 hc1 hc2 x0).1)

/-- Case A stores nothing into output 2 (the window is idle at its points and not written back there):
    no pieces — a placeholder (junk read back) that nothing consults, since at these points the window is neither
    written back nor read at the next point . -/
def out0_A_2 (c : Dev nD) (i : grid0.Coords) (arg1 : Memref sig .tc .vmem S256x3200 .f32) (harg1 : arg1.IsWhole) (arg2 : Memref sig .tc .vmem S1x1 .f32) (harg2 : arg2.IsWhole) (arg3 : Memref sig .tc .vmem S1x1 .f32) (harg3 : arg3.IsWhole) (arg4 : Memref sig .tc .vmem S8x3200 .f32) (harg4 : arg4.IsWhole) (hc0 : cond0_0 i) (hc1 : ¬cond0_1 i) (hc2 : ¬cond0_2 i)
    (x0 : Vec F S256x3200 .f32) : Vec F S1x1 .f32 :=
  VO0_2.read (Elt F) (VO0_2.writes (Elt F) VO0_2.junk (kernelRun0_A c i arg1 harg1 arg2 harg2 arg3 harg3 arg4 harg4 hc0 hc1 hc2 x0).2.1)

/-- Case A's pieces for scratch `arg4`, which the kernel carries between points, cover it: 1 piece of `S8x3200` tiling it . -/
theorem scover0_A_0 (c : Dev nD) (i : grid0.Coords) (arg1 : Memref sig .tc .vmem S256x3200 .f32) (harg1 : arg1.IsWhole) (arg2 : Memref sig .tc .vmem S1x1 .f32) (harg2 : arg2.IsWhole) (arg3 : Memref sig .tc .vmem S1x1 .f32) (harg3 : arg3.IsWhole) (arg4 : Memref sig .tc .vmem S8x3200 .f32) (harg4 : arg4.IsWhole) (hc0 : cond0_0 i) (hc1 : ¬cond0_1 i) (hc2 : ¬cond0_2 i)
    (x0 : Vec F S256x3200 .f32) (y : S8x3200.Idx) :
    ∃ pc ∈ (kernelRun0_A c i arg1 harg1 arg2 harg2 arg3 harg3 arg4 harg4 hc0 hc1 hc2 x0).2.2.1, y ∈ pc.1.set :=
  View.cover_of_tiledL (kernelRun0_A c i arg1 harg1 arg2 harg2 arg3 harg3 arg4 harg4 hc0 hc1 hc2 x0).2.2.1 S8x3200.size (by sl_kernel_rfl) y

/-- What case A leaves in scratch `arg4`: its pieces read back over junk. -/
def sout0_A_0 (c : Dev nD) (i : grid0.Coords) (arg1 : Memref sig .tc .vmem S256x3200 .f32) (harg1 : arg1.IsWhole) (arg2 : Memref sig .tc .vmem S1x1 .f32) (harg2 : arg2.IsWhole) (arg3 : Memref sig .tc .vmem S1x1 .f32) (harg3 : arg3.IsWhole) (arg4 : Memref sig .tc .vmem S8x3200 .f32) (harg4 : arg4.IsWhole) (hc0 : cond0_0 i) (hc1 : ¬cond0_1 i) (hc2 : ¬cond0_2 i)
    (x0 : Vec F S256x3200 .f32) : Vec F S8x3200 .f32 :=
  VS0_0.read (Elt F) (VS0_0.writes (Elt F) VS0_0.junk (kernelRun0_A c i arg1 harg1 arg2 harg2 arg3 harg3 arg4 harg4 hc0 hc1 hc2 x0).2.2.1)

/-- Case B stores nothing into output 1 (the window is idle at its points and not written back there):
    no pieces — a placeholder (junk read back) that nothing consults, since at these points the window is neither
    written back nor read at the next point . -/
def out0_B_1 (c : Dev nD) (i : grid0.Coords) (arg1 : Memref sig .tc .vmem S256x3200 .f32) (harg1 : arg1.IsWhole) (arg2 : Memref sig .tc .vmem S1x1 .f32) (harg2 : arg2.IsWhole) (arg3 : Memref sig .tc .vmem S1x1 .f32) (harg3 : arg3.IsWhole) (arg4 : Memref sig .tc .vmem S8x3200 .f32) (harg4 : arg4.IsWhole) (hc0 : ¬cond0_0 i) (hc1 : cond0_1 i) (hc2 : ¬cond0_2 i)
    (x0 : Vec F S256x3200 .f32) (xs0 : Vec F S8x3200 .f32) : Vec F S1x1 .f32 :=
  VO0_1.read (Elt F) (VO0_1.writes (Elt F) VO0_1.junk (kernelRun0_B c i arg1 harg1 arg2 harg2 arg3 harg3 arg4 harg4 hc0 hc1 hc2 x0 xs0).1)

/-- Case B stores nothing into output 2 (the window is idle at its points and not written back there):
    no pieces — a placeholder (junk read back) that nothing consults, since at these points the window is neither
    written back nor read at the next point . -/
def out0_B_2 (c : Dev nD) (i : grid0.Coords) (arg1 : Memref sig .tc .vmem S256x3200 .f32) (harg1 : arg1.IsWhole) (arg2 : Memref sig .tc .vmem S1x1 .f32) (harg2 : arg2.IsWhole) (arg3 : Memref sig .tc .vmem S1x1 .f32) (harg3 : arg3.IsWhole) (arg4 : Memref sig .tc .vmem S8x3200 .f32) (harg4 : arg4.IsWhole) (hc0 : ¬cond0_0 i) (hc1 : cond0_1 i) (hc2 : ¬cond0_2 i)
    (x0 : Vec F S256x3200 .f32) (xs0 : Vec F S8x3200 .f32) : Vec F S1x1 .f32 :=
  VO0_2.read (Elt F) (VO0_2.writes (Elt F) VO0_2.junk (kernelRun0_B c i arg1 harg1 arg2 harg2 arg3 harg3 arg4 harg4 hc0 hc1 hc2 x0 xs0).2.1)

/-- Case B's pieces for scratch `arg4`, which the kernel carries between points, cover it: 1 piece of `S8x3200` tiling it . -/
theorem scover0_B_0 (c : Dev nD) (i : grid0.Coords) (arg1 : Memref sig .tc .vmem S256x3200 .f32) (harg1 : arg1.IsWhole) (arg2 : Memref sig .tc .vmem S1x1 .f32) (harg2 : arg2.IsWhole) (arg3 : Memref sig .tc .vmem S1x1 .f32) (harg3 : arg3.IsWhole) (arg4 : Memref sig .tc .vmem S8x3200 .f32) (harg4 : arg4.IsWhole) (hc0 : ¬cond0_0 i) (hc1 : cond0_1 i) (hc2 : ¬cond0_2 i)
    (x0 : Vec F S256x3200 .f32) (xs0 : Vec F S8x3200 .f32) (y : S8x3200.Idx) :
    ∃ pc ∈ (kernelRun0_B c i arg1 harg1 arg2 harg2 arg3 harg3 arg4 harg4 hc0 hc1 hc2 x0 xs0).2.2.1, y ∈ pc.1.set :=
  View.cover_of_tiledL (kernelRun0_B c i arg1 harg1 arg2 harg2 arg3 harg3 arg4 harg4 hc0 hc1 hc2 x0 xs0).2.2.1 S8x3200.size (by sl_kernel_rfl) y

/-- What case B leaves in scratch `arg4`: its pieces read back over junk. -/
def sout0_B_0 (c : Dev nD) (i : grid0.Coords) (arg1 : Memref sig .tc .vmem S256x3200 .f32) (harg1 : arg1.IsWhole) (arg2 : Memref sig .tc .vmem S1x1 .f32) (harg2 : arg2.IsWhole) (arg3 : Memref sig .tc .vmem S1x1 .f32) (harg3 : arg3.IsWhole) (arg4 : Memref sig .tc .vmem S8x3200 .f32) (harg4 : arg4.IsWhole) (hc0 : ¬cond0_0 i) (hc1 : cond0_1 i) (hc2 : ¬cond0_2 i)
    (x0 : Vec F S256x3200 .f32) (xs0 : Vec F S8x3200 .f32) : Vec F S8x3200 .f32 :=
  VS0_0.read (Elt F) (VS0_0.writes (Elt F) VS0_0.junk (kernelRun0_B c i arg1 harg1 arg2 harg2 arg3 harg3 arg4 harg4 hc0 hc1 hc2 x0 xs0).2.2.1)

/-- Case C's pieces for output 1 tile its block (1 store of `S1x1`, checked by the kernel's evaluation: Lib/Ring.lean `Piece.tiledL`, linear in the pieces, through a loop's `@[irreducible]` trip theorem too), so they cover it. -/
theorem cover0_C_1 (c : Dev nD) (i : grid0.Coords) (arg1 : Memref sig .tc .vmem S256x3200 .f32) (harg1 : arg1.IsWhole) (arg2 : Memref sig .tc .vmem S1x1 .f32) (harg2 : arg2.IsWhole) (arg3 : Memref sig .tc .vmem S1x1 .f32) (harg3 : arg3.IsWhole) (arg4 : Memref sig .tc .vmem S8x3200 .f32) (harg4 : arg4.IsWhole) (hc0 : ¬cond0_0 i) (hc1 : cond0_1 i) (hc2 : cond0_2 i)
    (x0 : Vec F S256x3200 .f32) (xs0 : Vec F S8x3200 .f32) (y : S1x1.Idx) :
    ∃ pc ∈ (kernelRun0_C c i arg1 harg1 arg2 harg2 arg3 harg3 arg4 harg4 hc0 hc1 hc2 x0 xs0).1, y ∈ pc.1.set :=
  View.cover_of_tiledL (kernelRun0_C c i arg1 harg1 arg2 harg2 arg3 harg3 arg4 harg4 hc0 hc1 hc2 x0 xs0).1 S1x1.size (by sl_kernel_rfl) y

/-- What case C leaves in output 1's staging buffer: its pieces read back over junk. -/
def out0_C_1 (c : Dev nD) (i : grid0.Coords) (arg1 : Memref sig .tc .vmem S256x3200 .f32) (harg1 : arg1.IsWhole) (arg2 : Memref sig .tc .vmem S1x1 .f32) (harg2 : arg2.IsWhole) (arg3 : Memref sig .tc .vmem S1x1 .f32) (harg3 : arg3.IsWhole) (arg4 : Memref sig .tc .vmem S8x3200 .f32) (harg4 : arg4.IsWhole) (hc0 : ¬cond0_0 i) (hc1 : cond0_1 i) (hc2 : cond0_2 i)
    (x0 : Vec F S256x3200 .f32) (xs0 : Vec F S8x3200 .f32) : Vec F S1x1 .f32 :=
  VO0_1.read (Elt F) (VO0_1.writes (Elt F) VO0_1.junk (kernelRun0_C c i arg1 harg1 arg2 harg2 arg3 harg3 arg4 harg4 hc0 hc1 hc2 x0 xs0).1)

/-- Case C's pieces for output 2 tile its block (1 store of `S1x1`, checked by the kernel's evaluation: Lib/Ring.lean `Piece.tiledL`, linear in the pieces, through a loop's `@[irreducible]` trip theorem too), so they cover it. -/
theorem cover0_C_2 (c : Dev nD) (i : grid0.Coords) (arg1 : Memref sig .tc .vmem S256x3200 .f32) (harg1 : arg1.IsWhole) (arg2 : Memref sig .tc .vmem S1x1 .f32) (harg2 : arg2.IsWhole) (arg3 : Memref sig .tc .vmem S1x1 .f32) (harg3 : arg3.IsWhole) (arg4 : Memref sig .tc .vmem S8x3200 .f32) (harg4 : arg4.IsWhole) (hc0 : ¬cond0_0 i) (hc1 : cond0_1 i) (hc2 : cond0_2 i)
    (x0 : Vec F S256x3200 .f32) (xs0 : Vec F S8x3200 .f32) (y : S1x1.Idx) :
    ∃ pc ∈ (kernelRun0_C c i arg1 harg1 arg2 harg2 arg3 harg3 arg4 harg4 hc0 hc1 hc2 x0 xs0).2.1, y ∈ pc.1.set :=
  View.cover_of_tiledL (kernelRun0_C c i arg1 harg1 arg2 harg2 arg3 harg3 arg4 harg4 hc0 hc1 hc2 x0 xs0).2.1 S1x1.size (by sl_kernel_rfl) y

/-- What case C leaves in output 2's staging buffer: its pieces read back over junk. -/
def out0_C_2 (c : Dev nD) (i : grid0.Coords) (arg1 : Memref sig .tc .vmem S256x3200 .f32) (harg1 : arg1.IsWhole) (arg2 : Memref sig .tc .vmem S1x1 .f32) (harg2 : arg2.IsWhole) (arg3 : Memref sig .tc .vmem S1x1 .f32) (harg3 : arg3.IsWhole) (arg4 : Memref sig .tc .vmem S8x3200 .f32) (harg4 : arg4.IsWhole) (hc0 : ¬cond0_0 i) (hc1 : cond0_1 i) (hc2 : cond0_2 i)
    (x0 : Vec F S256x3200 .f32) (xs0 : Vec F S8x3200 .f32) : Vec F S1x1 .f32 :=
  VO0_2.read (Elt F) (VO0_2.writes (Elt F) VO0_2.junk (kernelRun0_C c i arg1 harg1 arg2 harg2 arg3 harg3 arg4 harg4 hc0 hc1 hc2 x0 xs0).2.1)

/-- Case C's pieces for scratch `arg4`, which the kernel carries between points, cover it: 1 piece of `S8x3200` tiling it . -/
theorem scover0_C_0 (c : Dev nD) (i : grid0.Coords) (arg1 : Memref sig .tc .vmem S256x3200 .f32) (harg1 : arg1.IsWhole) (arg2 : Memref sig .tc .vmem S1x1 .f32) (harg2 : arg2.IsWhole) (arg3 : Memref sig .tc .vmem S1x1 .f32) (harg3 : arg3.IsWhole) (arg4 : Memref sig .tc .vmem S8x3200 .f32) (harg4 : arg4.IsWhole) (hc0 : ¬cond0_0 i) (hc1 : cond0_1 i) (hc2 : cond0_2 i)
    (x0 : Vec F S256x3200 .f32) (xs0 : Vec F S8x3200 .f32) (y : S8x3200.Idx) :
    ∃ pc ∈ (kernelRun0_C c i arg1 harg1 arg2 harg2 arg3 harg3 arg4 harg4 hc0 hc1 hc2 x0 xs0).2.2.1, y ∈ pc.1.set :=
  View.cover_of_tiledL (kernelRun0_C c i arg1 harg1 arg2 harg2 arg3 harg3 arg4 harg4 hc0 hc1 hc2 x0 xs0).2.2.1 S8x3200.size (by sl_kernel_rfl) y

/-- What case C leaves in scratch `arg4`: its pieces read back over junk. -/
def sout0_C_0 (c : Dev nD) (i : grid0.Coords) (arg1 : Memref sig .tc .vmem S256x3200 .f32) (harg1 : arg1.IsWhole) (arg2 : Memref sig .tc .vmem S1x1 .f32) (harg2 : arg2.IsWhole) (arg3 : Memref sig .tc .vmem S1x1 .f32) (harg3 : arg3.IsWhole) (arg4 : Memref sig .tc .vmem S8x3200 .f32) (harg4 : arg4.IsWhole) (hc0 : ¬cond0_0 i) (hc1 : cond0_1 i) (hc2 : cond0_2 i)
    (x0 : Vec F S256x3200 .f32) (xs0 : Vec F S8x3200 .f32) : Vec F S8x3200 .f32 :=
  VS0_0.read (Elt F) (VS0_0.writes (Elt F) VS0_0.junk (kernelRun0_C c i arg1 harg1 arg2 harg2 arg3 harg3 arg4 harg4 hc0 hc1 hc2 x0 xs0).2.2.1)

/-! ## What the outputs hold after each point -/

/-- THE ACCUMULATION. What the outputs' staging buffers and the scratch the kernel carries between points hold after the body at position `n` (a tuple: the outputs in window order, then the scratch):
    the case the closed forms select at `n`, run at the point's memrefs and input blocks, an output it reads before covering
    at what this leaves at `n - 1` (its buffer is not written back between: `before0_W_κ`). An assignment of the conditions no point meets is no case (`False.elim`). -/
def outsAt0 (c : Dev nD) : (n : ℕ) → n < cfg0.N → Vec F S1x1 .f32 × Vec F S1x1 .f32 × Vec F S8x3200 .f32
  | 0, hn => (out0_A_1 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) scM0_0 (Memref.isWhole_whole _) ((hcond0_0 ⟨0, hn⟩).mpr (Nat.zero_mod _)) (fun h => (fun h => by (try dsimp only at h); omega) ((hcond0_1 ⟨0, hn⟩).mp h)) (fun h => (fun h => by (try dsimp only at h); omega) ((hcond0_2 ⟨0, hn⟩).mp h)) (iblk0 V c 0 ⟨0, hn⟩), out0_A_2 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) scM0_0 (Memref.isWhole_whole _) ((hcond0_0 ⟨0, hn⟩).mpr (Nat.zero_mod _)) (fun h => (fun h => by (try dsimp only at h); omega) ((hcond0_1 ⟨0, hn⟩).mp h)) (fun h => (fun h => by (try dsimp only at h); omega) ((hcond0_2 ⟨0, hn⟩).mp h)) (iblk0 V c 0 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) scM0_0 (Memref.isWhole_whole _) ((hcond0_0 ⟨0, hn⟩).mpr (Nat.zero_mod _)) (fun h => (fun h => by (try dsimp only at h); omega) ((hcond0_1 ⟨0, hn⟩).mp h)) (fun h => (fun h => by (try dsimp only at h); omega) ((hcond0_2 ⟨0, hn⟩).mp h)) (iblk0 V c 0 ⟨0, hn⟩))
  | n + 1, hn =>
    if h0 : (n + 1) % 8 = 0 then
      if h1 : 1 ≤ (n + 1) then
        False.elim (by have hN : n + 1 < 8 := lt_of_lt_of_eq hn (show cfg0.N = 8 from N_0); omega)
      else
        if h2 : (n + 1) % 8 = 7 then
          False.elim (by have hN : n + 1 < 8 := lt_of_lt_of_eq hn (show cfg0.N = 8 from N_0); omega)
        else
          (out0_A_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) ((hcond0_0 ⟨n + 1, hn⟩).mpr h0) (fun h => h1 ((hcond0_1 ⟨n + 1, hn⟩).mp h)) (fun h => h2 ((hcond0_2 ⟨n + 1, hn⟩).mp h)) (iblk0 V c 0 ⟨n + 1, hn⟩), out0_A_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) ((hcond0_0 ⟨n + 1, hn⟩).mpr h0) (fun h => h1 ((hcond0_1 ⟨n + 1, hn⟩).mp h)) (fun h => h2 ((hcond0_2 ⟨n + 1, hn⟩).mp h)) (iblk0 V c 0 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) ((hcond0_0 ⟨n + 1, hn⟩).mpr h0) (fun h => h1 ((hcond0_1 ⟨n + 1, hn⟩).mp h)) (fun h => h2 ((hcond0_2 ⟨n + 1, hn⟩).mp h)) (iblk0 V c 0 ⟨n + 1, hn⟩))
    else
      if h1 : 1 ≤ (n + 1) then
        if h2 : (n + 1) % 8 = 7 then
          (out0_C_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (fun h => h0 ((hcond0_0 ⟨n + 1, hn⟩).mp h)) ((hcond0_1 ⟨n + 1, hn⟩).mpr h1) ((hcond0_2 ⟨n + 1, hn⟩).mpr h2) (iblk0 V c 0 ⟨n + 1, hn⟩) (outsAt0 c n (Nat.lt_of_succ_lt hn)).2.2, out0_C_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (fun h => h0 ((hcond0_0 ⟨n + 1, hn⟩).mp h)) ((hcond0_1 ⟨n + 1, hn⟩).mpr h1) ((hcond0_2 ⟨n + 1, hn⟩).mpr h2) (iblk0 V c 0 ⟨n + 1, hn⟩) (outsAt0 c n (Nat.lt_of_succ_lt hn)).2.2, sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (fun h => h0 ((hcond0_0 ⟨n + 1, hn⟩).mp h)) ((hcond0_1 ⟨n + 1, hn⟩).mpr h1) ((hcond0_2 ⟨n + 1, hn⟩).mpr h2) (iblk0 V c 0 ⟨n + 1, hn⟩) (outsAt0 c n (Nat.lt_of_succ_lt hn)).2.2)
        else
          (out0_B_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (fun h => h0 ((hcond0_0 ⟨n + 1, hn⟩).mp h)) ((hcond0_1 ⟨n + 1, hn⟩).mpr h1) (fun h => h2 ((hcond0_2 ⟨n + 1, hn⟩).mp h)) (iblk0 V c 0 ⟨n + 1, hn⟩) (outsAt0 c n (Nat.lt_of_succ_lt hn)).2.2, out0_B_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (fun h => h0 ((hcond0_0 ⟨n + 1, hn⟩).mp h)) ((hcond0_1 ⟨n + 1, hn⟩).mpr h1) (fun h => h2 ((hcond0_2 ⟨n + 1, hn⟩).mp h)) (iblk0 V c 0 ⟨n + 1, hn⟩) (outsAt0 c n (Nat.lt_of_succ_lt hn)).2.2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (fun h => h0 ((hcond0_0 ⟨n + 1, hn⟩).mp h)) ((hcond0_1 ⟨n + 1, hn⟩).mpr h1) (fun h => h2 ((hcond0_2 ⟨n + 1, hn⟩).mp h)) (iblk0 V c 0 ⟨n + 1, hn⟩) (outsAt0 c n (Nat.lt_of_succ_lt hn)).2.2)
      else
        False.elim (by have hN : n + 1 < 8 := lt_of_lt_of_eq hn (show cfg0.N = 8 from N_0); omega)

/-- `outsAt0` at a point of case A: that case's contents. -/
theorem outsAt0_A (c : Dev nD) (t : Fin cfg0.N) (h0 : t.val % 8 = 0) (h1 : ¬1 ≤ t.val) (h2 : ¬t.val % 8 = 7) :
    outsAt0 V c t.val t.isLt = (out0_A_1 c (grid0.coords t) (ms0_0 t) (hs0_0 t) (ms0_1 t) (hs0_1 t) (ms0_2 t) (hs0_2 t) scM0_0 (Memref.isWhole_whole _) ((hcond0_0 t).mpr h0) (fun h => h1 ((hcond0_1 t).mp h)) (fun h => h2 ((hcond0_2 t).mp h)) (iblk0 V c 0 t), out0_A_2 c (grid0.coords t) (ms0_0 t) (hs0_0 t) (ms0_1 t) (hs0_1 t) (ms0_2 t) (hs0_2 t) scM0_0 (Memref.isWhole_whole _) ((hcond0_0 t).mpr h0) (fun h => h1 ((hcond0_1 t).mp h)) (fun h => h2 ((hcond0_2 t).mp h)) (iblk0 V c 0 t), sout0_A_0 c (grid0.coords t) (ms0_0 t) (hs0_0 t) (ms0_1 t) (hs0_1 t) (ms0_2 t) (hs0_2 t) scM0_0 (Memref.isWhole_whole _) ((hcond0_0 t).mpr h0) (fun h => h1 ((hcond0_1 t).mp h)) (fun h => h2 ((hcond0_2 t).mp h)) (iblk0 V c 0 t)) := by
  obtain ⟨n, hn⟩ := t
  cases n with
  | zero => exact rfl
  | succ n => exact (dif_pos h0).trans ((dif_neg h1).trans ((dif_neg h2).trans rfl))

/-- `outsAt0` at a point of case B: that case's contents, over what the point before left. -/
theorem outsAt0_B (c : Dev nD) (t : Fin cfg0.N) (h0 : ¬t.val % 8 = 0) (h1 : 1 ≤ t.val) (h2 : ¬t.val % 8 = 7) :
    outsAt0 V c t.val t.isLt = (out0_B_1 c (grid0.coords t) (ms0_0 t) (hs0_0 t) (ms0_1 t) (hs0_1 t) (ms0_2 t) (hs0_2 t) scM0_0 (Memref.isWhole_whole _) (fun h => h0 ((hcond0_0 t).mp h)) ((hcond0_1 t).mpr h1) (fun h => h2 ((hcond0_2 t).mp h)) (iblk0 V c 0 t) (outsAt0 V c (t.val - 1) (Nat.lt_of_le_of_lt (Nat.sub_le _ _) t.isLt)).2.2, out0_B_2 c (grid0.coords t) (ms0_0 t) (hs0_0 t) (ms0_1 t) (hs0_1 t) (ms0_2 t) (hs0_2 t) scM0_0 (Memref.isWhole_whole _) (fun h => h0 ((hcond0_0 t).mp h)) ((hcond0_1 t).mpr h1) (fun h => h2 ((hcond0_2 t).mp h)) (iblk0 V c 0 t) (outsAt0 V c (t.val - 1) (Nat.lt_of_le_of_lt (Nat.sub_le _ _) t.isLt)).2.2, sout0_B_0 c (grid0.coords t) (ms0_0 t) (hs0_0 t) (ms0_1 t) (hs0_1 t) (ms0_2 t) (hs0_2 t) scM0_0 (Memref.isWhole_whole _) (fun h => h0 ((hcond0_0 t).mp h)) ((hcond0_1 t).mpr h1) (fun h => h2 ((hcond0_2 t).mp h)) (iblk0 V c 0 t) (outsAt0 V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_pos h1).trans ((dif_neg h2).trans rfl))

/-- `outsAt0` at a point of case C: that case's contents, over what the point before left. -/
theorem outsAt0_C (c : Dev nD) (t : Fin cfg0.N) (h0 : ¬t.val % 8 = 0) (h1 : 1 ≤ t.val) (h2 : t.val % 8 = 7) :
    outsAt0 V c t.val t.isLt = (out0_C_1 c (grid0.coords t) (ms0_0 t) (hs0_0 t) (ms0_1 t) (hs0_1 t) (ms0_2 t) (hs0_2 t) scM0_0 (Memref.isWhole_whole _) (fun h => h0 ((hcond0_0 t).mp h)) ((hcond0_1 t).mpr h1) ((hcond0_2 t).mpr h2) (iblk0 V c 0 t) (outsAt0 V c (t.val - 1) (Nat.lt_of_le_of_lt (Nat.sub_le _ _) t.isLt)).2.2, out0_C_2 c (grid0.coords t) (ms0_0 t) (hs0_0 t) (ms0_1 t) (hs0_1 t) (ms0_2 t) (hs0_2 t) scM0_0 (Memref.isWhole_whole _) (fun h => h0 ((hcond0_0 t).mp h)) ((hcond0_1 t).mpr h1) ((hcond0_2 t).mpr h2) (iblk0 V c 0 t) (outsAt0 V c (t.val - 1) (Nat.lt_of_le_of_lt (Nat.sub_le _ _) t.isLt)).2.2, sout0_C_0 c (grid0.coords t) (ms0_0 t) (hs0_0 t) (ms0_1 t) (hs0_1 t) (ms0_2 t) (hs0_2 t) scM0_0 (Memref.isWhole_whole _) (fun h => h0 ((hcond0_0 t).mp h)) ((hcond0_1 t).mpr h1) ((hcond0_2 t).mpr h2) (iblk0 V c 0 t) (outsAt0 V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_pos h1).trans ((dif_pos h2).trans rfl))

/-- The region invariant before position `n` with a scratch the kernel CARRIES between points: before the first point the
    class's ; afterwards the scoped rest with each carried scratch
    at what the point before left in it (`outsAt0`'s scratch components), the others at anything, and the generator register
    at some state. -/
def PhiS0 (c : Dev nD) : (n : ℕ) → n ≤ cfg0.N → sProp 𝕄
  | 0, _ => PhiJ0 c
  | n + 1, hn => iprop(iprop(owns (c : Thread nD τ) scM0_0 fullShare ((outsAt0 V c n hn).2.2) ∗ rest0 c) ∗ (∃ r, prngReg c r))

theorem PhiS0_zero (c : Dev nD) (n : ℕ) (h : n ≤ cfg0.N) (hz : n = 0) : PhiS0 V c n h = PhiJ0 c := by
  subst hz; rfl

/-- After point `n` (before point `n + 1`): the carried scratch at that point's contents. -/
theorem PhiS0_succ (c : Dev nD) (n : ℕ) (hn : n < cfg0.N) :
    PhiS0 V c (n + 1) hn = iprop(iprop(owns (c : Thread nD τ) scM0_0 fullShare ((outsAt0 V c n hn).2.2) ∗ rest0 c) ∗ (∃ r, prngReg c r)) := rfl

/-- Before a point that is not the first: the carried scratch at what the point before left. -/
theorem PhiS0_pos (c : Dev nD) (n : ℕ) (h : n ≤ cfg0.N) (hz : n ≠ 0) :
    PhiS0 V c n h = iprop(iprop(owns (c : Thread nD τ) scM0_0 fullShare ((outsAt0 V c (n - 1) (by omega)).2.2) ∗ rest0 c) ∗ (∃ r, prngReg c r)) := by
  cases n with
  | zero => exact absurd rfl hz
  | succ n => rfl

/-! ## The pipeline's proof data -/

/-- The proof data of the one pipeline on core `c`: the arrays as the region finds them (`V`); after the body at
    point `t` each input's buffer at its block and the outputs' at `outsAt0`; the invariant the class's
    (`PhiS0`: the class's `ΦA` before the first point, then the scoped rest with the carried scratch at `outsAt0`'s component);
    nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => (outsAt0 V c t.val t.isLt).1
    | ⟨2, _⟩ => (outsAt0 V c t.val t.isLt).2.1
  Φ t := PhiS0 V c t.val (Nat.le_of_lt_succ t.isLt)
  q _ := fullShare
  owed _ := 0

/-- The proof data's arrays are the region-entry contents: the proof data's definition projected (`dsimp`), so that
    `V` — a fold over @main's host prefix, long for some programs — is never unfolded to check it. -/
theorem A_eq0 (c : Dev nD) (w : Fin cfg0.W) : (dat0 V c).A w = V c (Pipeline.arrRef spec0 w) := by
  dsimp only [dat0]

/-- The invariant at a point's start (the proof data at `t.castSucc`), restated at `t.val`. -/
theorem PhiS0_castSucc (c : Dev nD) (t : Fin cfg0.N) :
    (dat0 V c).Φ t.castSucc = PhiS0 V c t.val (Nat.le_of_lt t.isLt) := by
  dsimp only [dat0]; exact Pipeline.Dat.Φ_castSucc (PhiS0 V c) t

/-- What the body leaves, window by window (the proof data's `match` reduced by `dsimp`). -/
theorem after0_0 (c : Dev nD) (t : Fin cfg0.N) : (dat0 V c).after 0 t = iblk0 V c 0 t := by dsimp only [dat0]
theorem after0_1 (c : Dev nD) (t : Fin cfg0.N) : (dat0 V c).after 1 t = (outsAt0 V c t.val t.isLt).1 := by dsimp only [dat0]
theorem after0_2 (c : Dev nD) (t : Fin cfg0.N) : (dat0 V c).after 2 t = (outsAt0 V c t.val t.isLt).2.1 := by dsimp only [dat0]

/-- Each input's current staging buffer holds its block at every point, fetched there or not (`beforeK_W_of`). -/
theorem before0_0 (c : Dev nD) (t : Fin cfg0.N) (d) : (dat0 V c).before 0 t d = iblk0 V c 0 t :=
  before0_0_of V (dat0 V c) (A_eq0 V c 0) (after0_0 V c) t d

/-! ## The body obligation, at a generic point -/

/-- What the body is called with at point `t` , -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t)

set_option maxHeartbeats 4800000 in
/-- The body at any point: the inputs' memrefs hold their blocks (`before0_W`); the closed forms say which case the point is in (`by_cases`), an output the case reads before covering holds what the point before left (`before0_W_κ`); so the
    run applies; the invariant hands the body the carried scratch at what the point before left (`PhiS0_pos`; at anything at the first point, `PhiS0_zero`), the other scratch buffers and the generator register at some state, and takes the carried scratch back at this point's contents (`PhiS0_succ`, by `scoverK_κ_N`); the core owes nothing throughout. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).owesAt () t.succ = (dat0 V c).owesAt () t.castSucc from rfl]
  rw [show (dat0 V c).Φ t.succ = PhiS0 V c (t.val + 1) t.isLt from rfl, PhiS0_succ]
  have hN : t.val < 8 := lt_of_lt_of_eq t.isLt (show cfg0.N = 8 from N_0)
  by_cases h0 : t.val % 8 = 0
  · by_cases h1 : 1 ≤ t.val
    · exfalso; omega
    · by_cases h2 : t.val % 8 = 7
      · exfalso; omega
      · rw [show (dat0 V c).leavesExact 0 t = owns (c : Thread nD τ) (ms0_0 t) fullShare ((dat0 V c).after 0 t) from by
      unfold Dat.leavesExact; rw [liveAt0_0 t], after0_0]
        rw [Dat.leavesExact_idle (dat0 V c) 1 t (idleAt0_1_A t ((hcond0_0 t).mpr h0) (fun h => h1 ((hcond0_1 t).mp h)) (fun h => h2 ((hcond0_2 t).mp h))) (noFlush0_1_A t ((hcond0_0 t).mpr h0) (fun h => h1 ((hcond0_1 t).mp h)) (fun h => h2 ((hcond0_2 t).mp h)))]
        rw [Dat.leavesExact_idle (dat0 V c) 2 t (idleAt0_2_A t ((hcond0_0 t).mpr h0) (fun h => h1 ((hcond0_1 t).mp h)) (fun h => h2 ((hcond0_2 t).mp h))) (noFlush0_2_A t ((hcond0_0 t).mpr h0) (fun h => h1 ((hcond0_1 t).mp h)) (fun h => h2 ((hcond0_2 t).mp h)))]
        by_cases hz : t.val = 0
        · rw [PhiS0_castSucc V c t, PhiS0_zero V c _ _ hz, PhiJ0]
          rw [outsAt0_A V c t h0 h1 h2]
          unfold sout0_A_0; (try dsimp only)
          iintro ⟨⟨⟨HS0, HR⟩, Hg⟩, Ho, ⟨%d0, H0⟩, ⟨%d1, H1⟩, ⟨%d2, H2⟩⟩
          iapply ((kernelRun0_A c (grid0.coords t) _ _ _ _ _ _ _ _ ((hcond0_0 t).mpr h0) (fun h => h1 ((hcond0_1 t).mp h)) (fun h => h2 ((hcond0_2 t).mp h)) (iblk0 V c 0 t)).2.2.2 _ _ Set.univ _)
          isplitl [H0]; · iexact H0
          isplitl [H1]; · iexact H1
          isplitl [H2]; · iexact H2
          isplitl [HS0]; · iexact HS0
          iintro ⟨H0, H1, H2, ⟨%es0, HS0⟩⟩
          isplitl [HS0 HR Hg]
          · isplitl [HS0 HR]
            · isplitl [HS0]
              · unfold owns; iexists _; isplitr
                swap; · iexact HS0
                ipureintro; exact View.read_writes_of_cover _ _ _ _ _ (scover0_A_0 c _ _ _ _ _ _ _ _ _ _ _ _ _)
              iexact HR
            iexact Hg
          isplitl [Ho]; · iexact Ho
          isplitl [H0]; · iexact H0
          isplitl [H1]; · iexists _; iexact H1
          iexists _; iexact H2
        · exfalso; have hN : t.val < 8 := lt_of_lt_of_eq t.isLt (show cfg0.N = 8 from N_0); omega
  · by_cases h1 : 1 ≤ t.val
    · by_cases h2 : t.val % 8 = 7
      · rw [show (dat0 V c).leavesExact 0 t = owns (c : Thread nD τ) (ms0_0 t) fullShare ((dat0 V c).after 0 t) from by
      unfold Dat.leavesExact; rw [liveAt0_0 t], after0_0]
        rw [show (dat0 V c).leavesExact 1 t = owns (c : Thread nD τ) (ms0_1 t) fullShare ((dat0 V c).after 1 t) from by
      unfold Dat.leavesExact; rw [liveAt0_1_C t (fun h => h0 ((hcond0_0 t).mp h)) ((hcond0_1 t).mpr h1) ((hcond0_2 t).mpr h2)], after0_1]
        rw [show (dat0 V c).leavesExact 2 t = owns (c : Thread nD τ) (ms0_2 t) fullShare ((dat0 V c).after 2 t) from by
      unfold Dat.leavesExact; rw [liveAt0_2_C t (fun h => h0 ((hcond0_0 t).mp h)) ((hcond0_1 t).mpr h1) ((hcond0_2 t).mpr h2)], after0_2]
        by_cases hz : t.val = 0
        · exfalso; have hN : t.val < 8 := lt_of_lt_of_eq t.isLt (show cfg0.N = 8 from N_0); omega
        · rw [PhiS0_castSucc V c t, PhiS0_pos V c _ _ hz]
          rw [outsAt0_C V c t h0 h1 h2]
          unfold out0_C_1 out0_C_2 sout0_C_0; (try dsimp only)
          iintro ⟨⟨⟨HS0, HR⟩, Hg⟩, Ho, ⟨%d0, H0⟩, ⟨%d1, H1⟩, ⟨%d2, H2⟩⟩
          iapply ((kernelRun0_C c (grid0.coords t) _ _ _ _ _ _ _ _ (fun h => h0 ((hcond0_0 t).mp h)) ((hcond0_1 t).mpr h1) ((hcond0_2 t).mpr h2) (iblk0 V c 0 t) _).2.2.2 Set.univ _)
          isplitl [H0]; · iexact H0
          isplitl [H1]; · iexists _; iexact H1
          isplitl [H2]; · iexists _; iexact H2
          isplitl [HS0]; · iexact HS0
          iintro ⟨H0, ⟨%e1, H1⟩, ⟨%e2, H2⟩, ⟨%es0, HS0⟩⟩
          isplitl [HS0 HR Hg]
          · isplitl [HS0 HR]
            · isplitl [HS0]
              · unfold owns; iexists _; isplitr
                swap; · iexact HS0
                ipureintro; exact View.read_writes_of_cover _ _ _ _ _ (scover0_C_0 c _ _ _ _ _ _ _ _ _ _ _ _ _ _)
              iexact HR
            iexact Hg
          isplitl [Ho]; · iexact Ho
          isplitl [H0]; · iexact H0
          isplitl [H1]
          · unfold owns; iexists _; isplitr
            swap; · iexact H1
            ipureintro; exact View.read_writes_of_cover _ _ _ _ _ (cover0_C_1 c _ _ _ _ _ _ _ _ _ _ _ _ _ _)
          unfold owns; iexists _; isplitr
          swap; · iexact H2
          ipureintro; exact View.read_writes_of_cover _ _ _ _ _ (cover0_C_2 c _ _ _ _ _ _ _ _ _ _ _ _ _ _)
      · rw [show (dat0 V c).leavesExact 0 t = owns (c : Thread nD τ) (ms0_0 t) fullShare ((dat0 V c).after 0 t) from by
      unfold Dat.leavesExact; rw [liveAt0_0 t], after0_0]
        rw [Dat.leavesExact_idle (dat0 V c) 1 t (idleAt0_1_B t (fun h => h0 ((hcond0_0 t).mp h)) ((hcond0_1 t).mpr h1) (fun h => h2 ((hcond0_2 t).mp h))) (noFlush0_1_B t (fun h => h0 ((hcond0_0 t).mp h)) ((hcond0_1 t).mpr h1) (fun h => h2 ((hcond0_2 t).mp h)))]
        rw [Dat.leavesExact_idle (dat0 V c) 2 t (idleAt0_2_B t (fun h => h0 ((hcond0_0 t).mp h)) ((hcond0_1 t).mpr h1) (fun h => h2 ((hcond0_2 t).mp h))) (noFlush0_2_B t (fun h => h0 ((hcond0_0 t).mp h)) ((hcond0_1 t).mpr h1) (fun h => h2 ((hcond0_2 t).mp h)))]
        by_cases hz : t.val = 0
        · exfalso; have hN : t.val < 8 := lt_of_lt_of_eq t.isLt (show cfg0.N = 8 from N_0); omega
        · rw [PhiS0_castSucc V c t, PhiS0_pos V c _ _ hz]
          rw [outsAt0_B V c t h0 h1 h2]
          unfold sout0_B_0; (try dsimp only)
          iintro ⟨⟨⟨HS0, HR⟩, Hg⟩, Ho, ⟨%d0, H0⟩, ⟨%d1, H1⟩, ⟨%d2, H2⟩⟩
          iapply ((kernelRun0_B c (grid0.coords t) _ _ _ _ _ _ _ _ (fun h => h0 ((hcond0_0 t).mp h)) ((hcond0_1 t).mpr h1) (fun h => h2 ((hcond0_2 t).mp h)) (iblk0 V c 0 t) _).2.2.2 _ _ Set.univ _)
          isplitl [H0]; · iexact H0
          isplitl [H1]; · iexact H1
          isplitl [H2]; · iexact H2
          isplitl [HS0]; · iexact HS0
          iintro ⟨H0, H1, H2, ⟨%es0, HS0⟩⟩
          isplitl [HS0 HR Hg]
          · isplitl [HS0 HR]
            · isplitl [HS0]
              · unfold owns; iexists _; isplitr
                swap; · iexact HS0
                ipureintro; exact View.read_writes_of_cover _ _ _ _ _ (scover0_B_0 c _ _ _ _ _ _ _ _ _ _ _ _ _ _)
              iexact HR
            iexact Hg
          isplitl [Ho]; · iexact Ho
          isplitl [H0]; · iexact H0
          isplitl [H1]; · iexists _; iexact H1
          iexists _; iexact H2
    · exfalso; omega

/-- The body table's row at point `t`'s slots is the body as `bodyAt0` spells it. -/
theorem defs₀_row0 (t : Fin cfg0.N) :
    defs₀ (F := F) .tc cfg0.body (cfg0.bodyArgs t (cfg0.slots t)) = bodyAt0 t := by
  unfold defs₀; rw [Defs.onTc_tc]

/-- The library's body obligation, at every point: the body's triple restated . -/
theorem body_obligation0 (c : Dev nD) : BodyObligation (dat0 (F := F) V c) (defs₀ (F := F)) Variants.none () Set.univ := fun t => by
  rw [bigSep_W0, bigSep_W0, defs₀_row0]
  exact triple_restated (sound_body0 V c t) rfl .rfl fun _ => .rfl

/-- Before the first point the invariant is `PhiJ0`. -/
theorem hin0 (c : Dev nD) : (PhiJ0 c : sProp 𝕄) ⊢ (dat0 V c).Φ 0 := by
  rw [show (dat0 V c).Φ 0 = PhiS0 V c 0 (Nat.zero_le _) from rfl, PhiS0_zero V c 0 _ rfl]

/-- After the last point the scratch's named contents are forgotten. -/
theorem hout0 (c : Dev nD) : (dat0 V c).Φ (Fin.last cfg0.N) ⊢ (PhiJ0 c : sProp 𝕄) := by
  rw [show (dat0 V c).Φ (Fin.last cfg0.N) = PhiS0 V c cfg0.N (le_refl _) from rfl,
    PhiS0_pos V c _ _ (by have : cfg0.N = 8 := N_0; omega)]
  unfold PhiJ0
  iintro ⟨⟨HS0, HR⟩, Hg⟩
  isplitl [HS0 HR]
  · isplitl [HS0]
    · iexists _; iexact HS0
    iexact HR
  iexact Hg

end Cert.Kernel.Hand

end
-- ==== Proof.KQuantW.lean ====
module

public import proofs.«01_k».proof.Proof.Gen.Kernel.Launch
public import proofs.«01_k».proof.Proof.Gen.Kernel.Skeleton
public import proofs.«01_k».proof.Proof.Gen.Kernel.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

@[expose] public section

set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the call is entered
variable (V : (c : Dev nD) → (b : Ref sig .tc) → Buf (Elt F) ((c : Thread nD τ).loc b))

/-! # REGION 1 of @main: custom_call 1, `cc1_quant_w` (pipeline 1), at the entry contents `V` -/

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses -/

abbrev r1_0 : Rect S256x3200 := Rect.unit (s := S256x3200) ![0, 0] S256x3200.size inb_S256x3200_S256x3200_0_0
abbrev r1_1 : Rect S1x1 := Rect.unit (s := S1x1) ![0, 0] S1x1.size inb_S1x1_S1x1_0_0

/-! ## What the body leaves in each output window's buffer -/

/-- Window 2's staging buffer after the body, from the input windows' blocks: its 1 store as pieces, LAST
    FIRST . -/
def out1_2 (x0 : Vec F S1x1 .f32) (x1 : Vec F S256x3200 .f32) : Vec F S256x3200 .fp8e4m3 :=
  View.canon [⟨r1_0, k1_pay1 (View.ld x1 r1_0) (View.ld x0 r1_1)⟩]

/-- Its stores tile the buffer (checked by evaluation), so they cover it. -/
theorem cover1_2 (p0 : Vec F S256x3200 .fp8e4m3) (y : S256x3200.Idx) :
    ∃ pc ∈ ([⟨r1_0, p0⟩] : List (View.Piece (Elt F) S256x3200 .fp8e4m3)), y ∈ pc.1.set :=
  View.cover_of_tiled [⟨r1_0, p0⟩] S256x3200.size (by rfl) y

/-! ## The body's triple -/

set_option maxHeartbeats 1000000 in
/-- The kernel body on whole staging memrefs, the inputs' at read contents `xW` and the outputs' at anything, runs to
    the continuation holding the inputs' as they were and each output's at `out1_W` of the inputs': the printed functions
    are their skeletons (`Gen.*_eq_skeleton`), which `sl_exec` runs , through every part call. -/
theorem sound_kernel1 (c : Dev nD) (E : Set ℕ) (i : grid1.Coords) (arg1 : Memref sig .tc .vmem S1x1 .f32) (harg1 : arg1.IsWhole) (arg2 : Memref sig .tc .vmem S256x3200 .f32) (harg2 : arg2.IsWhole) (arg3 : Memref sig .tc .vmem S256x3200 .fp8e4m3) (harg3 : arg3.IsWhole)
    (x0 : Vec F S1x1 .f32) (x1 : Vec F S256x3200 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out1_2 x0 x1)) -∗ K ⟨⟩))
      ⊢ wp frame (wpE (defs₀ (F := F)) Variants.none c none) E (cc1_quant_w i arg1 harg1 arg2 harg2 arg3 harg3) K := by
  simp only [cc1_quant_w_eq_skeleton]; unfold cc1_quant_w_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover1_2 _)

/-! ## The pipeline's proof data -/

/-- The proof data of pipeline 1 on core `c`: the arrays as the region finds them (`V`); after the body at
    point `t` each input's buffer at its block and each output's at `out1_W` of the input blocks; the invariant the
    class's ; nothing owed;
    full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1_2 (iblk1 V c 0 t) (iblk1 V c 1 t)
  Φ _ := Pipeline.ΦA spec1 c
  q _ := fullShare
  owed _ := 0

/-- The proof data's arrays are the region-entry contents, by projecting the definition (`dsimp`): a region record cites
    this for its arrays rather than have Lean unfold `V`, the fold through @main up to the region's entry. -/
theorem A_eq1 (c : Dev nD) (w : Fin cfg1.W) : (dat1 V c).A w = V c (Pipeline.arrRef spec1 w) := by
  dsimp only [dat1]

/-- What the body leaves, window by window (the proof data's `match` reduced by `dsimp`, never `rfl`: Lib/Pipeline.lean `Dat`). -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = out1_2 (iblk1 V c 0 t) (iblk1 V c 1 t) := by dsimp only [dat1]

/-- Each input's current staging buffer holds its block at every point, fetched there or not (`beforeK_W_of`). -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-! ## The body obligation, at a generic point -/

/-- What the body is called with at point `t` , -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

/-- The body at any point: the inputs' memrefs hold their blocks (`before1_W`), so `sound_kernel1` applies; the invariant and
    the core's `owes` pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (sound_kernel1 c Set.univ (grid1.coords t) _ _ _ _ _ _ (iblk1 V c 0 t) (iblk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body table's row at point `t`'s slots is the body as `bodyAt1` spells it. -/
theorem defs₀_row1 (t : Fin cfg1.N) :
    defs₀ (F := F) .tc cfg1.body (cfg1.bodyArgs t (cfg1.slots t)) = bodyAt1 t := by
  unfold defs₀; rw [Defs.onTc_tc]

/-- The library's body obligation, at every point: the body's triple restated . -/
theorem body_obligation1 (c : Dev nD) : BodyObligation (dat1 (F := F) V c) (defs₀ (F := F)) Variants.none () Set.univ := fun t => by
  rw [bigSep_W1, bigSep_W1, defs₀_row1]
  exact triple_restated (sound_body1 V c t) rfl .rfl fun _ => .rfl

end Cert.Kernel.Hand

end
-- ==== Proof.KAmaxDyRun.lean ====
module

public import proofs.«01_k».proof.Proof.Gen.Kernel.Launch
public import proofs.«01_k».proof.Proof.Gen.Kernel.Skeleton
public import proofs.«01_k».proof.Proof.Gen.Kernel.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

@[expose] public section

set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # What `amax_dy`'s body does at the first point (case A), at a middle point (B) and at the last (C) -/

-- the TensorCore's buffer contents when the call is entered
variable (V : (c : Dev nD) → (b : Ref sig .tc) → Buf (Elt F) ((c : Thread nD τ).loc b))

/-! ## The windows' blocks -/

/-- Window `w`'s block at point `t`, read off its array as the region finds it (`V`). -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-! ## The body's branch conditions -/

/-- The condition of the body's `scf.if` 0 (`k2_h1`), from the grid coordinates (the skeleton's scalar
    chain substituted). -/
abbrev cond2_0 (i : grid2.Coords) : Prop := (Scalar.cmpi .ne (Scalar.extui (Scalar.cmpi .eq (BitVec.ofNat 32 (i 0).val) 0#32)) 0#32) = 1#1
/-- It holds at the first point only — by arithmetic of the point. -/
theorem hcond2_0 : ∀ t : Fin cfg2.N, cond2_0 (grid2.coords t) ↔ t.val % 16 = 0 :=
  (fun t => by
    have ht : t.val < 16 := Nat.lt_of_lt_of_eq t.isLt N_2
    have e0 : (grid2.coords t 0).val = t.val / 1 % 16 := Pipeline.Grid.coords_val t 0 (by decide) rfl
    simp only [cond2_0, e0]
    word_cmp
   : ∀ t : Fin grid2.N, cond2_0 (grid2.coords t) ↔ t.val % 16 = 0)

/-- The condition of the body's `scf.if` 1 (`k2_h2`), from the grid coordinates (the skeleton's scalar
    chain substituted). -/
abbrev cond2_1 (i : grid2.Coords) : Prop := (Scalar.cmpi .ne (Scalar.extui (Scalar.cmpi .sgt (BitVec.ofNat 32 (i 0).val) 0#32)) 0#32) = 1#1
/-- It holds at the points from point 1 on — decided over the grid. -/
theorem hcond2_1 : ∀ t : Fin cfg2.N, cond2_1 (grid2.coords t) ↔ 1 ≤ t.val :=
  (by decide +kernel : ∀ t : Fin grid2.N, cond2_1 (grid2.coords t) ↔ 1 ≤ t.val)

/-- The condition of the body's `scf.if` 2 (`k2_h3`), from the grid coordinates (the skeleton's scalar
    chain substituted). -/
abbrev cond2_2 (i : grid2.Coords) : Prop := k2_cond3 i = 1#1
/-- It holds at the last point only — by arithmetic of the point. -/
theorem hcond2_2 : ∀ t : Fin cfg2.N, cond2_2 (grid2.coords t) ↔ t.val % 16 = 15 :=
  (fun t => by
    have ht : t.val < 16 := Nat.lt_of_lt_of_eq t.isLt N_2
    have e0 : (grid2.coords t 0).val = t.val / 1 % 16 := Pipeline.Grid.coords_val t 0 (by decide) rfl
    simp only [cond2_2, k2_cond3, e0]
    word_cmp
   : ∀ t : Fin grid2.N, cond2_2 (grid2.coords t) ↔ t.val % 16 = 15)

/-! ## Where the windows are idle (the printed configuration's table `Cfg.idle`) -/

/-- Window 0 is never idle (an input). -/
theorem liveAt2_0 : ∀ t : Fin cfg2.N, cfg2.idle 0 (grid2.coords t) = false := fun _ => rfl
/-- At the points of case A the printed configuration (`Cfg.idle`) calls output 1 idle: the case stores nothing into it. -/
theorem idleAt2_1_A : ∀ t : Fin cfg2.N, cond2_0 (grid2.coords t) → ¬cond2_1 (grid2.coords t) → ¬cond2_2 (grid2.coords t) → cfg2.idle 1 (grid2.coords t) = true := by decide +kernel
/-- At the points of case A the pipeline does not write output 1's block back. -/
theorem noFlush2_1_A : ∀ t : Fin cfg2.N, cond2_0 (grid2.coords t) → ¬cond2_1 (grid2.coords t) → ¬cond2_2 (grid2.coords t) → (cfg2.win 1).flush t = false := by decide +kernel
/-- At the points of case B the printed configuration (`Cfg.idle`) calls output 1 idle: the case stores nothing into it. -/
theorem idleAt2_1_B : ∀ t : Fin cfg2.N, ¬cond2_0 (grid2.coords t) → cond2_1 (grid2.coords t) → ¬cond2_2 (grid2.coords t) → cfg2.idle 1 (grid2.coords t) = true := by decide +kernel
/-- At the points of case B the pipeline does not write output 1's block back. -/
theorem noFlush2_1_B : ∀ t : Fin cfg2.N, ¬cond2_0 (grid2.coords t) → cond2_1 (grid2.coords t) → ¬cond2_2 (grid2.coords t) → (cfg2.win 1).flush t = false := by decide +kernel
/-- At the points of case C the printed configuration (`Cfg.idle`) calls output 1 live: the case stores into it. -/
theorem liveAt2_1_C : ∀ t : Fin cfg2.N, ¬cond2_0 (grid2.coords t) → cond2_1 (grid2.coords t) → cond2_2 (grid2.coords t) → cfg2.idle 1 (grid2.coords t) = false := by decide +kernel
/-- At the points of case A the printed configuration (`Cfg.idle`) calls output 2 idle: the case stores nothing into it. -/
theorem idleAt2_2_A : ∀ t : Fin cfg2.N, cond2_0 (grid2.coords t) → ¬cond2_1 (grid2.coords t) → ¬cond2_2 (grid2.coords t) → cfg2.idle 2 (grid2.coords t) = true := by decide +kernel
/-- At the points of case A the pipeline does not write output 2's block back. -/
theorem noFlush2_2_A : ∀ t : Fin cfg2.N, cond2_0 (grid2.coords t) → ¬cond2_1 (grid2.coords t) → ¬cond2_2 (grid2.coords t) → (cfg2.win 2).flush t = false := by decide +kernel
/-- At the points of case B the printed configuration (`Cfg.idle`) calls output 2 idle: the case stores nothing into it. -/
theorem idleAt2_2_B : ∀ t : Fin cfg2.N, ¬cond2_0 (grid2.coords t) → cond2_1 (grid2.coords t) → ¬cond2_2 (grid2.coords t) → cfg2.idle 2 (grid2.coords t) = true := by decide +kernel
/-- At the points of case B the pipeline does not write output 2's block back. -/
theorem noFlush2_2_B : ∀ t : Fin cfg2.N, ¬cond2_0 (grid2.coords t) → cond2_1 (grid2.coords t) → ¬cond2_2 (grid2.coords t) → (cfg2.win 2).flush t = false := by decide +kernel
/-- At the points of case C the printed configuration (`Cfg.idle`) calls output 2 live: the case stores into it. -/
theorem liveAt2_2_C : ∀ t : Fin cfg2.N, ¬cond2_0 (grid2.coords t) → cond2_1 (grid2.coords t) → cond2_2 (grid2.coords t) → cfg2.idle 2 (grid2.coords t) = false := by decide +kernel

/-! ## The kernel body on any staging memrefs: a subtype the run finds -/

/-- One staging buffer of output window 1, through which its contents are stated (`View.read_writes_of_cover`: the
    choice does not matter). -/
abbrev VO2_1 : View sig .tc .vmem S1x1 .f32 := (Memref.whole cc2_stg1_0 : Memref sig .tc .vmem S1x1 .f32).view
/-- One staging buffer of output window 2, through which its contents are stated (`View.read_writes_of_cover`: the
    choice does not matter). -/
abbrev VO2_2 : View sig .tc .vmem S1x1 .f32 := (Memref.whole cc2_stg2_0 : Memref sig .tc .vmem S1x1 .f32).view
/-- Each window's current staging memref at point `t`, spelled as the pipeline passes it (`bodyAt2`), and its wholeness. -/
abbrev ms2_0 (t : Fin cfg2.N) : Memref sig .tc .vmem S1024x3200 .bf16 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S1x1 .f32 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S1x1 .f32 := win2_2.stage (cfg2.slots t 2)
abbrev hs2_2 (t : Fin cfg2.N) : (ms2_2 t).IsWhole := hstage2_2 ((cfg2.slots t 2).cast nbuf2_2)
/-- The scratch operands: whole scoped buffers of the kernel's own, passed beside the windows. -/
abbrev scM2_0 : Memref sig .tc .vmem S16x3200 .bf16 := Memref.whole cc2_scratch0
/-- The scratch `arg4` the kernel carries between points, as a view: what it holds is stated through it. -/
abbrev VS2_0 : View sig .tc .vmem S16x3200 .bf16 := scM2_0.view

/-- The scoped buffers of the other calls: this call carries them along untouched. -/
def rest2 (c : Dev nD) : sProp 𝕄 := iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_scratch0), ((c : Thread nD τ).loc cc0_scratch0) ↦{fullShare} f) ∗ (∃ f : Buf (Elt F) ((c : Thread nD τ).loc cc1_stg0_0), ((c : Thread nD τ).loc cc1_stg0_0) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc3_stg0_0), ((c : Thread nD τ).loc cc3_stg0_0) ↦{fullShare} f) ∗ (∃ f : Buf (Elt F) ((c : Thread nD τ).loc cc3_stg1_0), ((c : Thread nD τ).loc cc3_stg1_0) ↦{fullShare} f) ∗ (∃ f : Buf (Elt F) ((c : Thread nD τ).loc cc3_stg2_0), ((c : Thread nD τ).loc cc3_stg2_0) ↦{fullShare} f) ∗ (∃ f : Buf (Elt F) ((c : Thread nD τ).loc cc3_stg3_0), ((c : Thread nD τ).loc cc3_stg3_0) ↦{fullShare} f) ∗ (∃ f : Buf (Elt F) ((c : Thread nD τ).loc cc3_stg3_1), ((c : Thread nD τ).loc cc3_stg3_1) ↦{fullShare} f) ∗ (∃ f : Buf (Elt F) ((c : Thread nD τ).loc cc3_stg4_0), ((c : Thread nD τ).loc cc3_stg4_0) ↦{fullShare} f) ∗ (∃ f : Buf (Elt F) ((c : Thread nD τ).loc cc3_stg5_0), ((c : Thread nD τ).loc cc3_stg5_0) ↦{fullShare} f) ∗ (∃ f : Buf (Elt F) ((c : Thread nD τ).loc cc3_stg5_1), ((c : Thread nD τ).loc cc3_stg5_1) ↦{fullShare} f) ∗ (∃ f : Buf (Elt F) ((c : Thread nD τ).loc cc3_stg6_0), ((c : Thread nD τ).loc cc3_stg6_0) ↦{fullShare} f) ∗ (∃ f : Buf (Elt F) ((c : Thread nD τ).loc cc3_stg6_1), ((c : Thread nD τ).loc cc3_stg6_1) ↦{fullShare} f))

/-- Before the first point: the scratch at anything, the other calls' scoped buffers, and the generator register. -/
def PhiJ2 (c : Dev nD) : sProp 𝕄 :=
  iprop(iprop((∃ d, owns (c : Thread nD τ) scM2_0 fullShare d) ∗ rest2 c) ∗ (∃ r, prngReg c r))

/-- What the launch hands the call gives the invariant before the first point. -/
theorem PhiJ2_of (c : Dev nD) : (Pipeline.ΦA spec2 c : sProp 𝕄) ⊢ PhiJ2 c := by
  unfold Pipeline.ΦA PhiJ2 rest2; rw [scopedRest2_eq]; simp only [scM2_0, owns_whole]
  iintro ⟨⟨R0, R1, R2, R3, R4, R5, R6, R7, R8, R9, R10, R11, R12, R13, R14, R15, R16, R17, R18, R19, R20⟩, Hg⟩
  isplitr [Hg]
  · isplitl [R10]; · iexact R10
    isplitl [R0]; · iexact R0
    isplitl [R1]; · iexact R1
    isplitl [R2]; · iexact R2
    isplitl [R3]; · iexact R3
    isplitl [R4]; · iexact R4
    isplitl [R5]; · iexact R5
    isplitl [R6]; · iexact R6
    isplitl [R7]; · iexact R7
    isplitl [R8]; · iexact R8
    isplitl [R9]; · iexact R9
    isplitl [R11]; · iexact R11
    isplitl [R12]; · iexact R12
    isplitl [R13]; · iexact R13
    isplitl [R14]; · iexact R14
    isplitl [R15]; · iexact R15
    isplitl [R16]; · iexact R16
    isplitl [R17]; · iexact R17
    isplitl [R18]; · iexact R18
    isplitl [R19]; · iexact R19
    iexact R20
  iexact Hg

/-- And back. -/
theorem PhiJ2_to (c : Dev nD) : (PhiJ2 c : sProp 𝕄) ⊢ Pipeline.ΦA spec2 c := by
  unfold Pipeline.ΦA PhiJ2 rest2; rw [scopedRest2_eq]; simp only [scM2_0, owns_whole]
  iintro ⟨⟨R10, R0, R1, R2, R3, R4, R5, R6, R7, R8, R9, R11, R12, R13, R14, R15, R16, R17, R18, R19, R20⟩, Hg⟩
  isplitr [Hg]
  · skip
    isplitl [R0]; · iexact R0
    isplitl [R1]; · iexact R1
    isplitl [R2]; · iexact R2
    isplitl [R3]; · iexact R3
    isplitl [R4]; · iexact R4
    isplitl [R5]; · iexact R5
    isplitl [R6]; · iexact R6
    isplitl [R7]; · iexact R7
    isplitl [R8]; · iexact R8
    isplitl [R9]; · iexact R9
    isplitl [R10]; · iexact R10
    isplitl [R11]; · iexact R11
    isplitl [R12]; · iexact R12
    isplitl [R13]; · iexact R13
    isplitl [R14]; · iexact R14
    isplitl [R15]; · iexact R15
    isplitl [R16]; · iexact R16
    isplitl [R17]; · iexact R17
    isplitl [R18]; · iexact R18
    isplitl [R19]; · iexact R19
    iexact R20
  iexact Hg

-- (the run's proof term is large: the definition's epilogue — `abstractNestedProofs` — walks it past the default budget)
set_option maxHeartbeats 1000000 in
/-- What the body's stores leave in each output's staging memref, as pieces (last first) IN CASE A (`scf.if` 0 taken, `scf.if` 1 not taken, `scf.if` 2 not taken: points 0), WITH the
    proof that on whole staging memrefs — the inputs' at their contents, the outputs it leaves idle (1, 2: no store, the window idle and not written back at the case's points) at contents `xi·` handed back untouched, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs  — each `scf.if` decided by the case's hypotheses `hc·`; the pieces are
    the witness that run finds (assigned when `iexact` hands the buffer to the continuation). -/
noncomputable def kernelRun2_A (c : Dev nD) (i : grid2.Coords) (arg1 : Memref sig .tc .vmem S1024x3200 .bf16) (harg1 : arg1.IsWhole) (arg2 : Memref sig .tc .vmem S1x1 .f32) (harg2 : arg2.IsWhole) (arg3 : Memref sig .tc .vmem S1x1 .f32) (harg3 : arg3.IsWhole) (arg4 : Memref sig .tc .vmem S16x3200 .bf16) (harg4 : arg4.IsWhole) (hc0 : cond2_0 i) (hc1 : ¬cond2_1 i) (hc2 : ¬cond2_2 i)
    (x0 : Vec F S1024x3200 .bf16) :
    Σ' (L1 : List (View.Piece (Elt F) S1x1 .f32)), Σ' (L2 : List (View.Piece (Elt F) S1x1 .f32)), { LS0 : List (View.Piece (Elt F) S16x3200 .bf16) //
      ∀ (xi1 : Vec F S1x1 .f32) (xi2 : Vec F S1x1 .f32) (E : Set ℕ) (K : PUnit → sProp 𝕄),
        iprop(owns (c : Thread nD τ) arg1 fullShare x0 ∗ owns (c : Thread nD τ) arg2 fullShare xi1 ∗ owns (c : Thread nD τ) arg3 fullShare xi2 ∗ (∃ d, owns (c : Thread nD τ) arg4 fullShare d)
            ∗ (iprop(owns (c : Thread nD τ) arg1 fullShare x0 ∗ owns (c : Thread nD τ) arg2 fullShare xi1 ∗ owns (c : Thread nD τ) arg3 fullShare xi2 ∗ (∃ f, arg4.view.loc (c : Thread nD τ) ↦[arg4.view.set]{fullShare} arg4.view.writes (Elt F) f LS0)) -∗ K ⟨⟩))
          ⊢ wp frame (wpE (defs₀ (F := F)) Variants.none c none) E (cc2_amax_dy i arg1 harg1 arg2 harg2 arg3 harg3 arg4 harg4) K } := by
  refine ⟨[], [], ?_, fun xi1 xi2 E K => ?run⟩
  case run =>
    simp only [cc2_amax_dy_eq_skeleton]; unfold cc2_amax_dy_skel
    unfold owns
    iintro ⟨⟨%f0, %hf0, H0⟩, ⟨%f1, %hf1, H1⟩, ⟨%f2, %hf2, H2⟩, ⟨%ds0, %fs0, -, HS0⟩, Hk⟩
    obtain rfl := harg1.eq_unread hf0; obtain rfl := harg2.eq_unread hf1; obtain rfl := harg3.eq_unread hf2
    sl_exec (disch := first | sl_exact hc0 | sl_exact hc1 | sl_exact hc2)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    iexists _; iexact HS0

-- (the run's proof term is large: the definition's epilogue — `abstractNestedProofs` — walks it past the default budget)
set_option maxHeartbeats 1000000 in
/-- What the body's stores leave in each output's staging memref, as pieces (last first) IN CASE B (`scf.if` 0 not taken, `scf.if` 1 taken, `scf.if` 2 not taken: points 1, 2, … 14: 14 of 16), WITH the
    proof that on whole staging memrefs — the inputs' at their contents, the outputs it leaves idle (1, 2: no store, the window idle and not written back at the case's points) at contents `xi·` handed back untouched, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs  — each `scf.if` decided by the case's hypotheses `hc·`; the pieces are
    the witness that run finds (assigned when `iexact` hands the buffer to the continuation). -/
noncomputable def kernelRun2_B (c : Dev nD) (i : grid2.Coords) (arg1 : Memref sig .tc .vmem S1024x3200 .bf16) (harg1 : arg1.IsWhole) (arg2 : Memref sig .tc .vmem S1x1 .f32) (harg2 : arg2.IsWhole) (arg3 : Memref sig .tc .vmem S1x1 .f32) (harg3 : arg3.IsWhole) (arg4 : Memref sig .tc .vmem S16x3200 .bf16) (harg4 : arg4.IsWhole) (hc0 : ¬cond2_0 i) (hc1 : cond2_1 i) (hc2 : ¬cond2_2 i)
    (x0 : Vec F S1024x3200 .bf16) (xs0 : Vec F S16x3200 .bf16) :
    Σ' (L1 : List (View.Piece (Elt F) S1x1 .f32)), Σ' (L2 : List (View.Piece (Elt F) S1x1 .f32)), { LS0 : List (View.Piece (Elt F) S16x3200 .bf16) //
      ∀ (xi1 : Vec F S1x1 .f32) (xi2 : Vec F S1x1 .f32) (E : Set ℕ) (K : PUnit → sProp 𝕄),
        iprop(owns (c : Thread nD τ) arg1 fullShare x0 ∗ owns (c : Thread nD τ) arg2 fullShare xi1 ∗ owns (c : Thread nD τ) arg3 fullShare xi2 ∗ owns (c : Thread nD τ) arg4 fullShare xs0
            ∗ (iprop(owns (c : Thread nD τ) arg1 fullShare x0 ∗ owns (c : Thread nD τ) arg2 fullShare xi1 ∗ owns (c : Thread nD τ) arg3 fullShare xi2 ∗ (∃ f, arg4.view.loc (c : Thread nD τ) ↦[arg4.view.set]{fullShare} arg4.view.writes (Elt F) f LS0)) -∗ K ⟨⟩))
          ⊢ wp frame (wpE (defs₀ (F := F)) Variants.none c none) E (cc2_amax_dy i arg1 harg1 arg2 harg2 arg3 harg3 arg4 harg4) K } := by
  refine ⟨[], [], ?_, fun xi1 xi2 E K => ?run⟩
  case run =>
    simp only [cc2_amax_dy_eq_skeleton]; unfold cc2_amax_dy_skel
    unfold owns
    iintro ⟨⟨%f0, %hf0, H0⟩, ⟨%f1, %hf1, H1⟩, ⟨%f2, %hf2, H2⟩, ⟨%fs0, %hfs0, HS0⟩, Hk⟩
    obtain rfl := harg1.eq_unread hf0; obtain rfl := harg2.eq_unread hf1; obtain rfl := harg3.eq_unread hf2; obtain rfl := harg4.eq_unread hfs0
    sl_exec (disch := first | sl_exact hc0 | sl_exact hc1 | sl_exact hc2)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    iexists _; iexact HS0

-- (the run's proof term is large: the definition's epilogue — `abstractNestedProofs` — walks it past the default budget)
set_option maxHeartbeats 1000000 in
/-- What the body's stores leave in each output's staging memref, as pieces (last first) IN CASE C (`scf.if` 0 not taken, `scf.if` 1 taken, `scf.if` 2 taken: points 15), WITH the
    proof that on whole staging memrefs — the inputs' at their contents, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs  — each `scf.if` decided by the case's hypotheses `hc·`; the pieces are
    the witness that run finds (assigned when `iexact` hands the buffer to the continuation). -/
noncomputable def kernelRun2_C (c : Dev nD) (i : grid2.Coords) (arg1 : Memref sig .tc .vmem S1024x3200 .bf16) (harg1 : arg1.IsWhole) (arg2 : Memref sig .tc .vmem S1x1 .f32) (harg2 : arg2.IsWhole) (arg3 : Memref sig .tc .vmem S1x1 .f32) (harg3 : arg3.IsWhole) (arg4 : Memref sig .tc .vmem S16x3200 .bf16) (harg4 : arg4.IsWhole) (hc0 : ¬cond2_0 i) (hc1 : cond2_1 i) (hc2 : cond2_2 i)
    (x0 : Vec F S1024x3200 .bf16) (xs0 : Vec F S16x3200 .bf16) :
    Σ' (L1 : List (View.Piece (Elt F) S1x1 .f32)), Σ' (L2 : List (View.Piece (Elt F) S1x1 .f32)), { LS0 : List (View.Piece (Elt F) S16x3200 .bf16) //
      ∀ (E : Set ℕ) (K : PUnit → sProp 𝕄),
        iprop(owns (c : Thread nD τ) arg1 fullShare x0 ∗ (∃ d, owns (c : Thread nD τ) arg2 fullShare d) ∗ (∃ d, owns (c : Thread nD τ) arg3 fullShare d) ∗ owns (c : Thread nD τ) arg4 fullShare xs0
            ∗ (iprop(owns (c : Thread nD τ) arg1 fullShare x0 ∗ (∃ f, arg2.view.loc (c : Thread nD τ) ↦[arg2.view.set]{fullShare} arg2.view.writes (Elt F) f L1) ∗ (∃ f, arg3.view.loc (c : Thread nD τ) ↦[arg3.view.set]{fullShare} arg3.view.writes (Elt F) f L2) ∗ (∃ f, arg4.view.loc (c : Thread nD τ) ↦[arg4.view.set]{fullShare} arg4.view.writes (Elt F) f LS0)) -∗ K ⟨⟩))
          ⊢ wp frame (wpE (defs₀ (F := F)) Variants.none c none) E (cc2_amax_dy i arg1 harg1 arg2 harg2 arg3 harg3 arg4 harg4) K } := by
  refine ⟨?_, ?_, ?_, fun E K => ?run⟩
  case run =>
    simp only [cc2_amax_dy_eq_skeleton]; unfold cc2_amax_dy_skel
    simp only [k2_part1_eq_skeleton]
    unfold owns
    iintro ⟨⟨%f0, %hf0, H0⟩, ⟨%d1, %f1, -, H1⟩, ⟨%d2, %f2, -, H2⟩, ⟨%fs0, %hfs0, HS0⟩, Hk⟩
    obtain rfl := harg1.eq_unread hf0; obtain rfl := harg4.eq_unread hfs0
    sl_exec (disch := first | sl_exact hc0 | sl_exact hc1 | sl_exact hc2)
    sl_step
    iapply Hk
    isplitl [H0]
    · iexists _; isplitr; · ipureintro; exact harg1.read_unread _
      iexact H0
    isplitl [H1]; · iexists _; iexact H1
    isplitl [H2]; · iexists _; iexact H2
    iexists _; iexact HS0

end Cert.Kernel.Hand

end
-- ==== Proof.KAmaxDy.lean ====
module

public import proofs.«01_k».proof.Proof.KAmaxDyRun

@[expose] public section

set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # What `amax_dy` leaves after each point, and its body's obligation -/

-- the TensorCore's buffer contents when the call is entered
variable (V : (c : Dev nD) → (b : Ref sig .tc) → Buf (Elt F) ((c : Thread nD τ).loc b))

/-- Case A stores nothing into output 1 (the window is idle at its points and not written back there):
    no pieces — a placeholder (junk read back) that nothing consults, since at these points the window is neither
    written back nor read at the next point . -/
def out2_A_1 (c : Dev nD) (i : grid2.Coords) (arg1 : Memref sig .tc .vmem S1024x3200 .bf16) (harg1 : arg1.IsWhole) (arg2 : Memref sig .tc .vmem S1x1 .f32) (harg2 : arg2.IsWhole) (arg3 : Memref sig .tc .vmem S1x1 .f32) (harg3 : arg3.IsWhole) (arg4 : Memref sig .tc .vmem S16x3200 .bf16) (harg4 : arg4.IsWhole) (hc0 : cond2_0 i) (hc1 : ¬cond2_1 i) (hc2 : ¬cond2_2 i)
    (x0 : Vec F S1024x3200 .bf16) : Vec F S1x1 .f32 :=
  VO2_1.read (Elt F) (VO2_1.writes (Elt F) VO2_1.junk (kernelRun2_A c i arg1 harg1 arg2 harg2 arg3 harg3 arg4 harg4 hc0 hc1 hc2 x0).1)

/-- Case A stores nothing into output 2 (the window is idle at its points and not written back there):
    no pieces — a placeholder (junk read back) that nothing consults, since at these points the window is neither
    written back nor read at the next point . -/
def out2_A_2 (c : Dev nD) (i : grid2.Coords) (arg1 : Memref sig .tc .vmem S1024x3200 .bf16) (harg1 : arg1.IsWhole) (arg2 : Memref sig .tc .vmem S1x1 .f32) (harg2 : arg2.IsWhole) (arg3 : Memref sig .tc .vmem S1x1 .f32) (harg3 : arg3.IsWhole) (arg4 : Memref sig .tc .vmem S16x3200 .bf16) (harg4 : arg4.IsWhole) (hc0 : cond2_0 i) (hc1 : ¬cond2_1 i) (hc2 : ¬cond2_2 i)
    (x0 : Vec F S1024x3200 .bf16) : Vec F S1x1 .f32 :=
  VO2_2.read (Elt F) (VO2_2.writes (Elt F) VO2_2.junk (kernelRun2_A c i arg1 harg1 arg2 harg2 arg3 harg3 arg4 harg4 hc0 hc1 hc2 x0).2.1)

/-- Case A's pieces for scratch `arg4`, which the kernel carries between points, cover it: 1 piece of `S16x3200` tiling it . -/
theorem scover2_A_0 (c : Dev nD) (i : grid2.Coords) (arg1 : Memref sig .tc .vmem S1024x3200 .bf16) (harg1 : arg1.IsWhole) (arg2 : Memref sig .tc .vmem S1x1 .f32) (harg2 : arg2.IsWhole) (arg3 : Memref sig .tc .vmem S1x1 .f32) (harg3 : arg3.IsWhole) (arg4 : Memref sig .tc .vmem S16x3200 .bf16) (harg4 : arg4.IsWhole) (hc0 : cond2_0 i) (hc1 : ¬cond2_1 i) (hc2 : ¬cond2_2 i)
    (x0 : Vec F S1024x3200 .bf16) (y : S16x3200.Idx) :
    ∃ pc ∈ (kernelRun2_A c i arg1 harg1 arg2 harg2 arg3 harg3 arg4 harg4 hc0 hc1 hc2 x0).2.2.1, y ∈ pc.1.set :=
  View.cover_of_tiledL (kernelRun2_A c i arg1 harg1 arg2 harg2 arg3 harg3 arg4 harg4 hc0 hc1 hc2 x0).2.2.1 S16x3200.size (by sl_kernel_rfl) y

/-- What case A leaves in scratch `arg4`: its pieces read back over junk. -/
def sout2_A_0 (c : Dev nD) (i : grid2.Coords) (arg1 : Memref sig .tc .vmem S1024x3200 .bf16) (harg1 : arg1.IsWhole) (arg2 : Memref sig .tc .vmem S1x1 .f32) (harg2 : arg2.IsWhole) (arg3 : Memref sig .tc .vmem S1x1 .f32) (harg3 : arg3.IsWhole) (arg4 : Memref sig .tc .vmem S16x3200 .bf16) (harg4 : arg4.IsWhole) (hc0 : cond2_0 i) (hc1 : ¬cond2_1 i) (hc2 : ¬cond2_2 i)
    (x0 : Vec F S1024x3200 .bf16) : Vec F S16x3200 .bf16 :=
  VS2_0.read (Elt F) (VS2_0.writes (Elt F) VS2_0.junk (kernelRun2_A c i arg1 harg1 arg2 harg2 arg3 harg3 arg4 harg4 hc0 hc1 hc2 x0).2.2.1)

/-- Case B stores nothing into output 1 (the window is idle at its points and not written back there):
    no pieces — a placeholder (junk read back) that nothing consults, since at these points the window is neither
    written back nor read at the next point . -/
def out2_B_1 (c : Dev nD) (i : grid2.Coords) (arg1 : Memref sig .tc .vmem S1024x3200 .bf16) (harg1 : arg1.IsWhole) (arg2 : Memref sig .tc .vmem S1x1 .f32) (harg2 : arg2.IsWhole) (arg3 : Memref sig .tc .vmem S1x1 .f32) (harg3 : arg3.IsWhole) (arg4 : Memref sig .tc .vmem S16x3200 .bf16) (harg4 : arg4.IsWhole) (hc0 : ¬cond2_0 i) (hc1 : cond2_1 i) (hc2 : ¬cond2_2 i)
    (x0 : Vec F S1024x3200 .bf16) (xs0 : Vec F S16x3200 .bf16) : Vec F S1x1 .f32 :=
  VO2_1.read (Elt F) (VO2_1.writes (Elt F) VO2_1.junk (kernelRun2_B c i arg1 harg1 arg2 harg2 arg3 harg3 arg4 harg4 hc0 hc1 hc2 x0 xs0).1)

/-- Case B stores nothing into output 2 (the window is idle at its points and not written back there):
    no pieces — a placeholder (junk read back) that nothing consults, since at these points the window is neither
    written back nor read at the next point . -/
def out2_B_2 (c : Dev nD) (i : grid2.Coords) (arg1 : Memref sig .tc .vmem S1024x3200 .bf16) (harg1 : arg1.IsWhole) (arg2 : Memref sig .tc .vmem S1x1 .f32) (harg2 : arg2.IsWhole) (arg3 : Memref sig .tc .vmem S1x1 .f32) (harg3 : arg3.IsWhole) (arg4 : Memref sig .tc .vmem S16x3200 .bf16) (harg4 : arg4.IsWhole) (hc0 : ¬cond2_0 i) (hc1 : cond2_1 i) (hc2 : ¬cond2_2 i)
    (x0 : Vec F S1024x3200 .bf16) (xs0 : Vec F S16x3200 .bf16) : Vec F S1x1 .f32 :=
  VO2_2.read (Elt F) (VO2_2.writes (Elt F) VO2_2.junk (kernelRun2_B c i arg1 harg1 arg2 harg2 arg3 harg3 arg4 harg4 hc0 hc1 hc2 x0 xs0).2.1)

/-- Case B's pieces for scratch `arg4`, which the kernel carries between points, cover it: 1 piece of `S16x3200` tiling it . -/
theorem scover2_B_0 (c : Dev nD) (i : grid2.Coords) (arg1 : Memref sig .tc .vmem S1024x3200 .bf16) (harg1 : arg1.IsWhole) (arg2 : Memref sig .tc .vmem S1x1 .f32) (harg2 : arg2.IsWhole) (arg3 : Memref sig .tc .vmem S1x1 .f32) (harg3 : arg3.IsWhole) (arg4 : Memref sig .tc .vmem S16x3200 .bf16) (harg4 : arg4.IsWhole) (hc0 : ¬cond2_0 i) (hc1 : cond2_1 i) (hc2 : ¬cond2_2 i)
    (x0 : Vec F S1024x3200 .bf16) (xs0 : Vec F S16x3200 .bf16) (y : S16x3200.Idx) :
    ∃ pc ∈ (kernelRun2_B c i arg1 harg1 arg2 harg2 arg3 harg3 arg4 harg4 hc0 hc1 hc2 x0 xs0).2.2.1, y ∈ pc.1.set :=
  View.cover_of_tiledL (kernelRun2_B c i arg1 harg1 arg2 harg2 arg3 harg3 arg4 harg4 hc0 hc1 hc2 x0 xs0).2.2.1 S16x3200.size (by sl_kernel_rfl) y

/-- What case B leaves in scratch `arg4`: its pieces read back over junk. -/
def sout2_B_0 (c : Dev nD) (i : grid2.Coords) (arg1 : Memref sig .tc .vmem S1024x3200 .bf16) (harg1 : arg1.IsWhole) (arg2 : Memref sig .tc .vmem S1x1 .f32) (harg2 : arg2.IsWhole) (arg3 : Memref sig .tc .vmem S1x1 .f32) (harg3 : arg3.IsWhole) (arg4 : Memref sig .tc .vmem S16x3200 .bf16) (harg4 : arg4.IsWhole) (hc0 : ¬cond2_0 i) (hc1 : cond2_1 i) (hc2 : ¬cond2_2 i)
    (x0 : Vec F S1024x3200 .bf16) (xs0 : Vec F S16x3200 .bf16) : Vec F S16x3200 .bf16 :=
  VS2_0.read (Elt F) (VS2_0.writes (Elt F) VS2_0.junk (kernelRun2_B c i arg1 harg1 arg2 harg2 arg3 harg3 arg4 harg4 hc0 hc1 hc2 x0 xs0).2.2.1)

/-- Case C's pieces for output 1 tile its block (1 store of `S1x1`, checked by the kernel's evaluation: Lib/Ring.lean `Piece.tiledL`, linear in the pieces, through a loop's `@[irreducible]` trip theorem too), so they cover it. -/
theorem cover2_C_1 (c : Dev nD) (i : grid2.Coords) (arg1 : Memref sig .tc .vmem S1024x3200 .bf16) (harg1 : arg1.IsWhole) (arg2 : Memref sig .tc .vmem S1x1 .f32) (harg2 : arg2.IsWhole) (arg3 : Memref sig .tc .vmem S1x1 .f32) (harg3 : arg3.IsWhole) (arg4 : Memref sig .tc .vmem S16x3200 .bf16) (harg4 : arg4.IsWhole) (hc0 : ¬cond2_0 i) (hc1 : cond2_1 i) (hc2 : cond2_2 i)
    (x0 : Vec F S1024x3200 .bf16) (xs0 : Vec F S16x3200 .bf16) (y : S1x1.Idx) :
    ∃ pc ∈ (kernelRun2_C c i arg1 harg1 arg2 harg2 arg3 harg3 arg4 harg4 hc0 hc1 hc2 x0 xs0).1, y ∈ pc.1.set :=
  View.cover_of_tiledL (kernelRun2_C c i arg1 harg1 arg2 harg2 arg3 harg3 arg4 harg4 hc0 hc1 hc2 x0 xs0).1 S1x1.size (by sl_kernel_rfl) y

/-- What case C leaves in output 1's staging buffer: its pieces read back over junk. -/
def out2_C_1 (c : Dev nD) (i : grid2.Coords) (arg1 : Memref sig .tc .vmem S1024x3200 .bf16) (harg1 : arg1.IsWhole) (arg2 : Memref sig .tc .vmem S1x1 .f32) (harg2 : arg2.IsWhole) (arg3 : Memref sig .tc .vmem S1x1 .f32) (harg3 : arg3.IsWhole) (arg4 : Memref sig .tc .vmem S16x3200 .bf16) (harg4 : arg4.IsWhole) (hc0 : ¬cond2_0 i) (hc1 : cond2_1 i) (hc2 : cond2_2 i)
    (x0 : Vec F S1024x3200 .bf16) (xs0 : Vec F S16x3200 .bf16) : Vec F S1x1 .f32 :=
  VO2_1.read (Elt F) (VO2_1.writes (Elt F) VO2_1.junk (kernelRun2_C c i arg1 harg1 arg2 harg2 arg3 harg3 arg4 harg4 hc0 hc1 hc2 x0 xs0).1)

/-- Case C's pieces for output 2 tile its block (1 store of `S1x1`, checked by the kernel's evaluation: Lib/Ring.lean `Piece.tiledL`, linear in the pieces, through a loop's `@[irreducible]` trip theorem too), so they cover it. -/
theorem cover2_C_2 (c : Dev nD) (i : grid2.Coords) (arg1 : Memref sig .tc .vmem S1024x3200 .bf16) (harg1 : arg1.IsWhole) (arg2 : Memref sig .tc .vmem S1x1 .f32) (harg2 : arg2.IsWhole) (arg3 : Memref sig .tc .vmem S1x1 .f32) (harg3 : arg3.IsWhole) (arg4 : Memref sig .tc .vmem S16x3200 .bf16) (harg4 : arg4.IsWhole) (hc0 : ¬cond2_0 i) (hc1 : cond2_1 i) (hc2 : cond2_2 i)
    (x0 : Vec F S1024x3200 .bf16) (xs0 : Vec F S16x3200 .bf16) (y : S1x1.Idx) :
    ∃ pc ∈ (kernelRun2_C c i arg1 harg1 arg2 harg2 arg3 harg3 arg4 harg4 hc0 hc1 hc2 x0 xs0).2.1, y ∈ pc.1.set :=
  View.cover_of_tiledL (kernelRun2_C c i arg1 harg1 arg2 harg2 arg3 harg3 arg4 harg4 hc0 hc1 hc2 x0 xs0).2.1 S1x1.size (by sl_kernel_rfl) y

/-- What case C leaves in output 2's staging buffer: its pieces read back over junk. -/
def out2_C_2 (c : Dev nD) (i : grid2.Coords) (arg1 : Memref sig .tc .vmem S1024x3200 .bf16) (harg1 : arg1.IsWhole) (arg2 : Memref sig .tc .vmem S1x1 .f32) (harg2 : arg2.IsWhole) (arg3 : Memref sig .tc .vmem S1x1 .f32) (harg3 : arg3.IsWhole) (arg4 : Memref sig .tc .vmem S16x3200 .bf16) (harg4 : arg4.IsWhole) (hc0 : ¬cond2_0 i) (hc1 : cond2_1 i) (hc2 : cond2_2 i)
    (x0 : Vec F S1024x3200 .bf16) (xs0 : Vec F S16x3200 .bf16) : Vec F S1x1 .f32 :=
  VO2_2.read (Elt F) (VO2_2.writes (Elt F) VO2_2.junk (kernelRun2_C c i arg1 harg1 arg2 harg2 arg3 harg3 arg4 harg4 hc0 hc1 hc2 x0 xs0).2.1)

/-- Case C's pieces for scratch `arg4`, which the kernel carries between points, cover it: 1 piece of `S16x3200` tiling it . -/
theorem scover2_C_0 (c : Dev nD) (i : grid2.Coords) (arg1 : Memref sig .tc .vmem S1024x3200 .bf16) (harg1 : arg1.IsWhole) (arg2 : Memref sig .tc .vmem S1x1 .f32) (harg2 : arg2.IsWhole) (arg3 : Memref sig .tc .vmem S1x1 .f32) (harg3 : arg3.IsWhole) (arg4 : Memref sig .tc .vmem S16x3200 .bf16) (harg4 : arg4.IsWhole) (hc0 : ¬cond2_0 i) (hc1 : cond2_1 i) (hc2 : cond2_2 i)
    (x0 : Vec F S1024x3200 .bf16) (xs0 : Vec F S16x3200 .bf16) (y : S16x3200.Idx) :
    ∃ pc ∈ (kernelRun2_C c i arg1 harg1 arg2 harg2 arg3 harg3 arg4 harg4 hc0 hc1 hc2 x0 xs0).2.2.1, y ∈ pc.1.set :=
  View.cover_of_tiledL (kernelRun2_C c i arg1 harg1 arg2 harg2 arg3 harg3 arg4 harg4 hc0 hc1 hc2 x0 xs0).2.2.1 S16x3200.size (by sl_kernel_rfl) y

/-- What case C leaves in scratch `arg4`: its pieces read back over junk. -/
def sout2_C_0 (c : Dev nD) (i : grid2.Coords) (arg1 : Memref sig .tc .vmem S1024x3200 .bf16) (harg1 : arg1.IsWhole) (arg2 : Memref sig .tc .vmem S1x1 .f32) (harg2 : arg2.IsWhole) (arg3 : Memref sig .tc .vmem S1x1 .f32) (harg3 : arg3.IsWhole) (arg4 : Memref sig .tc .vmem S16x3200 .bf16) (harg4 : arg4.IsWhole) (hc0 : ¬cond2_0 i) (hc1 : cond2_1 i) (hc2 : cond2_2 i)
    (x0 : Vec F S1024x3200 .bf16) (xs0 : Vec F S16x3200 .bf16) : Vec F S16x3200 .bf16 :=
  VS2_0.read (Elt F) (VS2_0.writes (Elt F) VS2_0.junk (kernelRun2_C c i arg1 harg1 arg2 harg2 arg3 harg3 arg4 harg4 hc0 hc1 hc2 x0 xs0).2.2.1)

/-! ## What the outputs hold after each point -/

/-- THE ACCUMULATION. What the outputs' staging buffers and the scratch the kernel carries between points hold after the body at position `n` (a tuple: the outputs in window order, then the scratch):
    the case the closed forms select at `n`, run at the point's memrefs and input blocks, an output it reads before covering
    at what this leaves at `n - 1` (its buffer is not written back between: `before2_W_κ`). An assignment of the conditions no point meets is no case (`False.elim`). -/
def outsAt2 (c : Dev nD) : (n : ℕ) → n < cfg2.N → Vec F S1x1 .f32 × Vec F S1x1 .f32 × Vec F S16x3200 .bf16
  | 0, hn => (out2_A_1 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) scM2_0 (Memref.isWhole_whole _) ((hcond2_0 ⟨0, hn⟩).mpr (Nat.zero_mod _)) (fun h => (fun h => by (try dsimp only at h); omega) ((hcond2_1 ⟨0, hn⟩).mp h)) (fun h => (fun h => by (try dsimp only at h); omega) ((hcond2_2 ⟨0, hn⟩).mp h)) (iblk2 V c 0 ⟨0, hn⟩), out2_A_2 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) scM2_0 (Memref.isWhole_whole _) ((hcond2_0 ⟨0, hn⟩).mpr (Nat.zero_mod _)) (fun h => (fun h => by (try dsimp only at h); omega) ((hcond2_1 ⟨0, hn⟩).mp h)) (fun h => (fun h => by (try dsimp only at h); omega) ((hcond2_2 ⟨0, hn⟩).mp h)) (iblk2 V c 0 ⟨0, hn⟩), sout2_A_0 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) scM2_0 (Memref.isWhole_whole _) ((hcond2_0 ⟨0, hn⟩).mpr (Nat.zero_mod _)) (fun h => (fun h => by (try dsimp only at h); omega) ((hcond2_1 ⟨0, hn⟩).mp h)) (fun h => (fun h => by (try dsimp only at h); omega) ((hcond2_2 ⟨0, hn⟩).mp h)) (iblk2 V c 0 ⟨0, hn⟩))
  | n + 1, hn =>
    if h0 : (n + 1) % 16 = 0 then
      if h1 : 1 ≤ (n + 1) then
        False.elim (by have hN : n + 1 < 16 := lt_of_lt_of_eq hn (show cfg2.N = 16 from N_2); omega)
      else
        if h2 : (n + 1) % 16 = 15 then
          False.elim (by have hN : n + 1 < 16 := lt_of_lt_of_eq hn (show cfg2.N = 16 from N_2); omega)
        else
          (out2_A_1 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) scM2_0 (Memref.isWhole_whole _) ((hcond2_0 ⟨n + 1, hn⟩).mpr h0) (fun h => h1 ((hcond2_1 ⟨n + 1, hn⟩).mp h)) (fun h => h2 ((hcond2_2 ⟨n + 1, hn⟩).mp h)) (iblk2 V c 0 ⟨n + 1, hn⟩), out2_A_2 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) scM2_0 (Memref.isWhole_whole _) ((hcond2_0 ⟨n + 1, hn⟩).mpr h0) (fun h => h1 ((hcond2_1 ⟨n + 1, hn⟩).mp h)) (fun h => h2 ((hcond2_2 ⟨n + 1, hn⟩).mp h)) (iblk2 V c 0 ⟨n + 1, hn⟩), sout2_A_0 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) scM2_0 (Memref.isWhole_whole _) ((hcond2_0 ⟨n + 1, hn⟩).mpr h0) (fun h => h1 ((hcond2_1 ⟨n + 1, hn⟩).mp h)) (fun h => h2 ((hcond2_2 ⟨n + 1, hn⟩).mp h)) (iblk2 V c 0 ⟨n + 1, hn⟩))
    else
      if h1 : 1 ≤ (n + 1) then
        if h2 : (n + 1) % 16 = 15 then
          (out2_C_1 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) scM2_0 (Memref.isWhole_whole _) (fun h => h0 ((hcond2_0 ⟨n + 1, hn⟩).mp h)) ((hcond2_1 ⟨n + 1, hn⟩).mpr h1) ((hcond2_2 ⟨n + 1, hn⟩).mpr h2) (iblk2 V c 0 ⟨n + 1, hn⟩) (outsAt2 c n (Nat.lt_of_succ_lt hn)).2.2, out2_C_2 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) scM2_0 (Memref.isWhole_whole _) (fun h => h0 ((hcond2_0 ⟨n + 1, hn⟩).mp h)) ((hcond2_1 ⟨n + 1, hn⟩).mpr h1) ((hcond2_2 ⟨n + 1, hn⟩).mpr h2) (iblk2 V c 0 ⟨n + 1, hn⟩) (outsAt2 c n (Nat.lt_of_succ_lt hn)).2.2, sout2_C_0 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) scM2_0 (Memref.isWhole_whole _) (fun h => h0 ((hcond2_0 ⟨n + 1, hn⟩).mp h)) ((hcond2_1 ⟨n + 1, hn⟩).mpr h1) ((hcond2_2 ⟨n + 1, hn⟩).mpr h2) (iblk2 V c 0 ⟨n + 1, hn⟩) (outsAt2 c n (Nat.lt_of_succ_lt hn)).2.2)
        else
          (out2_B_1 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) scM2_0 (Memref.isWhole_whole _) (fun h => h0 ((hcond2_0 ⟨n + 1, hn⟩).mp h)) ((hcond2_1 ⟨n + 1, hn⟩).mpr h1) (fun h => h2 ((hcond2_2 ⟨n + 1, hn⟩).mp h)) (iblk2 V c 0 ⟨n + 1, hn⟩) (outsAt2 c n (Nat.lt_of_succ_lt hn)).2.2, out2_B_2 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) scM2_0 (Memref.isWhole_whole _) (fun h => h0 ((hcond2_0 ⟨n + 1, hn⟩).mp h)) ((hcond2_1 ⟨n + 1, hn⟩).mpr h1) (fun h => h2 ((hcond2_2 ⟨n + 1, hn⟩).mp h)) (iblk2 V c 0 ⟨n + 1, hn⟩) (outsAt2 c n (Nat.lt_of_succ_lt hn)).2.2, sout2_B_0 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) scM2_0 (Memref.isWhole_whole _) (fun h => h0 ((hcond2_0 ⟨n + 1, hn⟩).mp h)) ((hcond2_1 ⟨n + 1, hn⟩).mpr h1) (fun h => h2 ((hcond2_2 ⟨n + 1, hn⟩).mp h)) (iblk2 V c 0 ⟨n + 1, hn⟩) (outsAt2 c n (Nat.lt_of_succ_lt hn)).2.2)
      else
        False.elim (by have hN : n + 1 < 16 := lt_of_lt_of_eq hn (show cfg2.N = 16 from N_2); omega)

/-- `outsAt2` at a point of case A: that case's contents. -/
theorem outsAt2_A (c : Dev nD) (t : Fin cfg2.N) (h0 : t.val % 16 = 0) (h1 : ¬1 ≤ t.val) (h2 : ¬t.val % 16 = 15) :
    outsAt2 V c t.val t.isLt = (out2_A_1 c (grid2.coords t) (ms2_0 t) (hs2_0 t) (ms2_1 t) (hs2_1 t) (ms2_2 t) (hs2_2 t) scM2_0 (Memref.isWhole_whole _) ((hcond2_0 t).mpr h0) (fun h => h1 ((hcond2_1 t).mp h)) (fun h => h2 ((hcond2_2 t).mp h)) (iblk2 V c 0 t), out2_A_2 c (grid2.coords t) (ms2_0 t) (hs2_0 t) (ms2_1 t) (hs2_1 t) (ms2_2 t) (hs2_2 t) scM2_0 (Memref.isWhole_whole _) ((hcond2_0 t).mpr h0) (fun h => h1 ((hcond2_1 t).mp h)) (fun h => h2 ((hcond2_2 t).mp h)) (iblk2 V c 0 t), sout2_A_0 c (grid2.coords t) (ms2_0 t) (hs2_0 t) (ms2_1 t) (hs2_1 t) (ms2_2 t) (hs2_2 t) scM2_0 (Memref.isWhole_whole _) ((hcond2_0 t).mpr h0) (fun h => h1 ((hcond2_1 t).mp h)) (fun h => h2 ((hcond2_2 t).mp h)) (iblk2 V c 0 t)) := by
  obtain ⟨n, hn⟩ := t
  cases n with
  | zero => exact rfl
  | succ n => exact (dif_pos h0).trans ((dif_neg h1).trans ((dif_neg h2).trans rfl))

/-- `outsAt2` at a point of case B: that case's contents, over what the point before left. -/
theorem outsAt2_B (c : Dev nD) (t : Fin cfg2.N) (h0 : ¬t.val % 16 = 0) (h1 : 1 ≤ t.val) (h2 : ¬t.val % 16 = 15) :
    outsAt2 V c t.val t.isLt = (out2_B_1 c (grid2.coords t) (ms2_0 t) (hs2_0 t) (ms2_1 t) (hs2_1 t) (ms2_2 t) (hs2_2 t) scM2_0 (Memref.isWhole_whole _) (fun h => h0 ((hcond2_0 t).mp h)) ((hcond2_1 t).mpr h1) (fun h => h2 ((hcond2_2 t).mp h)) (iblk2 V c 0 t) (outsAt2 V c (t.val - 1) (Nat.lt_of_le_of_lt (Nat.sub_le _ _) t.isLt)).2.2, out2_B_2 c (grid2.coords t) (ms2_0 t) (hs2_0 t) (ms2_1 t) (hs2_1 t) (ms2_2 t) (hs2_2 t) scM2_0 (Memref.isWhole_whole _) (fun h => h0 ((hcond2_0 t).mp h)) ((hcond2_1 t).mpr h1) (fun h => h2 ((hcond2_2 t).mp h)) (iblk2 V c 0 t) (outsAt2 V c (t.val - 1) (Nat.lt_of_le_of_lt (Nat.sub_le _ _) t.isLt)).2.2, sout2_B_0 c (grid2.coords t) (ms2_0 t) (hs2_0 t) (ms2_1 t) (hs2_1 t) (ms2_2 t) (hs2_2 t) scM2_0 (Memref.isWhole_whole _) (fun h => h0 ((hcond2_0 t).mp h)) ((hcond2_1 t).mpr h1) (fun h => h2 ((hcond2_2 t).mp h)) (iblk2 V c 0 t) (outsAt2 V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_pos h1).trans ((dif_neg h2).trans rfl))

/-- `outsAt2` at a point of case C: that case's contents, over what the point before left. -/
theorem outsAt2_C (c : Dev nD) (t : Fin cfg2.N) (h0 : ¬t.val % 16 = 0) (h1 : 1 ≤ t.val) (h2 : t.val % 16 = 15) :
    outsAt2 V c t.val t.isLt = (out2_C_1 c (grid2.coords t) (ms2_0 t) (hs2_0 t) (ms2_1 t) (hs2_1 t) (ms2_2 t) (hs2_2 t) scM2_0 (Memref.isWhole_whole _) (fun h => h0 ((hcond2_0 t).mp h)) ((hcond2_1 t).mpr h1) ((hcond2_2 t).mpr h2) (iblk2 V c 0 t) (outsAt2 V c (t.val - 1) (Nat.lt_of_le_of_lt (Nat.sub_le _ _) t.isLt)).2.2, out2_C_2 c (grid2.coords t) (ms2_0 t) (hs2_0 t) (ms2_1 t) (hs2_1 t) (ms2_2 t) (hs2_2 t) scM2_0 (Memref.isWhole_whole _) (fun h => h0 ((hcond2_0 t).mp h)) ((hcond2_1 t).mpr h1) ((hcond2_2 t).mpr h2) (iblk2 V c 0 t) (outsAt2 V c (t.val - 1) (Nat.lt_of_le_of_lt (Nat.sub_le _ _) t.isLt)).2.2, sout2_C_0 c (grid2.coords t) (ms2_0 t) (hs2_0 t) (ms2_1 t) (hs2_1 t) (ms2_2 t) (hs2_2 t) scM2_0 (Memref.isWhole_whole _) (fun h => h0 ((hcond2_0 t).mp h)) ((hcond2_1 t).mpr h1) ((hcond2_2 t).mpr h2) (iblk2 V c 0 t) (outsAt2 V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_pos h1).trans ((dif_pos h2).trans rfl))

/-- The region invariant before position `n` with a scratch the kernel CARRIES between points: before the first point the
    class's ; afterwards the scoped rest with each carried scratch
    at what the point before left in it (`outsAt2`'s scratch components), the others at anything, and the generator register
    at some state. -/
def PhiS2 (c : Dev nD) : (n : ℕ) → n ≤ cfg2.N → sProp 𝕄
  | 0, _ => PhiJ2 c
  | n + 1, hn => iprop(iprop(owns (c : Thread nD τ) scM2_0 fullShare ((outsAt2 V c n hn).2.2) ∗ rest2 c) ∗ (∃ r, prngReg c r))

theorem PhiS2_zero (c : Dev nD) (n : ℕ) (h : n ≤ cfg2.N) (hz : n = 0) : PhiS2 V c n h = PhiJ2 c := by
  subst hz; rfl

/-- After point `n` (before point `n + 1`): the carried scratch at that point's contents. -/
theorem PhiS2_succ (c : Dev nD) (n : ℕ) (hn : n < cfg2.N) :
    PhiS2 V c (n + 1) hn = iprop(iprop(owns (c : Thread nD τ) scM2_0 fullShare ((outsAt2 V c n hn).2.2) ∗ rest2 c) ∗ (∃ r, prngReg c r)) := rfl

/-- Before a point that is not the first: the carried scratch at what the point before left. -/
theorem PhiS2_pos (c : Dev nD) (n : ℕ) (h : n ≤ cfg2.N) (hz : n ≠ 0) :
    PhiS2 V c n h = iprop(iprop(owns (c : Thread nD τ) scM2_0 fullShare ((outsAt2 V c (n - 1) (by omega)).2.2) ∗ rest2 c) ∗ (∃ r, prngReg c r)) := by
  cases n with
  | zero => exact absurd rfl hz
  | succ n => rfl

/-! ## The pipeline's proof data -/

/-- The proof data of the one pipeline on core `c`: the arrays as the region finds them (`V`); after the body at
    point `t` each input's buffer at its block and the outputs' at `outsAt2`; the invariant the class's
    (`PhiS2`: the class's `ΦA` before the first point, then the scoped rest with the carried scratch at `outsAt2`'s component);
    nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => (outsAt2 V c t.val t.isLt).1
    | ⟨2, _⟩ => (outsAt2 V c t.val t.isLt).2.1
  Φ t := PhiS2 V c t.val (Nat.le_of_lt_succ t.isLt)
  q _ := fullShare
  owed _ := 0

/-- The proof data's arrays are the region-entry contents: the proof data's definition projected (`dsimp`), so that
    `V` — a fold over @main's host prefix, long for some programs — is never unfolded to check it. -/
theorem A_eq2 (c : Dev nD) (w : Fin cfg2.W) : (dat2 V c).A w = V c (Pipeline.arrRef spec2 w) := by
  dsimp only [dat2]

/-- The invariant at a point's start (the proof data at `t.castSucc`), restated at `t.val`. -/
theorem PhiS2_castSucc (c : Dev nD) (t : Fin cfg2.N) :
    (dat2 V c).Φ t.castSucc = PhiS2 V c t.val (Nat.le_of_lt t.isLt) := by
  dsimp only [dat2]; exact Pipeline.Dat.Φ_castSucc (PhiS2 V c) t

/-- What the body leaves, window by window (the proof data's `match` reduced by `dsimp`). -/
theorem after2_0 (c : Dev nD) (t : Fin cfg2.N) : (dat2 V c).after 0 t = iblk2 V c 0 t := by dsimp only [dat2]
theorem after2_1 (c : Dev nD) (t : Fin cfg2.N) : (dat2 V c).after 1 t = (outsAt2 V c t.val t.isLt).1 := by dsimp only [dat2]
theorem after2_2 (c : Dev nD) (t : Fin cfg2.N) : (dat2 V c).after 2 t = (outsAt2 V c t.val t.isLt).2.1 := by dsimp only [dat2]

/-- Each input's current staging buffer holds its block at every point, fetched there or not (`beforeK_W_of`). -/
theorem before2_0 (c : Dev nD) (t : Fin cfg2.N) (d) : (dat2 V c).before 0 t d = iblk2 V c 0 t :=
  before2_0_of V (dat2 V c) (A_eq2 V c 0) (after2_0 V c) t d

/-! ## The body obligation, at a generic point -/

/-- What the body is called with at point `t` , -/
def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d)))

/-- and what it returns. -/
def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t)

set_option maxHeartbeats 4800000 in
/-- The body at any point: the inputs' memrefs hold their blocks (`before2_W`); the closed forms say which case the point is in (`by_cases`), an output the case reads before covering holds what the point before left (`before2_W_κ`); so the
    run applies; the invariant hands the body the carried scratch at what the point before left (`PhiS2_pos`; at anything at the first point, `PhiS2_zero`), the other scratch buffers and the generator register at some state, and takes the carried scratch back at this point's contents (`PhiS2_succ`, by `scoverK_κ_N`); the core owes nothing throughout. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0]
  rw [show (dat2 V c).owesAt () t.succ = (dat2 V c).owesAt () t.castSucc from rfl]
  rw [show (dat2 V c).Φ t.succ = PhiS2 V c (t.val + 1) t.isLt from rfl, PhiS2_succ]
  have hN : t.val < 16 := lt_of_lt_of_eq t.isLt (show cfg2.N = 16 from N_2)
  by_cases h0 : t.val % 16 = 0
  · by_cases h1 : 1 ≤ t.val
    · exfalso; omega
    · by_cases h2 : t.val % 16 = 15
      · exfalso; omega
      · rw [show (dat2 V c).leavesExact 0 t = owns (c : Thread nD τ) (ms2_0 t) fullShare ((dat2 V c).after 0 t) from by
      unfold Dat.leavesExact; rw [liveAt2_0 t], after2_0]
        rw [Dat.leavesExact_idle (dat2 V c) 1 t (idleAt2_1_A t ((hcond2_0 t).mpr h0) (fun h => h1 ((hcond2_1 t).mp h)) (fun h => h2 ((hcond2_2 t).mp h))) (noFlush2_1_A t ((hcond2_0 t).mpr h0) (fun h => h1 ((hcond2_1 t).mp h)) (fun h => h2 ((hcond2_2 t).mp h)))]
        rw [Dat.leavesExact_idle (dat2 V c) 2 t (idleAt2_2_A t ((hcond2_0 t).mpr h0) (fun h => h1 ((hcond2_1 t).mp h)) (fun h => h2 ((hcond2_2 t).mp h))) (noFlush2_2_A t ((hcond2_0 t).mpr h0) (fun h => h1 ((hcond2_1 t).mp h)) (fun h => h2 ((hcond2_2 t).mp h)))]
        by_cases hz : t.val = 0
        · rw [PhiS2_castSucc V c t, PhiS2_zero V c _ _ hz, PhiJ2]
          rw [outsAt2_A V c t h0 h1 h2]
          unfold sout2_A_0; (try dsimp only)
          iintro ⟨⟨⟨HS0, HR⟩, Hg⟩, Ho, ⟨%d0, H0⟩, ⟨%d1, H1⟩, ⟨%d2, H2⟩⟩
          iapply ((kernelRun2_A c (grid2.coords t) _ _ _ _ _ _ _ _ ((hcond2_0 t).mpr h0) (fun h => h1 ((hcond2_1 t).mp h)) (fun h => h2 ((hcond2_2 t).mp h)) (iblk2 V c 0 t)).2.2.2 _ _ Set.univ _)
          isplitl [H0]; · iexact H0
          isplitl [H1]; · iexact H1
          isplitl [H2]; · iexact H2
          isplitl [HS0]; · iexact HS0
          iintro ⟨H0, H1, H2, ⟨%es0, HS0⟩⟩
          isplitl [HS0 HR Hg]
          · isplitl [HS0 HR]
            · isplitl [HS0]
              · unfold owns; iexists _; isplitr
                swap; · iexact HS0
                ipureintro; exact View.read_writes_of_cover _ _ _ _ _ (scover2_A_0 c _ _ _ _ _ _ _ _ _ _ _ _ _)
              iexact HR
            iexact Hg
          isplitl [Ho]; · iexact Ho
          isplitl [H0]; · iexact H0
          isplitl [H1]; · iexists _; iexact H1
          iexists _; iexact H2
        · exfalso; have hN : t.val < 16 := lt_of_lt_of_eq t.isLt (show cfg2.N = 16 from N_2); omega
  · by_cases h1 : 1 ≤ t.val
    · by_cases h2 : t.val % 16 = 15
      · rw [show (dat2 V c).leavesExact 0 t = owns (c : Thread nD τ) (ms2_0 t) fullShare ((dat2 V c).after 0 t) from by
      unfold Dat.leavesExact; rw [liveAt2_0 t], after2_0]
        rw [show (dat2 V c).leavesExact 1 t = owns (c : Thread nD τ) (ms2_1 t) fullShare ((dat2 V c).after 1 t) from by
      unfold Dat.leavesExact; rw [liveAt2_1_C t (fun h => h0 ((hcond2_0 t).mp h)) ((hcond2_1 t).mpr h1) ((hcond2_2 t).mpr h2)], after2_1]
        rw [show (dat2 V c).leavesExact 2 t = owns (c : Thread nD τ) (ms2_2 t) fullShare ((dat2 V c).after 2 t) from by
      unfold Dat.leavesExact; rw [liveAt2_2_C t (fun h => h0 ((hcond2_0 t).mp h)) ((hcond2_1 t).mpr h1) ((hcond2_2 t).mpr h2)], after2_2]
        by_cases hz : t.val = 0
        · exfalso; have hN : t.val < 16 := lt_of_lt_of_eq t.isLt (show cfg2.N = 16 from N_2); omega
        · rw [PhiS2_castSucc V c t, PhiS2_pos V c _ _ hz]
          rw [outsAt2_C V c t h0 h1 h2]
          unfold out2_C_1 out2_C_2 sout2_C_0; (try dsimp only)
          iintro ⟨⟨⟨HS0, HR⟩, Hg⟩, Ho, ⟨%d0, H0⟩, ⟨%d1, H1⟩, ⟨%d2, H2⟩⟩
          iapply ((kernelRun2_C c (grid2.coords t) _ _ _ _ _ _ _ _ (fun h => h0 ((hcond2_0 t).mp h)) ((hcond2_1 t).mpr h1) ((hcond2_2 t).mpr h2) (iblk2 V c 0 t) _).2.2.2 Set.univ _)
          isplitl [H0]; · iexact H0
          isplitl [H1]; · iexists _; iexact H1
          isplitl [H2]; · iexists _; iexact H2
          isplitl [HS0]; · iexact HS0
          iintro ⟨H0, ⟨%e1, H1⟩, ⟨%e2, H2⟩, ⟨%es0, HS0⟩⟩
          isplitl [HS0 HR Hg]
          · isplitl [HS0 HR]
            · isplitl [HS0]
              · unfold owns; iexists _; isplitr
                swap; · iexact HS0
                ipureintro; exact View.read_writes_of_cover _ _ _ _ _ (scover2_C_0 c _ _ _ _ _ _ _ _ _ _ _ _ _ _)
              iexact HR
            iexact Hg
          isplitl [Ho]; · iexact Ho
          isplitl [H0]; · iexact H0
          isplitl [H1]
          · unfold owns; iexists _; isplitr
            swap; · iexact H1
            ipureintro; exact View.read_writes_of_cover _ _ _ _ _ (cover2_C_1 c _ _ _ _ _ _ _ _ _ _ _ _ _ _)
          unfold owns; iexists _; isplitr
          swap; · iexact H2
          ipureintro; exact View.read_writes_of_cover _ _ _ _ _ (cover2_C_2 c _ _ _ _ _ _ _ _ _ _ _ _ _ _)
      · rw [show (dat2 V c).leavesExact 0 t = owns (c : Thread nD τ) (ms2_0 t) fullShare ((dat2 V c).after 0 t) from by
      unfold Dat.leavesExact; rw [liveAt2_0 t], after2_0]
        rw [Dat.leavesExact_idle (dat2 V c) 1 t (idleAt2_1_B t (fun h => h0 ((hcond2_0 t).mp h)) ((hcond2_1 t).mpr h1) (fun h => h2 ((hcond2_2 t).mp h))) (noFlush2_1_B t (fun h => h0 ((hcond2_0 t).mp h)) ((hcond2_1 t).mpr h1) (fun h => h2 ((hcond2_2 t).mp h)))]
        rw [Dat.leavesExact_idle (dat2 V c) 2 t (idleAt2_2_B t (fun h => h0 ((hcond2_0 t).mp h)) ((hcond2_1 t).mpr h1) (fun h => h2 ((hcond2_2 t).mp h))) (noFlush2_2_B t (fun h => h0 ((hcond2_0 t).mp h)) ((hcond2_1 t).mpr h1) (fun h => h2 ((hcond2_2 t).mp h)))]
        by_cases hz : t.val = 0
        · exfalso; have hN : t.val < 16 := lt_of_lt_of_eq t.isLt (show cfg2.N = 16 from N_2); omega
        · rw [PhiS2_castSucc V c t, PhiS2_pos V c _ _ hz]
          rw [outsAt2_B V c t h0 h1 h2]
          unfold sout2_B_0; (try dsimp only)
          iintro ⟨⟨⟨HS0, HR⟩, Hg⟩, Ho, ⟨%d0, H0⟩, ⟨%d1, H1⟩, ⟨%d2, H2⟩⟩
          iapply ((kernelRun2_B c (grid2.coords t) _ _ _ _ _ _ _ _ (fun h => h0 ((hcond2_0 t).mp h)) ((hcond2_1 t).mpr h1) (fun h => h2 ((hcond2_2 t).mp h)) (iblk2 V c 0 t) _).2.2.2 _ _ Set.univ _)
          isplitl [H0]; · iexact H0
          isplitl [H1]; · iexact H1
          isplitl [H2]; · iexact H2
          isplitl [HS0]; · iexact HS0
          iintro ⟨H0, H1, H2, ⟨%es0, HS0⟩⟩
          isplitl [HS0 HR Hg]
          · isplitl [HS0 HR]
            · isplitl [HS0]
              · unfold owns; iexists _; isplitr
                swap; · iexact HS0
                ipureintro; exact View.read_writes_of_cover _ _ _ _ _ (scover2_B_0 c _ _ _ _ _ _ _ _ _ _ _ _ _ _)
              iexact HR
            iexact Hg
          isplitl [Ho]; · iexact Ho
          isplitl [H0]; · iexact H0
          isplitl [H1]; · iexists _; iexact H1
          iexists _; iexact H2
    · exfalso; omega

/-- The body table's row at point `t`'s slots is the body as `bodyAt2` spells it. -/
theorem defs₀_row2 (t : Fin cfg2.N) :
    defs₀ (F := F) .tc cfg2.body (cfg2.bodyArgs t (cfg2.slots t)) = bodyAt2 t := by
  unfold defs₀; rw [Defs.onTc_tc]

/-- The library's body obligation, at every point: the body's triple restated . -/
theorem body_obligation2 (c : Dev nD) : BodyObligation (dat2 (F := F) V c) (defs₀ (F := F)) Variants.none () Set.univ := fun t => by
  rw [bigSep_W2, bigSep_W2, defs₀_row2]
  exact triple_restated (sound_body2 V c t) rfl .rfl fun _ => .rfl

/-- Before the first point the invariant is `PhiJ2`. -/
theorem hin2 (c : Dev nD) : (PhiJ2 c : sProp 𝕄) ⊢ (dat2 V c).Φ 0 := by
  rw [show (dat2 V c).Φ 0 = PhiS2 V c 0 (Nat.zero_le _) from rfl, PhiS2_zero V c 0 _ rfl]

/-- After the last point the scratch's named contents are forgotten. -/
theorem hout2 (c : Dev nD) : (dat2 V c).Φ (Fin.last cfg2.N) ⊢ (PhiJ2 c : sProp 𝕄) := by
  rw [show (dat2 V c).Φ (Fin.last cfg2.N) = PhiS2 V c cfg2.N (le_refl _) from rfl,
    PhiS2_pos V c _ _ (by have : cfg2.N = 16 := N_2; omega)]
  unfold PhiJ2
  iintro ⟨⟨HS0, HR⟩, Hg⟩
  isplitl [HS0 HR]
  · isplitl [HS0]
    · iexists _; iexact HS0
    iexact HR
  iexact Hg

end Cert.Kernel.Hand

end
-- ==== Proof.KDgrad.lean ====
module

public import proofs.«01_k».proof.Proof.Gen.Kernel.Launch
public import proofs.«01_k».proof.Proof.Gen.Kernel.Skeleton
public import proofs.«01_k».proof.Proof.Gen.Kernel.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

@[expose] public section

set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the call is entered
variable (V : (c : Dev nD) → (b : Ref sig .tc) → Buf (Elt F) ((c : Thread nD τ).loc b))

/-! # REGION 3 of @main: custom_call 3, `cc3_dgrad` (pipeline 3), at the entry contents `V` -/

/-! ## The windows' blocks -/

/-- Window `w`'s block at point `t`, read off its array as the region finds it (`V`). -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)
/-- Input window 4's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before3_4_of {c : Dev nD} (dat : Dat τ (Elt F) Unit ℕ (UR sig nD τ) ℕ cfg3 c) (hA : dat.A 4 = V c (Pipeline.arrRef spec3 4))
    (hafter : ∀ t, dat.after 4 t = iblk3 V c 4 t) (t : Fin cfg3.N) (d) : dat.before 4 t d = iblk3 V c 4 t :=
  (dat.before_in_eq_fetched 4 rfl (fun _ => rfl) (fun _ _ _ => rfl) (fun t => by rw [hafter]; unfold Dat.blockOf iblk3; rw [hA]; try rfl) t d).trans
    (by unfold Dat.fetched Dat.blockOf iblk3; rw [hA]; try rfl)

/-! ## The body's accesses -/

abbrev r3_0 : Rect S1x512x3200 := Rect.unit (s := S1x512x3200) ![0, 0, 0] S1x512x3200.size inb_S1x512x3200_S1x512x3200_0_0_0
abbrev r3_1 : Rect S1x1 := Rect.unit (s := S1x1) ![0, 0] S1x1.size inb_S1x1_S1x1_0_0
abbrev r3_2 : Rect S2048x3200 := Rect.unit (s := S2048x3200) ![0, 0] S2048x3200.size inb_S2048x3200_S2048x3200_0_0
abbrev r3_3 : Rect S1x512x2048 := Rect.unit (s := S1x512x2048) ![0, 0, 0] S1x512x2048.size inb_S1x512x2048_S1x512x2048_0_0_0

/-! ## What the body leaves in each output window's buffer -/

/-- Window 5's staging buffer after the body, from the input windows' blocks: its 1 store as pieces, LAST
    FIRST . -/
def out3_5 (x0 : Vec F S1x1 .f32) (x1 : Vec F S1x1 .f32) (x2 : Vec F S1x1 .f32) (x3 : Vec F S1x512x3200 .bf16) (x4 : Vec F S2048x3200 .fp8e4m3) : Vec F S1x512x2048 .bf16 :=
  View.canon [⟨r3_3, k3_pay3 (View.ld x3 r3_0) (View.ld x0 r3_1) (View.ld x4 r3_2) (View.ld x1 r3_1) (View.ld x2 r3_1)⟩]

/-- Its stores tile the buffer (checked by evaluation), so they cover it. -/
theorem cover3_5 (p0 : Vec F S1x512x2048 .bf16) (y : S1x512x2048.Idx) :
    ∃ pc ∈ ([⟨r3_3, p0⟩] : List (View.Piece (Elt F) S1x512x2048 .bf16)), y ∈ pc.1.set :=
  View.cover_of_tiled [⟨r3_3, p0⟩] S1x512x2048.size (by rfl) y

/-- Window 6's staging buffer after the body, from the input windows' blocks: its 1 store as pieces, LAST
    FIRST . -/
def out3_6 (x0 : Vec F S1x1 .f32) (x1 : Vec F S1x1 .f32) (x2 : Vec F S1x1 .f32) (x3 : Vec F S1x512x3200 .bf16) (x4 : Vec F S2048x3200 .fp8e4m3) : Vec F S1x512x3200 .fp8e5m2 :=
  View.canon [⟨r3_0, k3_pay2 (View.ld x3 r3_0) (View.ld x0 r3_1)⟩]

/-- Its stores tile the buffer (checked by evaluation), so they cover it. -/
theorem cover3_6 (p0 : Vec F S1x512x3200 .fp8e5m2) (y : S1x512x3200.Idx) :
    ∃ pc ∈ ([⟨r3_0, p0⟩] : List (View.Piece (Elt F) S1x512x3200 .fp8e5m2)), y ∈ pc.1.set :=
  View.cover_of_tiled [⟨r3_0, p0⟩] S1x512x3200.size (by rfl) y

/-! ## The body's triple -/

set_option maxHeartbeats 1000000 in
/-- The kernel body on whole staging memrefs, the inputs' at read contents `xW` and the outputs' at anything, runs to
    the continuation holding the inputs' as they were and each output's at `out3_W` of the inputs': the printed functions
    are their skeletons (`Gen.*_eq_skeleton`), which `sl_exec` runs , through every part call. -/
theorem sound_kernel3 (c : Dev nD) (E : Set ℕ) (i : grid3.Coords) (arg2 : Memref sig .tc .vmem S1x1 .f32) (harg2 : arg2.IsWhole) (arg3 : Memref sig .tc .vmem S1x1 .f32) (harg3 : arg3.IsWhole) (arg4 : Memref sig .tc .vmem S1x1 .f32) (harg4 : arg4.IsWhole) (arg5 : Memref sig .tc .vmem S1x512x3200 .bf16) (harg5 : arg5.IsWhole) (arg6 : Memref sig .tc .vmem S2048x3200 .fp8e4m3) (harg6 : arg6.IsWhole) (arg7 : Memref sig .tc .vmem S1x512x2048 .bf16) (harg7 : arg7.IsWhole) (arg8 : Memref sig .tc .vmem S1x512x3200 .fp8e5m2) (harg8 : arg8.IsWhole)
    (x0 : Vec F S1x1 .f32) (x1 : Vec F S1x1 .f32) (x2 : Vec F S1x1 .f32) (x3 : Vec F S1x512x3200 .bf16) (x4 : Vec F S2048x3200 .fp8e4m3) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ (∃ d, owns (c : Thread nD τ) arg8 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare (out3_5 x0 x1 x2 x3 x4) ∗ owns (c : Thread nD τ) arg8 fullShare (out3_6 x0 x1 x2 x3 x4)) -∗ K ⟨⟩))
      ⊢ wp frame (wpE (defs₀ (F := F)) Variants.none c none) E (cc3_dgrad i arg2 harg2 arg3 harg3 arg4 harg4 arg5 harg5 arg6 harg6 arg7 harg7 arg8 harg8) K := by
  simp only [cc3_dgrad_eq_skeleton]; unfold cc3_dgrad_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    exact View.read_writes_eq_canon _ _ _ (cover3_5 _)
  iexists _; isplitr
  swap; · iexact H6
  ipureintro
  exact View.read_writes_eq_canon _ _ _ (cover3_6 _)

/-! ## The pipeline's proof data -/

/-- The proof data of pipeline 3 on core `c`: the arrays as the region finds them (`V`); after the body at
    point `t` each input's buffer at its block and each output's at `out3_W` of the input blocks; the invariant the
    class's ; nothing owed;
    full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => out3_5 (iblk3 V c 0 t) (iblk3 V c 1 t) (iblk3 V c 2 t) (iblk3 V c 3 t) (iblk3 V c 4 t)
    | ⟨6, _⟩ => out3_6 (iblk3 V c 0 t) (iblk3 V c 1 t) (iblk3 V c 2 t) (iblk3 V c 3 t) (iblk3 V c 4 t)
  Φ _ := Pipeline.ΦA spec3 c
  q _ := fullShare
  owed _ := 0

/-- The proof data's arrays are the region-entry contents, by projecting the definition (`dsimp`): a region record cites
    this for its arrays rather than have Lean unfold `V`, the fold through @main up to the region's entry. -/
theorem A_eq3 (c : Dev nD) (w : Fin cfg3.W) : (dat3 V c).A w = V c (Pipeline.arrRef spec3 w) := by
  dsimp only [dat3]

/-- What the body leaves, window by window (the proof data's `match` reduced by `dsimp`, never `rfl`: Lib/Pipeline.lean `Dat`). -/
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = iblk3 V c 4 t := by dsimp only [dat3]
theorem after3_5 (c : Dev nD) (t : Fin cfg3.N) : (dat3 V c).after 5 t = out3_5 (iblk3 V c 0 t) (iblk3 V c 1 t) (iblk3 V c 2 t) (iblk3 V c 3 t) (iblk3 V c 4 t) := by dsimp only [dat3]
theorem after3_6 (c : Dev nD) (t : Fin cfg3.N) : (dat3 V c).after 6 t = out3_6 (iblk3 V c 0 t) (iblk3 V c 1 t) (iblk3 V c 2 t) (iblk3 V c 3 t) (iblk3 V c 4 t) := by dsimp only [dat3]

/-- Each input's current staging buffer holds its block at every point, fetched there or not (`beforeK_W_of`). -/
theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d
theorem before3_4 (c : Dev nD) (t : Fin cfg3.N) (d) : (dat3 V c).before 4 t d = iblk3 V c 4 t :=
  before3_4_of V (dat3 V c) (A_eq3 V c 4) (after3_4 V c) t d

/-! ## The body obligation, at a generic point -/

/-- What the body is called with at point `t` , -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d))
    ∗ (∃ d, owns (c : Thread nD τ) (st3_5 t) fullShare ((dat3 V c).before 5 t d))
    ∗ (∃ d, owns (c : Thread nD τ) (st3_6 t) fullShare ((dat3 V c).before 6 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t)
    ∗ owns (c : Thread nD τ) (st3_5 t) fullShare ((dat3 V c).after 5 t)
    ∗ owns (c : Thread nD τ) (st3_6 t) fullShare ((dat3 V c).after 6 t))

/-- The body at any point: the inputs' memrefs hold their blocks (`before3_W`), so `sound_kernel3` applies; the invariant and
    the core's `owes` pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3, before3_4]
  rw [show (dat3 V c).Φ t.succ = (dat3 V c).Φ t.castSucc from rfl,
    show (dat3 V c).owesAt () t.succ = (dat3 V c).owesAt () t.castSucc from rfl,
    after3_0, after3_1, after3_2, after3_3, after3_4, after3_5, after3_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel3 c Set.univ (grid3.coords t) _ _ _ _ _ _ _ _ _ _ _ _ _ _ (iblk3 V c 0 t) (iblk3 V c 1 t) (iblk3 V c 2 t) (iblk3 V c 3 t) (iblk3 V c 4 t) _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The body table's row at point `t`'s slots is the body as `bodyAt3` spells it. -/
theorem defs₀_row3 (t : Fin cfg3.N) :
    defs₀ (F := F) .tc cfg3.body (cfg3.bodyArgs t (cfg3.slots t)) = bodyAt3 t := by
  unfold defs₀; rw [Defs.onTc_tc]

/-- The library's body obligation, at every point: the body's triple restated . -/
theorem body_obligation3 (c : Dev nD) : BodyObligation (dat3 (F := F) V c) (defs₀ (F := F)) Variants.none () Set.univ := fun t => by
  rw [bigSep_W3, bigSep_W3, defs₀_row3]
  exact triple_restated (sound_body3 V c t) rfl .rfl fun _ => .rfl

end Cert.Kernel.Hand

end
-- ==== Proof.KWhole.lean ====
module

public import proofs.«01_k».proof.Proof.KAmaxW
public import proofs.«01_k».proof.Proof.KQuantW
public import proofs.«01_k».proof.Proof.KAmaxDy
public import proofs.«01_k».proof.Proof.KDgrad

@[expose] public section

set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! # THE RUN: @main's segments from the launch to the return  -/

/-- @main's argument arrays, as TensorCore references: what the frame claim reads back. -/
abbrev argRefs : List (Ref sig .tc) := [main_arg0, main_arg1]

/-! ## The host stretches: none allocates a buffer, and each lists the references its operations write, in order,
    so that a reference absent from the list keeps its contents across the stretch  -/

/-- No operation of `hostOps2` allocates a buffer. -/
theorem hostOps2_fresh : (hostOps2 : List (HloOp τ sig (Elt F))).Forall fun op => op.fresh = ∅ := by
  simp only [List.Forall]; repeat' constructor
/-- The reference each operation of `hostOps2` writes, in order. -/
abbrev hostOps2_W : List (Ref sig .tc) := [main_v2]
theorem hostOps2_writes : (hostOps2 : List (HloOp τ sig (Elt F))).Forall fun op => op.writes ⊆ (hostOps2_W.map (Proc.devRef (τ := τ) .tc)).toFinset :=
  StableHlo.forall_writes_sub_of_map rfl
/-- `hostOps2` writes none of the argument arrays (checked: each argument against each reference it writes). -/
theorem hostOps2_args : ∀ a ∈ argRefs, a ∉ hostOps2_W := ListAll.forall_mem_of_all_decide (by decide +kernel)

/-- No operation of `hostOps4` allocates a buffer. -/
theorem hostOps4_fresh : (hostOps4 : List (HloOp τ sig (Elt F))).Forall fun op => op.fresh = ∅ := by
  simp only [List.Forall]; repeat' constructor
/-- The reference each operation of `hostOps4` writes, in order. -/
abbrev hostOps4_W : List (Ref sig .tc) := [main_v5, main_v6]
theorem hostOps4_writes : (hostOps4 : List (HloOp τ sig (Elt F))).Forall fun op => op.writes ⊆ (hostOps4_W.map (Proc.devRef (τ := τ) .tc)).toFinset :=
  StableHlo.forall_writes_sub_of_map rfl
/-- `hostOps4` writes none of the argument arrays (checked: each argument against each reference it writes). -/
theorem hostOps4_args : ∀ a ∈ argRefs, a ∉ hostOps4_W := ListAll.forall_mem_of_all_decide (by decide +kernel)

/-! ## The buffer contents at each segment boundary: a fold through @main, and what each item leaves unchanged -/

/-- Core `c`'s buffers at launch (region 0's entry). -/
abbrev W0 : Dev nD → Valuation τ sig (Elt F) := fun c b => (s₀ m ρ).mem ((c : Dev nD), b)
theorem W0_args (c : Dev nD) : ∀ a ∈ argRefs, W0 m ρ c (Proc.devRef .tc a) = m ((c : Thread nD τ).loc a) := fun _ _ => rfl
/-- The same read at the TensorCore's references (what region 0's proof data take). -/
abbrev V0 : (c : Dev nD) → (b : Ref sig .tc) → Buf (Elt F) ((c : Thread nD τ).loc b) := fun c b => W0 m ρ c b
/-- At region 0's exit: its arrays at what the pipeline leaves (the inputs as entered, each output's write-backs
    folded: `Dat.arrAt … N`), every other buffer as entered  (region 1's entry). -/
def W1 (c : Dev nD) : Valuation τ sig (Elt F) :=
  Pipeline.withArrays spec0 c (W0 m ρ c) fun w => (dat0 (V0 m ρ) c).arrAt w cfg0.N
theorem W1_arr (c : Dev nD) (w : Fin cfg0.W) :
    W1 m ρ c (Proc.devRef .tc (Pipeline.arrRef spec0 w)) = (dat0 (V0 m ρ) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m ρ c (Proc.devRef .tc b) = W0 m ρ c (Proc.devRef .tc b) := by
  unfold W1; exact Pipeline.withArrays_of_ne spec0 c _ _ b hb
/-- A reference that is none of region 0's OUTPUT arrays keeps its entry contents across it: an input window's
    array is never written back (`Dat.arrAt_in`, `A_eq0`); any other buffer is left as is. -/
theorem W1_of (c : Dev nD) (r : Ref sig .tc) (h : ∀ w : Fin cfg0.W, Pipeline.arrRef spec0 w = r → (cfg0.win w).isOut = false) :
    W1 m ρ c (Proc.devRef .tc r) = W0 m ρ c (Proc.devRef .tc r) := by
  by_cases hw : ∃ w : Fin cfg0.W, Pipeline.arrRef spec0 w = r
  · obtain ⟨w, rfl⟩ := hw
    exact (W1_arr m ρ c w).trans (((dat0 (V0 m ρ) c).arrAt_in w (h w rfl) _).trans (A_eq0 (V0 m ρ) c w))
  · exact W1_of_ne m ρ c r fun w e => hw ⟨w, e⟩
/-- Every argument among region 0's arrays is an input window's (checked: each argument against each window). -/
theorem argsIn0 : ∀ a ∈ argRefs, ∀ w : Fin cfg0.W, Pipeline.arrRef spec0 w = a → (cfg0.win w).isOut = false :=
  ListAll.forall_mem_of_all_decide (by decide +kernel)
theorem W1_args (c : Dev nD) : ∀ a ∈ argRefs, W1 m ρ c (Proc.devRef .tc a) = m ((c : Thread nD τ).loc a) :=
  fun a ha => (W1_of m ρ c a (argsIn0 a ha)).trans (W0_args m ρ c a ha)
/-- The same read at the TensorCore's references (region 0's exit contents). -/
abbrev V1 : (c : Dev nD) → (b : Ref sig .tc) → Buf (Elt F) ((c : Thread nD τ).loc b) := fun c b => W1 m ρ c b
/-- At region 0's exit each of its arrays holds what the pipeline leaves (`hF0`) and every other buffer what it
    held at entry (`hrest0`): the two hypotheses of Lib/Pipeline/RegionsLoop.lean `unscopedBufs_of_arrays`. -/
theorem hF0 (c : Dev nD) (w : Fin cfg0.W) : (dat0 (V0 m ρ) c).arrAt w cfg0.N = V1 m ρ c (Pipeline.arrRef spec0 w) :=
  (W1_arr m ρ c w).symm
theorem hrest0 (c : Dev nD) : ∀ b, b ∉ Finset.univ.image (Pipeline.arrRef spec0) → V1 m ρ c b = V0 m ρ c b :=
  fun b hb => W1_of_ne m ρ c b fun w e => hb (Finset.mem_image.mpr ⟨w, Finset.mem_univ _, e⟩)

/-- At region 1's exit: its arrays at what the pipeline leaves (the inputs as entered, each output's write-backs
    folded: `Dat.arrAt … N`), every other buffer as entered . -/
def W2 (c : Dev nD) : Valuation τ sig (Elt F) :=
  Pipeline.withArrays spec1 c (W1 m ρ c) fun w => (dat1 (V1 m ρ) c).arrAt w cfg1.N
theorem W2_arr (c : Dev nD) (w : Fin cfg1.W) :
    W2 m ρ c (Proc.devRef .tc (Pipeline.arrRef spec1 w)) = (dat1 (V1 m ρ) c).arrAt w cfg1.N := by
  unfold W2; exact Pipeline.withArrays_arr spec1 launch1.win.arr_inj c _ _ w
theorem W2_of_ne (c : Dev nD) (b : Ref sig .tc) (hb : ∀ w, Pipeline.arrRef spec1 w ≠ b) :
    W2 m ρ c (Proc.devRef .tc b) = W1 m ρ c (Proc.devRef .tc b) := by
  unfold W2; exact Pipeline.withArrays_of_ne spec1 c _ _ b hb
/-- A reference that is none of region 1's OUTPUT arrays keeps its entry contents across it: an input window's
    array is never written back (`Dat.arrAt_in`, `A_eq1`); any other buffer is left as is. -/
theorem W2_of (c : Dev nD) (r : Ref sig .tc) (h : ∀ w : Fin cfg1.W, Pipeline.arrRef spec1 w = r → (cfg1.win w).isOut = false) :
    W2 m ρ c (Proc.devRef .tc r) = W1 m ρ c (Proc.devRef .tc r) := by
  by_cases hw : ∃ w : Fin cfg1.W, Pipeline.arrRef spec1 w = r
  · obtain ⟨w, rfl⟩ := hw
    exact (W2_arr m ρ c w).trans (((dat1 (V1 m ρ) c).arrAt_in w (h w rfl) _).trans (A_eq1 (V1 m ρ) c w))
  · exact W2_of_ne m ρ c r fun w e => hw ⟨w, e⟩
/-- Every argument among region 1's arrays is an input window's (checked: each argument against each window). -/
theorem argsIn1 : ∀ a ∈ argRefs, ∀ w : Fin cfg1.W, Pipeline.arrRef spec1 w = a → (cfg1.win w).isOut = false :=
  ListAll.forall_mem_of_all_decide (by decide +kernel)
theorem W2_args (c : Dev nD) : ∀ a ∈ argRefs, W2 m ρ c (Proc.devRef .tc a) = m ((c : Thread nD τ).loc a) :=
  fun a ha => (W2_of m ρ c a (argsIn1 a ha)).trans (W1_args m ρ c a ha)
/-- The same read at the TensorCore's references (region 1's exit contents). -/
abbrev V2 : (c : Dev nD) → (b : Ref sig .tc) → Buf (Elt F) ((c : Thread nD τ).loc b) := fun c b => W2 m ρ c b
/-- At region 1's exit each of its arrays holds what the pipeline leaves (`hF1`) and every other buffer what it
    held at entry (`hrest1`): the two hypotheses of Lib/Pipeline/RegionsLoop.lean `unscopedBufs_of_arrays`. -/
theorem hF1 (c : Dev nD) (w : Fin cfg1.W) : (dat1 (V1 m ρ) c).arrAt w cfg1.N = V2 m ρ c (Pipeline.arrRef spec1 w) :=
  (W2_arr m ρ c w).symm
theorem hrest1 (c : Dev nD) : ∀ b, b ∉ Finset.univ.image (Pipeline.arrRef spec1) → V2 m ρ c b = V1 m ρ c b :=
  fun b hb => W2_of_ne m ρ c b fun w e => hb (Finset.mem_image.mpr ⟨w, Finset.mem_univ _, e⟩)

/-- After `hostOps2` (region 2's entry). -/
abbrev W3 : Dev nD → Valuation τ sig (Elt F) := fun c => StableHlo.after hostOps2 (W2 m ρ c)
/-- A reference `hostOps2` does not write keeps its contents across it. -/
theorem W3_of (c : Dev nD) (r : Ref sig .tc) (h : r ∉ hostOps2_W) : W3 m ρ c (Proc.devRef .tc r) = W2 m ρ c (Proc.devRef .tc r) :=
  StableHlo.after_of_writes_sub hostOps2 _ hostOps2_writes h
theorem W3_args (c : Dev nD) : ∀ a ∈ argRefs, W3 m ρ c (Proc.devRef .tc a) = m ((c : Thread nD τ).loc a) :=
  fun a ha => (W3_of m ρ c a (hostOps2_args a ha)).trans (W2_args m ρ c a ha)
/-- The same read at the TensorCore's references (what region 2's proof data take). -/
abbrev V3 : (c : Dev nD) → (b : Ref sig .tc) → Buf (Elt F) ((c : Thread nD τ).loc b) := fun c b => W3 m ρ c b
/-- At region 2's exit: its arrays at what the pipeline leaves (the inputs as entered, each output's write-backs
    folded: `Dat.arrAt … N`), every other buffer as entered  (region 3's entry). -/
def W4 (c : Dev nD) : Valuation τ sig (Elt F) :=
  Pipeline.withArrays spec2 c (W3 m ρ c) fun w => (dat2 (V3 m ρ) c).arrAt w cfg2.N
theorem W4_arr (c : Dev nD) (w : Fin cfg2.W) :
    W4 m ρ c (Proc.devRef .tc (Pipeline.arrRef spec2 w)) = (dat2 (V3 m ρ) c).arrAt w cfg2.N := by
  unfold W4; exact Pipeline.withArrays_arr spec2 launch2.win.arr_inj c _ _ w
theorem W4_of_ne (c : Dev nD) (b : Ref sig .tc) (hb : ∀ w, Pipeline.arrRef spec2 w ≠ b) :
    W4 m ρ c (Proc.devRef .tc b) = W3 m ρ c (Proc.devRef .tc b) := by
  unfold W4; exact Pipeline.withArrays_of_ne spec2 c _ _ b hb
/-- A reference that is none of region 2's OUTPUT arrays keeps its entry contents across it: an input window's
    array is never written back (`Dat.arrAt_in`, `A_eq2`); any other buffer is left as is. -/
theorem W4_of (c : Dev nD) (r : Ref sig .tc) (h : ∀ w : Fin cfg2.W, Pipeline.arrRef spec2 w = r → (cfg2.win w).isOut = false) :
    W4 m ρ c (Proc.devRef .tc r) = W3 m ρ c (Proc.devRef .tc r) := by
  by_cases hw : ∃ w : Fin cfg2.W, Pipeline.arrRef spec2 w = r
  · obtain ⟨w, rfl⟩ := hw
    exact (W4_arr m ρ c w).trans (((dat2 (V3 m ρ) c).arrAt_in w (h w rfl) _).trans (A_eq2 (V3 m ρ) c w))
  · exact W4_of_ne m ρ c r fun w e => hw ⟨w, e⟩
/-- Every argument among region 2's arrays is an input window's (checked: each argument against each window). -/
theorem argsIn2 : ∀ a ∈ argRefs, ∀ w : Fin cfg2.W, Pipeline.arrRef spec2 w = a → (cfg2.win w).isOut = false :=
  ListAll.forall_mem_of_all_decide (by decide +kernel)
theorem W4_args (c : Dev nD) : ∀ a ∈ argRefs, W4 m ρ c (Proc.devRef .tc a) = m ((c : Thread nD τ).loc a) :=
  fun a ha => (W4_of m ρ c a (argsIn2 a ha)).trans (W3_args m ρ c a ha)
/-- The same read at the TensorCore's references (region 2's exit contents). -/
abbrev V4 : (c : Dev nD) → (b : Ref sig .tc) → Buf (Elt F) ((c : Thread nD τ).loc b) := fun c b => W4 m ρ c b
/-- At region 2's exit each of its arrays holds what the pipeline leaves (`hF2`) and every other buffer what it
    held at entry (`hrest2`): the two hypotheses of Lib/Pipeline/RegionsLoop.lean `unscopedBufs_of_arrays`. -/
theorem hF2 (c : Dev nD) (w : Fin cfg2.W) : (dat2 (V3 m ρ) c).arrAt w cfg2.N = V4 m ρ c (Pipeline.arrRef spec2 w) :=
  (W4_arr m ρ c w).symm
theorem hrest2 (c : Dev nD) : ∀ b, b ∉ Finset.univ.image (Pipeline.arrRef spec2) → V4 m ρ c b = V3 m ρ c b :=
  fun b hb => W4_of_ne m ρ c b fun w e => hb (Finset.mem_image.mpr ⟨w, Finset.mem_univ _, e⟩)

/-- At region 3's exit: its arrays at what the pipeline leaves (the inputs as entered, each output's write-backs
    folded: `Dat.arrAt … N`), every other buffer as entered . -/
def W5 (c : Dev nD) : Valuation τ sig (Elt F) :=
  Pipeline.withArrays spec3 c (W4 m ρ c) fun w => (dat3 (V4 m ρ) c).arrAt w cfg3.N
theorem W5_arr (c : Dev nD) (w : Fin cfg3.W) :
    W5 m ρ c (Proc.devRef .tc (Pipeline.arrRef spec3 w)) = (dat3 (V4 m ρ) c).arrAt w cfg3.N := by
  unfold W5; exact Pipeline.withArrays_arr spec3 launch3.win.arr_inj c _ _ w
theorem W5_of_ne (c : Dev nD) (b : Ref sig .tc) (hb : ∀ w, Pipeline.arrRef spec3 w ≠ b) :
    W5 m ρ c (Proc.devRef .tc b) = W4 m ρ c (Proc.devRef .tc b) := by
  unfold W5; exact Pipeline.withArrays_of_ne spec3 c _ _ b hb
/-- A reference that is none of region 3's OUTPUT arrays keeps its entry contents across it: an input window's
    array is never written back (`Dat.arrAt_in`, `A_eq3`); any other buffer is left as is. -/
theorem W5_of (c : Dev nD) (r : Ref sig .tc) (h : ∀ w : Fin cfg3.W, Pipeline.arrRef spec3 w = r → (cfg3.win w).isOut = false) :
    W5 m ρ c (Proc.devRef .tc r) = W4 m ρ c (Proc.devRef .tc r) := by
  by_cases hw : ∃ w : Fin cfg3.W, Pipeline.arrRef spec3 w = r
  · obtain ⟨w, rfl⟩ := hw
    exact (W5_arr m ρ c w).trans (((dat3 (V4 m ρ) c).arrAt_in w (h w rfl) _).trans (A_eq3 (V4 m ρ) c w))
  · exact W5_of_ne m ρ c r fun w e => hw ⟨w, e⟩
/-- Every argument among region 3's arrays is an input window's (checked: each argument against each window). -/
theorem argsIn3 : ∀ a ∈ argRefs, ∀ w : Fin cfg3.W, Pipeline.arrRef spec3 w = a → (cfg3.win w).isOut = false :=
  ListAll.forall_mem_of_all_decide (by decide +kernel)
theorem W5_args (c : Dev nD) : ∀ a ∈ argRefs, W5 m ρ c (Proc.devRef .tc a) = m ((c : Thread nD τ).loc a) :=
  fun a ha => (W5_of m ρ c a (argsIn3 a ha)).trans (W4_args m ρ c a ha)
/-- The same read at the TensorCore's references (region 3's exit contents). -/
abbrev V5 : (c : Dev nD) → (b : Ref sig .tc) → Buf (Elt F) ((c : Thread nD τ).loc b) := fun c b => W5 m ρ c b
/-- At region 3's exit each of its arrays holds what the pipeline leaves (`hF3`) and every other buffer what it
    held at entry (`hrest3`): the two hypotheses of Lib/Pipeline/RegionsLoop.lean `unscopedBufs_of_arrays`. -/
theorem hF3 (c : Dev nD) (w : Fin cfg3.W) : (dat3 (V4 m ρ) c).arrAt w cfg3.N = V5 m ρ c (Pipeline.arrRef spec3 w) :=
  (W5_arr m ρ c w).symm
theorem hrest3 (c : Dev nD) : ∀ b, b ∉ Finset.univ.image (Pipeline.arrRef spec3) → V5 m ρ c b = V4 m ρ c b :=
  fun b hb => W5_of_ne m ρ c b fun w e => hb (Finset.mem_image.mpr ⟨w, Finset.mem_univ _, e⟩)

/-- After `hostOps4`. -/
abbrev W6 : Dev nD → Valuation τ sig (Elt F) := fun c => StableHlo.after hostOps4 (W5 m ρ c)
/-- A reference `hostOps4` does not write keeps its contents across it. -/
theorem W6_of (c : Dev nD) (r : Ref sig .tc) (h : r ∉ hostOps4_W) : W6 m ρ c (Proc.devRef .tc r) = W5 m ρ c (Proc.devRef .tc r) :=
  StableHlo.after_of_writes_sub hostOps4 _ hostOps4_writes h
theorem W6_args (c : Dev nD) : ∀ a ∈ argRefs, W6 m ρ c (Proc.devRef .tc a) = m ((c : Thread nD τ).loc a) :=
  fun a ha => (W6_of m ρ c a (hostOps4_args a ha)).trans (W5_args m ρ c a ha)

/-! ### The arguments end as launched: no host stretch writes one and no region may change one (a region reads it
    through an input window or bypasses it) -/

theorem W6_main_arg0 (c : Dev nD) : W6 m ρ c (Proc.devRef .tc main_arg0) = m ((c : Thread nD τ).loc main_arg0) :=
  W6_args m ρ c main_arg0 (by decide)
theorem W6_main_arg1 (c : Dev nD) : W6 m ρ c (Proc.devRef .tc main_arg1) = m ((c : Thread nD τ).loc main_arg1) :=
  W6_args m ρ c main_arg1 (by decide)

/-! ## The proof data family and the thread state -/

/-- The prefetched tables' admissible contents: no pipeline has a table. -/
abbrev adm : (p : Fin 4) → (pcfgs (F := F) p).Adm := fun p => (cfgs p).toPCfg_adm
/-- Every pipeline's proof data, each at its region's entry contents — a literal `match`, so that the kit's
    `Pipeline.pin pcfgs adm p` at a numeral reduces to the printed configuration. -/
def pdats : (p : Fin 4) → (c : Dev nD) → Dat τ (Elt F) Unit ℕ (UR sig nD τ) ℕ (Pipeline.pin (pcfgs (F := F)) adm p) c
  | ⟨0, _⟩ => fun c => dat0 (V0 m ρ) c
  | ⟨1, _⟩ => fun c => dat1 (V1 m ρ) c
  | ⟨2, _⟩ => fun c => dat2 (V3 m ρ) c
  | ⟨3, _⟩ => fun c => dat3 (V4 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state (the class-A
    invariant takes it in and gives it back) and its `owes`, at nothing. -/
abbrev R (c : Dev nD) : sProp 𝕄 := iprop((∃ r, prngReg c r) ∗ ∃ W, owes (c : Thread nD τ) (0 : CellTallies nD τ sig Unit) W)
/-- A host stretch as a segment: `HostSeg.ofOps` over the unscoped references from the contents `W`, `R` riding along
    (its `post` is then those references at `StableHlo.after ops (W c)`: the next boundary's contents by name). -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes` (the kit's chain ends at it BESIDE the core owing nothing): every unscoped
    buffer at the last boundary's contents `W6`, the generator register at some state. -/
abbrev Tₙ (c : Dev nD) : sProp 𝕄 := iprop(StableHlo.held (c : Thread nD τ) (Pipeline.ucRefs τ sig) (W6 m ρ c) ∗ ∃ r, prngReg c r)

/-! ## The regions as segments -/

-- `iapply` of a library lemma stated over `pin pcs a p` unifies with the pinned configuration only when unification may
-- unfold plain definitions in a metavariable's type
set_option backward.isDefEq.respectTransparency.types false in
/-- REGION 0 (custom_call 0) over the thread state: entered from every unscoped buffer at `W0`, left at `W1`
    (what the next segment is entered from). Its arrays split out of the unscoped buffers
    (`arrays_of_unscopedBufs`) and put back at the exit contents (`unscopedBufs_of_arrays`); the generator register into the
    class invariant `ΦA` and out; nothing owed; no semaphore of the kernel's own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V0 m ρ) c).loose
  hwaits := Pipeline.hwaits_of_owed_zero _ _ _ _ L lv 0 fun _ _ => rfl
  pre c := iprop(StableHlo.held (c : Thread nD τ) (Pipeline.ucRefs τ sig) (W0 m ρ c) ∗ R c)
  post c := iprop(StableHlo.held (c : Thread nD τ) (Pipeline.ucRefs τ sig) (W1 m ρ c) ∗ R c)
  X c := iprop(∃ r, prngReg c r)
  Y c := iprop(∃ r, prngReg c r)
  Z c := Pipeline.unscopedRest (Ix := Unit) (Name := ℕ) (U := UR sig nD τ) (Lvl := ℕ) spec0 c (V0 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V0 m ρ c) (A_eq0 (V0 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ ((PhiJ0_of c).trans (hin0 (V0 m ρ) c))
    unfold Pipeline.ΦA
    iintro ⟨Hp, -, Hr⟩
    isplitl [Hr]; · iexact Hr
    iexact Hp
  hout c := by
    rw [Pipeline.ownSems0_none]
    refine .trans ((hout0 (V0 m ρ) c).trans (PhiJ0_to c)) ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V0 m ρ c) (V1 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- `iapply` of a library lemma stated over `pin pcs a p` unifies with the pinned configuration only when unification may
-- unfold plain definitions in a metavariable's type
set_option backward.isDefEq.respectTransparency.types false in
/-- REGION 1 (custom_call 1) over the thread state: entered from every unscoped buffer at `W1`, left at `W2`
    (what the next segment is entered from). Its arrays split out of the unscoped buffers
    (`arrays_of_unscopedBufs`) and put back at the exit contents (`unscopedBufs_of_arrays`); the generator register into the
    class invariant `ΦA` and out; nothing owed; no semaphore of the kernel's own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V1 m ρ) c).loose
  hwaits := Pipeline.hwaits_of_owed_zero _ _ _ _ L lv 1 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec1 c (V1 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V1 m ρ c) (A_eq1 (V1 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V1 m ρ c) (V2 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- `iapply` of a library lemma stated over `pin pcs a p` unifies with the pinned configuration only when unification may
-- unfold plain definitions in a metavariable's type
set_option backward.isDefEq.respectTransparency.types false in
/-- REGION 2 (custom_call 2) over the thread state: entered from every unscoped buffer at `W3`, left at `W4`
    (what the next segment is entered from). Its arrays split out of the unscoped buffers
    (`arrays_of_unscopedBufs`) and put back at the exit contents (`unscopedBufs_of_arrays`); the generator register into the
    class invariant `ΦA` and out; nothing owed; no semaphore of the kernel's own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V3 m ρ) c).loose
  hwaits := Pipeline.hwaits_of_owed_zero _ _ _ _ L lv 2 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec2 c (V3 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V3 m ρ c) (A_eq2 (V3 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ ((PhiJ2_of c).trans (hin2 (V3 m ρ) c))
    unfold Pipeline.ΦA
    iintro ⟨Hp, -, Hr⟩
    isplitl [Hr]; · iexact Hr
    iexact Hp
  hout c := by
    rw [Pipeline.ownSems0_none]
    refine .trans ((hout2 (V3 m ρ) c).trans (PhiJ2_to c)) ?_
    unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V3 m ρ c) (V4 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- `iapply` of a library lemma stated over `pin pcs a p` unifies with the pinned configuration only when unification may
-- unfold plain definitions in a metavariable's type
set_option backward.isDefEq.respectTransparency.types false in
/-- REGION 3 (custom_call 3) over the thread state: entered from every unscoped buffer at `W4`, left at `W5`
    (what the next segment is entered from). Its arrays split out of the unscoped buffers
    (`arrays_of_unscopedBufs`) and put back at the exit contents (`unscopedBufs_of_arrays`); the generator register into the
    class invariant `ΦA` and out; nothing owed; no semaphore of the kernel's own. -/
def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (body_obligation3 (V4 m ρ) c).loose
  hwaits := Pipeline.hwaits_of_owed_zero _ _ _ _ L lv 3 fun _ _ => rfl
  pre c := iprop(StableHlo.held (c : Thread nD τ) (Pipeline.ucRefs τ sig) (W4 m ρ c) ∗ R c)
  post c := iprop(StableHlo.held (c : Thread nD τ) (Pipeline.ucRefs τ sig) (W5 m ρ c) ∗ R c)
  X c := iprop(∃ r, prngReg c r)
  Y c := iprop(∃ r, prngReg c r)
  Z c := Pipeline.unscopedRest (Ix := Unit) (Name := ℕ) (U := UR sig nD τ) (Lvl := ℕ) spec3 c (V4 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (V4 m ρ c) (A_eq3 (V4 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m ρ 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (V4 m ρ c) (V5 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

/-- @main's 6 segments in order: a host segment per stretch from its boundary's contents, a region per pallas_call. -/
abbrev segs : List (Pipeline.Seg (pcfgs (F := F)) adm (pdats m ρ) () defs₀ 𝒱₀ L lv) :=
  [ .region (reg0 m ρ),
    .region (reg1 m ρ),
    .host (hseg hostOps2 hostOps2_sub hostOps2_fresh (W2 m ρ)),
    .region (reg2 m ρ),
    .region (reg3 m ρ),
    .host (hseg hostOps4 hostOps4_sub hostOps4_fresh (W5 m ρ)) ]
/-- @main IS the run of the segments: `Gen.main_chain`, then the segments' run against that chain by the kernel's
    definitional check (`chain_rfl`). -/
theorem main_run (c : Dev nD) : main (F := F) c = Pipeline.Seg.run (segs m ρ) := (main_chain c).trans (by chain_rfl)

/-- The TensorCore has no unscoped semaphore. -/
theorem no_unscoped : ∀ sm : SemLoc sig, sm.isScoped .tc = true := by decide

-- `θ_run_regions_kit_sems`'s implicit arguments are found by unifying its conclusion with this one, which takes unfolding
-- plain definitions in a metavariable's type
set_option backward.isDefEq.respectTransparency.types false in
/-- THE RUN: from any memory with zero counters every weakly fair execution of @main terminates, nothing faulting; every
    final state holds every unscoped buffer at the last boundary's contents `W6`, and every counter at zero. -/
theorem run : θ_run defs (onTc (τ := τ) (main (F := F))) ⟨m, fun _ => 0, ρ⟩ (fun r => (∀ c : Dev nD,
      ∀ b ∈ Pipeline.ucRefs τ sig, r.2.mem (((c : Thread nD τ)).1, b) = W6 m ρ c b) ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h hz => ⟨h, funext fun g => hz g (.inr (no_unscoped g.2))⟩)

/-- The frame: the argument arrays end as launched, and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  (θ_run defs _ _).mono (fun r h => ⟨fun c =>
    ⟨(h.1 c _ (mem_uc main_arg0 (by decide))).trans (W6_main_arg0 m ρ c),
     (h.1 c _ (mem_uc main_arg1 (by decide))).trans (W6_main_arg1 m ρ c)⟩, h.2⟩) (run m ρ)

end Cert.Kernel.Hand

end
-- ==== Proof.IAmaxWRun.lean ====
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # What `amax_w`'s body does at the first point (case A), at a middle point (B) and at the last (C) -/

-- the TensorCore's buffer contents when the call is entered
variable (V : (c : Dev nD) → (b : Ref sig .tc) → Buf (Elt F) ((c : Thread nD τ).loc b))

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-! ## The body's branch conditions -/

/-- The condition of the body's `scf.if` 0 (`k0_h1`), from the grid coordinates (the skeleton's scalar
    chain substituted). -/
abbrev cond0_0 (i : grid0.Coords) : Prop := (Scalar.cmpi .ne (Scalar.extui (Scalar.cmpi .eq (BitVec.ofNat 32 (i 0).val) 0#32)) 0#32) = 1#1
/-- It holds at the first point only — by arithmetic of the point. -/
theorem hcond0_0 : ∀ t : Fin cfg0.N, cond0_0 (grid0.coords t) ↔ t.val % 8 = 0 :=
  (fun t => by
    have ht : t.val < 8 := Nat.lt_of_lt_of_eq t.isLt N_0
    have e0 : (grid0.coords t 0).val = t.val / 1 % 8 := Pipeline.Grid.coords_val t 0 (by decide) rfl
    simp only [cond0_0, e0]
    word_cmp
   : ∀ t : Fin grid0.N, cond0_0 (grid0.coords t) ↔ t.val % 8 = 0)

/-- The condition of the body's `scf.if` 1 (`k0_h2`), from the grid coordinates (the skeleton's scalar
    chain substituted). -/
abbrev cond0_1 (i : grid0.Coords) : Prop := (Scalar.cmpi .ne (Scalar.extui (Scalar.cmpi .sgt (BitVec.ofNat 32 (i 0).val) 0#32)) 0#32) = 1#1
/-- It holds at the points from point 1 on — decided over the grid. -/
theorem hcond0_1 : ∀ t : Fin cfg0.N, cond0_1 (grid0.coords t) ↔ 1 ≤ t.val :=
  (by decide +kernel : ∀ t : Fin grid0.N, cond0_1 (grid0.coords t) ↔ 1 ≤ t.val)

/-- The condition of the body's `scf.if` 2 (`k0_h3`), from the grid coordinates (the skeleton's scalar
    chain substituted). -/
abbrev cond0_2 (i : grid0.Coords) : Prop := k0_cond3 i = 1#1
/-- It holds at the last point only — by arithmetic of the point. -/
theorem hcond0_2 : ∀ t : Fin cfg0.N, cond0_2 (grid0.coords t) ↔ t.val % 8 = 7 :=
  (fun t => by
    have ht : t.val < 8 := Nat.lt_of_lt_of_eq t.isLt N_0
    have e0 : (grid0.coords t 0).val = t.val / 1 % 8 := Pipeline.Grid.coords_val t 0 (by decide) rfl
    simp only [cond0_2, k0_cond3, e0]
    word_cmp
   : ∀ t : Fin grid0.N, cond0_2 (grid0.coords t) ↔ t.val % 8 = 7)

/-! ## Where the windows are idle (the printed configuration's table `Cfg.idle`) -/

/-- Window 0 is never idle (an input). -/
theorem liveAt0_0 : ∀ t : Fin cfg0.N, cfg0.idle 0 (grid0.coords t) = false := fun _ => rfl
/-- At the points of case A the printed configuration (`Cfg.idle`) calls output 1 idle: the case stores nothing into it. -/
theorem idleAt0_1_A : ∀ t : Fin cfg0.N, cond0_0 (grid0.coords t) → ¬cond0_1 (grid0.coords t) → ¬cond0_2 (grid0.coords t) → cfg0.idle 1 (grid0.coords t) = true := by decide +kernel
/-- At the points of case A the pipeline does not write output 1's block back. -/
theorem noFlush0_1_A : ∀ t : Fin cfg0.N, cond0_0 (grid0.coords t) → ¬cond0_1 (grid0.coords t) → ¬cond0_2 (grid0.coords t) → (cfg0.win 1).flush t = false := by decide +kernel
/-- At the points of case B the printed configuration (`Cfg.idle`) calls output 1 idle: the case stores nothing into it. -/
theorem idleAt0_1_B : ∀ t : Fin cfg0.N, ¬cond0_0 (grid0.coords t) → cond0_1 (grid0.coords t) → ¬cond0_2 (grid0.coords t) → cfg0.idle 1 (grid0.coords t) = true := by decide +kernel
/-- At the points of case B the pipeline does not write output 1's block back. -/
theorem noFlush0_1_B : ∀ t : Fin cfg0.N, ¬cond0_0 (grid0.coords t) → cond0_1 (grid0.coords t) → ¬cond0_2 (grid0.coords t) → (cfg0.win 1).flush t = false := by decide +kernel
/-- At the points of case C the printed configuration (`Cfg.idle`) calls output 1 live: the case stores into it. -/
theorem liveAt0_1_C : ∀ t : Fin cfg0.N, ¬cond0_0 (grid0.coords t) → cond0_1 (grid0.coords t) → cond0_2 (grid0.coords t) → cfg0.idle 1 (grid0.coords t) = false := by decide +kernel
/-- At the points of case A the printed configuration (`Cfg.idle`) calls output 2 idle: the case stores nothing into it. -/
theorem idleAt0_2_A : ∀ t : Fin cfg0.N, cond0_0 (grid0.coords t) → ¬cond0_1 (grid0.coords t) → ¬cond0_2 (grid0.coords t) → cfg0.idle 2 (grid0.coords t) = true := by decide +kernel
/-- At the points of case A the pipeline does not write output 2's block back. -/
theorem noFlush0_2_A : ∀ t : Fin cfg0.N, cond0_0 (grid0.coords t) → ¬cond0_1 (grid0.coords t) → ¬cond0_2 (grid0.coords t) → (cfg0.win 2).flush t = false := by decide +kernel
/-- At the points of case B the printed configuration (`Cfg.idle`) calls output 2 idle: the case stores nothing into it. -/
theorem idleAt0_2_B : ∀ t : Fin cfg0.N, ¬cond0_0 (grid0.coords t) → cond0_1 (grid0.coords t) → ¬cond0_2 (grid0.coords t) → cfg0.idle 2 (grid0.coords t) = true := by decide +kernel
/-- At the points of case B the pipeline does not write output 2's block back. -/
theorem noFlush0_2_B : ∀ t : Fin cfg0.N, ¬cond0_0 (grid0.coords t) → cond0_1 (grid0.coords t) → ¬cond0_2 (grid0.coords t) → (cfg0.win 2).flush t = false := by decide +kernel
/-- At the points of case C the printed configuration (`Cfg.idle`) calls output 2 live: the case stores into it. -/
theorem liveAt0_2_C : ∀ t : Fin cfg0.N, ¬cond0_0 (grid0.coords t) → cond0_1 (grid0.coords t) → cond0_2 (grid0.coords t) → cfg0.idle 2 (grid0.coords t) = false := by decide +kernel

/-! ## The kernel body on any staging memrefs: a subtype the run finds -/

/-- One staging buffer of output window 1, through which its contents are stated (`View.read_writes_of_cover`: the
    choice does not matter). -/
abbrev VO0_1 : View sig .tc .vmem S1x1 .f32 := (Memref.whole cc0_stg1_0 : Memref sig .tc .vmem S1x1 .f32).view
/-- One staging buffer of output window 2, through which its contents are stated (`View.read_writes_of_cover`: the
    choice does not matter). -/
abbrev VO0_2 : View sig .tc .vmem S1x1 .f32 := (Memref.whole cc0_stg2_0 : Memref sig .tc .vmem S1x1 .f32).view
/-- Each window's current staging memref at point `t`, spelled as the pipeline passes it (`bodyAt0`), and its wholeness. -/
abbrev ms0_0 (t : Fin cfg0.N) : Memref sig .tc .vmem S256x3200 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x1 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x1 .f32 := win0_2.stage (cfg0.slots t 2)
abbrev hs0_2 (t : Fin cfg0.N) : (ms0_2 t).IsWhole := hstage0_2 ((cfg0.slots t 2).cast nbuf0_2)
/-- The scratch operands: whole scoped buffers of the kernel's own, passed beside the windows. -/
abbrev scM0_0 : Memref sig .tc .vmem S8x3200 .f32 := Memref.whole cc0_scratch0
/-- The scratch `arg4` the kernel carries between points, as a view: what it holds is stated through it. -/
abbrev VS0_0 : View sig .tc .vmem S8x3200 .f32 := scM0_0.view

/-- The scoped buffers of the other calls: this call carries them along untouched. -/
def rest0 (c : Dev nD) : sProp 𝕄 := iprop((∃ f : Buf (Elt F) ((c : Thread nD τ).loc cc1_stg0_0), ((c : Thread nD τ).loc cc1_stg0_0) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc2_stg0_0), ((c : Thread nD τ).loc cc2_stg0_0) ↦{fullShare} f) ∗ (∃ f : Buf (Elt F) ((c : Thread nD τ).loc cc2_stg0_1), ((c : Thread nD τ).loc cc2_stg0_1) ↦{fullShare} f) ∗ (∃ f : Buf (Elt F) ((c : Thread nD τ).loc cc2_stg1_0), ((c : Thread nD τ).loc cc2_stg1_0) ↦{fullShare} f) ∗ (∃ f : Buf (Elt F) ((c : Thread nD τ).loc cc2_stg2_0), ((c : Thread nD τ).loc cc2_stg2_0) ↦{fullShare} f) ∗ (∃ f : Buf (Elt F) ((c : Thread nD τ).loc cc2_scratch0), ((c : Thread nD τ).loc cc2_scratch0) ↦{fullShare} f) ∗ (∃ f : Buf (Elt F) ((c : Thread nD τ).loc cc3_stg0_0), ((c : Thread nD τ).loc cc3_stg0_0) ↦{fullShare} f) ∗ (∃ f : Buf (Elt F) ((c : Thread nD τ).loc cc3_stg1_0), ((c : Thread nD τ).loc cc3_stg1_0) ↦{fullShare} f) ∗ (∃ f : Buf (Elt F) ((c : Thread nD τ).loc cc3_stg2_0), ((c : Thread nD τ).loc cc3_stg2_0) ↦{fullShare} f) ∗ (∃ f : Buf (Elt F) ((c : Thread nD τ).loc cc3_stg3_0), ((c : Thread nD τ).loc cc3_stg3_0) ↦{fullShare} f) ∗ (∃ f : Buf (Elt F) ((c : Thread nD τ).loc cc3_stg3_1), ((c : Thread nD τ).loc cc3_stg3_1) ↦{fullShare} f) ∗ (∃ f : Buf (Elt F) ((c : Thread nD τ).loc cc3_stg4_0), ((c : Thread nD τ).loc cc3_stg4_0) ↦{fullShare} f) ∗ (∃ f : Buf (Elt F) ((c : Thread nD τ).loc cc3_stg5_0), ((c : Thread nD τ).loc cc3_stg5_0) ↦{fullShare} f) ∗ (∃ f : Buf (Elt F) ((c : Thread nD τ).loc cc3_stg5_1), ((c : Thread nD τ).loc cc3_stg5_1) ↦{fullShare} f) ∗ (∃ f : Buf (Elt F) ((c : Thread nD τ).loc cc3_stg6_0), ((c : Thread nD τ).loc cc3_stg6_0) ↦{fullShare} f) ∗ (∃ f : Buf (Elt F) ((c : Thread nD τ).loc cc3_stg6_1), ((c : Thread nD τ).loc cc3_stg6_1) ↦{fullShare} f))

/-- Before the first point: the scratch at anything, the other calls' scoped buffers, and the generator register. -/
def PhiJ0 (c : Dev nD) : sProp 𝕄 :=
  iprop(iprop((∃ d, owns (c : Thread nD τ) scM0_0 fullShare d) ∗ rest0 c) ∗ (∃ r, prngReg c r))

/-- What the launch hands the call gives the invariant before the first point. -/
theorem PhiJ0_of (c : Dev nD) : (Pipeline.ΦA spec0 c : sProp 𝕄) ⊢ PhiJ0 c := by
  unfold Pipeline.ΦA PhiJ0 rest0; rw [scopedRest0_eq]; simp only [scM0_0, owns_whole]
  iintro ⟨⟨R0, R1, R2, R3, R4, R5, R6, R7, R8, R9, R10, R11, R12, R13, R14, R15, R16, R17, R18, R19, R20⟩, Hg⟩
  isplitr [Hg]
  · isplitl [R0]; · iexact R0
    isplitl [R1]; · iexact R1
    isplitl [R2]; · iexact R2
    isplitl [R3]; · iexact R3
    isplitl [R4]; · iexact R4
    isplitl [R5]; · iexact R5
    isplitl [R6]; · iexact R6
    isplitl [R7]; · iexact R7
    isplitl [R8]; · iexact R8
    isplitl [R9]; · iexact R9
    isplitl [R10]; · iexact R10
    isplitl [R11]; · iexact R11
    isplitl [R12]; · iexact R12
    isplitl [R13]; · iexact R13
    isplitl [R14]; · iexact R14
    isplitl [R15]; · iexact R15
    isplitl [R16]; · iexact R16
    isplitl [R17]; · iexact R17
    isplitl [R18]; · iexact R18
    isplitl [R19]; · iexact R19
    iexact R20
  iexact Hg

/-- And back. -/
theorem PhiJ0_to (c : Dev nD) : (PhiJ0 c : sProp 𝕄) ⊢ Pipeline.ΦA spec0 c := by
  unfold Pipeline.ΦA PhiJ0 rest0; rw [scopedRest0_eq]; simp only [scM0_0, owns_whole]
  iintro ⟨⟨R0, R1, R2, R3, R4, R5, R6, R7, R8, R9, R10, R11, R12, R13, R14, R15, R16, R17, R18, R19, R20⟩, Hg⟩
  isplitr [Hg]
  · skip
    isplitl [R0]; · iexact R0
    isplitl [R1]; · iexact R1
    isplitl [R2]; · iexact R2
    isplitl [R3]; · iexact R3
    isplitl [R4]; · iexact R4
    isplitl [R5]; · iexact R5
    isplitl [R6]; · iexact R6
    isplitl [R7]; · iexact R7
    isplitl [R8]; · iexact R8
    isplitl [R9]; · iexact R9
    isplitl [R10]; · iexact R10
    isplitl [R11]; · iexact R11
    isplitl [R12]; · iexact R12
    isplitl [R13]; · iexact R13
    isplitl [R14]; · iexact R14
    isplitl [R15]; · iexact R15
    isplitl [R16]; · iexact R16
    isplitl [R17]; · iexact R17
    isplitl [R18]; · iexact R18
    isplitl [R19]; · iexact R19
    iexact R20
  iexact Hg

-- (the run's proof term is large: the definition's epilogue — `abstractNestedProofs` — walks it past the default budget)
set_option maxHeartbeats 1000000 in
/-- What the body's stores leave in each output's staging memref, as pieces (last first) IN CASE A (`scf.if` 0 taken, `scf.if` 1 not taken, `scf.if` 2 not taken: points 0), WITH the
    proof that on whole staging memrefs — the inputs' at their contents, the outputs it leaves idle (1, 2: no store, the window idle and not written back at the case's points) at contents `xi·` handed back untouched, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs  — each `scf.if` decided by the case's hypotheses `hc·`; the pieces are
    the witness that run finds (assigned when `iexact` hands the buffer to the continuation). -/
noncomputable def kernelRun0_A (c : Dev nD) (i : grid0.Coords) (arg1 : Memref sig .tc .vmem S256x3200 .f32) (harg1 : arg1.IsWhole) (arg2 : Memref sig .tc .vmem S1x1 .f32) (harg2 : arg2.IsWhole) (arg3 : Memref sig .tc .vmem S1x1 .f32) (harg3 : arg3.IsWhole) (arg4 : Memref sig .tc .vmem S8x3200 .f32) (harg4 : arg4.IsWhole) (hc0 : cond0_0 i) (hc1 : ¬cond0_1 i) (hc2 : ¬cond0_2 i)
    (x0 : Vec F S256x3200 .f32) :
    Σ' (L1 : List (View.Piece (Elt F) S1x1 .f32)), Σ' (L2 : List (View.Piece (Elt F) S1x1 .f32)), { LS0 : List (View.Piece (Elt F) S8x3200 .f32) //
      ∀ (xi1 : Vec F S1x1 .f32) (xi2 : Vec F S1x1 .f32) (E : Set ℕ) (K : PUnit → sProp 𝕄),
        iprop(owns (c : Thread nD τ) arg1 fullShare x0 ∗ owns (c : Thread nD τ) arg2 fullShare xi1 ∗ owns (c : Thread nD τ) arg3 fullShare xi2 ∗ (∃ d, owns (c : Thread nD τ) arg4 fullShare d)
            ∗ (iprop(owns (c : Thread nD τ) arg1 fullShare x0 ∗ owns (c : Thread nD τ) arg2 fullShare xi1 ∗ owns (c : Thread nD τ) arg3 fullShare xi2 ∗ (∃ f, arg4.view.loc (c : Thread nD τ) ↦[arg4.view.set]{fullShare} arg4.view.writes (Elt F) f LS0)) -∗ K ⟨⟩))
          ⊢ wp frame (wpE (defs₀ (F := F)) Variants.none c none) E (cc0_amax_w i arg1 harg1 arg2 harg2 arg3 harg3 arg4 harg4) K } := by
  refine ⟨[], [], ?_, fun xi1 xi2 E K => ?run⟩
  case run =>
    simp only [cc0_amax_w_eq_skeleton]; unfold cc0_amax_w_skel
    unfold owns
    iintro ⟨⟨%f0, %hf0, H0⟩, ⟨%f1, %hf1, H1⟩, ⟨%f2, %hf2, H2⟩, ⟨%ds0, %fs0, -, HS0⟩, Hk⟩
    obtain rfl := harg1.eq_unread hf0; obtain rfl := harg2.eq_unread hf1; obtain rfl := harg3.eq_unread hf2
    sl_exec (disch := first | sl_exact hc0 | sl_exact hc1 | sl_exact hc2)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    iexists _; iexact HS0

-- (the run's proof term is large: the definition's epilogue — `abstractNestedProofs` — walks it past the default budget)
set_option maxHeartbeats 1000000 in
/-- What the body's stores leave in each output's staging memref, as pieces (last first) IN CASE B (`scf.if` 0 not taken, `scf.if` 1 taken, `scf.if` 2 not taken: points 1, 2, 3, 4, 5, 6), WITH the
    proof that on whole staging memrefs — the inputs' at their contents, the outputs it leaves idle (1, 2: no store, the window idle and not written back at the case's points) at contents `xi·` handed back untouched, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs  — each `scf.if` decided by the case's hypotheses `hc·`; the pieces are
    the witness that run finds (assigned when `iexact` hands the buffer to the continuation). -/
noncomputable def kernelRun0_B (c : Dev nD) (i : grid0.Coords) (arg1 : Memref sig .tc .vmem S256x3200 .f32) (harg1 : arg1.IsWhole) (arg2 : Memref sig .tc .vmem S1x1 .f32) (harg2 : arg2.IsWhole) (arg3 : Memref sig .tc .vmem S1x1 .f32) (harg3 : arg3.IsWhole) (arg4 : Memref sig .tc .vmem S8x3200 .f32) (harg4 : arg4.IsWhole) (hc0 : ¬cond0_0 i) (hc1 : cond0_1 i) (hc2 : ¬cond0_2 i)
    (x0 : Vec F S256x3200 .f32) (xs0 : Vec F S8x3200 .f32) :
    Σ' (L1 : List (View.Piece (Elt F) S1x1 .f32)), Σ' (L2 : List (View.Piece (Elt F) S1x1 .f32)), { LS0 : List (View.Piece (Elt F) S8x3200 .f32) //
      ∀ (xi1 : Vec F S1x1 .f32) (xi2 : Vec F S1x1 .f32) (E : Set ℕ) (K : PUnit → sProp 𝕄),
        iprop(owns (c : Thread nD τ) arg1 fullShare x0 ∗ owns (c : Thread nD τ) arg2 fullShare xi1 ∗ owns (c : Thread nD τ) arg3 fullShare xi2 ∗ owns (c : Thread nD τ) arg4 fullShare xs0
            ∗ (iprop(owns (c : Thread nD τ) arg1 fullShare x0 ∗ owns (c : Thread nD τ) arg2 fullShare xi1 ∗ owns (c : Thread nD τ) arg3 fullShare xi2 ∗ (∃ f, arg4.view.loc (c : Thread nD τ) ↦[arg4.view.set]{fullShare} arg4.view.writes (Elt F) f LS0)) -∗ K ⟨⟩))
          ⊢ wp frame (wpE (defs₀ (F := F)) Variants.none c none) E (cc0_amax_w i arg1 harg1 arg2 harg2 arg3 harg3 arg4 harg4) K } := by
  refine ⟨[], [], ?_, fun xi1 xi2 E K => ?run⟩
  case run =>
    simp only [cc0_amax_w_eq_skeleton]; unfold cc0_amax_w_skel
    unfold owns
    iintro ⟨⟨%f0, %hf0, H0⟩, ⟨%f1, %hf1, H1⟩, ⟨%f2, %hf2, H2⟩, ⟨%fs0, %hfs0, HS0⟩, Hk⟩
    obtain rfl := harg1.eq_unread hf0; obtain rfl := harg2.eq_unread hf1; obtain rfl := harg3.eq_unread hf2; obtain rfl := harg4.eq_unread hfs0
    sl_exec (disch := first | sl_exact hc0 | sl_exact hc1 | sl_exact hc2)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    iexists _; iexact HS0

-- (the run's proof term is large: the definition's epilogue — `abstractNestedProofs` — walks it past the default budget)
set_option maxHeartbeats 1000000 in
/-- What the body's stores leave in each output's staging memref, as pieces (last first) IN CASE C (`scf.if` 0 not taken, `scf.if` 1 taken, `scf.if` 2 taken: points 7), WITH the
    proof that on whole staging memrefs — the inputs' at their contents, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs  — each `scf.if` decided by the case's hypotheses `hc·`; the pieces are
    the witness that run finds (assigned when `iexact` hands the buffer to the continuation). -/
noncomputable def kernelRun0_C (c : Dev nD) (i : grid0.Coords) (arg1 : Memref sig .tc .vmem S256x3200 .f32) (harg1 : arg1.IsWhole) (arg2 : Memref sig .tc .vmem S1x1 .f32) (harg2 : arg2.IsWhole) (arg3 : Memref sig .tc .vmem S1x1 .f32) (harg3 : arg3.IsWhole) (arg4 : Memref sig .tc .vmem S8x3200 .f32) (harg4 : arg4.IsWhole) (hc0 : ¬cond0_0 i) (hc1 : cond0_1 i) (hc2 : cond0_2 i)
    (x0 : Vec F S256x3200 .f32) (xs0 : Vec F S8x3200 .f32) :
    Σ' (L1 : List (View.Piece (Elt F) S1x1 .f32)), Σ' (L2 : List (View.Piece (Elt F) S1x1 .f32)), { LS0 : List (View.Piece (Elt F) S8x3200 .f32) //
      ∀ (E : Set ℕ) (K : PUnit → sProp 𝕄),
        iprop(owns (c : Thread nD τ) arg1 fullShare x0 ∗ (∃ d, owns (c : Thread nD τ) arg2 fullShare d) ∗ (∃ d, owns (c : Thread nD τ) arg3 fullShare d) ∗ owns (c : Thread nD τ) arg4 fullShare xs0
            ∗ (iprop(owns (c : Thread nD τ) arg1 fullShare x0 ∗ (∃ f, arg2.view.loc (c : Thread nD τ) ↦[arg2.view.set]{fullShare} arg2.view.writes (Elt F) f L1) ∗ (∃ f, arg3.view.loc (c : Thread nD τ) ↦[arg3.view.set]{fullShare} arg3.view.writes (Elt F) f L2) ∗ (∃ f, arg4.view.loc (c : Thread nD τ) ↦[arg4.view.set]{fullShare} arg4.view.writes (Elt F) f LS0)) -∗ K ⟨⟩))
          ⊢ wp frame (wpE (defs₀ (F := F)) Variants.none c none) E (cc0_amax_w i arg1 harg1 arg2 harg2 arg3 harg3 arg4 harg4) K } := by
  refine ⟨?_, ?_, ?_, fun E K => ?run⟩
  case run =>
    simp only [cc0_amax_w_eq_skeleton]; unfold cc0_amax_w_skel
    simp only [k0_part1_eq_skeleton]
    unfold owns
    iintro ⟨⟨%f0, %hf0, H0⟩, ⟨%d1, %f1, -, H1⟩, ⟨%d2, %f2, -, H2⟩, ⟨%fs0, %hfs0, HS0⟩, Hk⟩
    obtain rfl := harg1.eq_unread hf0; obtain rfl := harg4.eq_unread hfs0
    sl_exec (disch := first | sl_exact hc0 | sl_exact hc1 | sl_exact hc2)
    sl_step
    iapply Hk
    isplitl [H0]
    · iexists _; isplitr; · ipureintro; exact harg1.read_unread _
      iexact H0
    isplitl [H1]; · iexists _; iexact H1
    isplitl [H2]; · iexists _; iexact H2
    iexists _; iexact HS0

end Cert.KernelIdeal.Hand

end
-- ==== Proof.IAmaxW.lean ====
module

public import proofs.«01_k».proof.Proof.IAmaxWRun

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # What `amax_w` leaves after each point, and its body's obligation -/

-- the TensorCore's buffer contents when the call is entered
variable (V : (c : Dev nD) → (b : Ref sig .tc) → Buf (Elt F) ((c : Thread nD τ).loc b))

/-- Case A stores nothing into output 1 (the window is idle at its points and not written back there):
    no pieces — a placeholder (junk read back) that nothing consults, since at these points the window is neither
    written back nor read at the next point . -/
def out0_A_1 (c : Dev nD) (i : grid0.Coords) (arg1 : Memref sig .tc .vmem S256x3200 .f32) (harg1 : arg1.IsWhole) (arg2 : Memref sig .tc .vmem S1x1 .f32) (harg2 : arg2.IsWhole) (arg3 : Memref sig .tc .vmem S1x1 .f32) (harg3 : arg3.IsWhole) (arg4 : Memref sig .tc .vmem S8x3200 .f32) (harg4 : arg4.IsWhole) (hc0 : cond0_0 i) (hc1 : ¬cond0_1 i) (hc2 : ¬cond0_2 i)
    (x0 : Vec F S256x3200 .f32) : Vec F S1x1 .f32 :=
  VO0_1.read (Elt F) (VO0_1.writes (Elt F) VO0_1.junk (kernelRun0_A c i arg1 harg1 arg2 harg2 arg3 harg3 arg4 harg4 hc0 hc1 hc2 x0).1)

/-- Case A stores nothing into output 2 (the window is idle at its points and not written back there):
    no pieces — a placeholder (junk read back) that nothing consults, since at these points the window is neither
    written back nor read at the next point . -/
def out0_A_2 (c : Dev nD) (i : grid0.Coords) (arg1 : Memref sig .tc .vmem S256x3200 .f32) (harg1 : arg1.IsWhole) (arg2 : Memref sig .tc .vmem S1x1 .f32) (harg2 : arg2.IsWhole) (arg3 : Memref sig .tc .vmem S1x1 .f32) (harg3 : arg3.IsWhole) (arg4 : Memref sig .tc .vmem S8x3200 .f32) (harg4 : arg4.IsWhole) (hc0 : cond0_0 i) (hc1 : ¬cond0_1 i) (hc2 : ¬cond0_2 i)
    (x0 : Vec F S256x3200 .f32) : Vec F S1x1 .f32 :=
  VO0_2.read (Elt F) (VO0_2.writes (Elt F) VO0_2.junk (kernelRun0_A c i arg1 harg1 arg2 harg2 arg3 harg3 arg4 harg4 hc0 hc1 hc2 x0).2.1)

/-- Case A's pieces for scratch `arg4`, which the kernel carries between points, cover it: 1 piece of `S8x3200` tiling it . -/
theorem scover0_A_0 (c : Dev nD) (i : grid0.Coords) (arg1 : Memref sig .tc .vmem S256x3200 .f32) (harg1 : arg1.IsWhole) (arg2 : Memref sig .tc .vmem S1x1 .f32) (harg2 : arg2.IsWhole) (arg3 : Memref sig .tc .vmem S1x1 .f32) (harg3 : arg3.IsWhole) (arg4 : Memref sig .tc .vmem S8x3200 .f32) (harg4 : arg4.IsWhole) (hc0 : cond0_0 i) (hc1 : ¬cond0_1 i) (hc2 : ¬cond0_2 i)
    (x0 : Vec F S256x3200 .f32) (y : S8x3200.Idx) :
    ∃ pc ∈ (kernelRun0_A c i arg1 harg1 arg2 harg2 arg3 harg3 arg4 harg4 hc0 hc1 hc2 x0).2.2.1, y ∈ pc.1.set :=
  View.cover_of_tiledL (kernelRun0_A c i arg1 harg1 arg2 harg2 arg3 harg3 arg4 harg4 hc0 hc1 hc2 x0).2.2.1 S8x3200.size (by sl_kernel_rfl) y

/-- What case A leaves in scratch `arg4`: its pieces read back over junk. -/
def sout0_A_0 (c : Dev nD) (i : grid0.Coords) (arg1 : Memref sig .tc .vmem S256x3200 .f32) (harg1 : arg1.IsWhole) (arg2 : Memref sig .tc .vmem S1x1 .f32) (harg2 : arg2.IsWhole) (arg3 : Memref sig .tc .vmem S1x1 .f32) (harg3 : arg3.IsWhole) (arg4 : Memref sig .tc .vmem S8x3200 .f32) (harg4 : arg4.IsWhole) (hc0 : cond0_0 i) (hc1 : ¬cond0_1 i) (hc2 : ¬cond0_2 i)
    (x0 : Vec F S256x3200 .f32) : Vec F S8x3200 .f32 :=
  VS0_0.read (Elt F) (VS0_0.writes (Elt F) VS0_0.junk (kernelRun0_A c i arg1 harg1 arg2 harg2 arg3 harg3 arg4 harg4 hc0 hc1 hc2 x0).2.2.1)

/-- Case B stores nothing into output 1 (the window is idle at its points and not written back there):
    no pieces — a placeholder (junk read back) that nothing consults, since at these points the window is neither
    written back nor read at the next point . -/
def out0_B_1 (c : Dev nD) (i : grid0.Coords) (arg1 : Memref sig .tc .vmem S256x3200 .f32) (harg1 : arg1.IsWhole) (arg2 : Memref sig .tc .vmem S1x1 .f32) (harg2 : arg2.IsWhole) (arg3 : Memref sig .tc .vmem S1x1 .f32) (harg3 : arg3.IsWhole) (arg4 : Memref sig .tc .vmem S8x3200 .f32) (harg4 : arg4.IsWhole) (hc0 : ¬cond0_0 i) (hc1 : cond0_1 i) (hc2 : ¬cond0_2 i)
    (x0 : Vec F S256x3200 .f32) (xs0 : Vec F S8x3200 .f32) : Vec F S1x1 .f32 :=
  VO0_1.read (Elt F) (VO0_1.writes (Elt F) VO0_1.junk (kernelRun0_B c i arg1 harg1 arg2 harg2 arg3 harg3 arg4 harg4 hc0 hc1 hc2 x0 xs0).1)

/-- Case B stores nothing into output 2 (the window is idle at its points and not written back there):
    no pieces — a placeholder (junk read back) that nothing consults, since at these points the window is neither
    written back nor read at the next point . -/
def out0_B_2 (c : Dev nD) (i : grid0.Coords) (arg1 : Memref sig .tc .vmem S256x3200 .f32) (harg1 : arg1.IsWhole) (arg2 : Memref sig .tc .vmem S1x1 .f32) (harg2 : arg2.IsWhole) (arg3 : Memref sig .tc .vmem S1x1 .f32) (harg3 : arg3.IsWhole) (arg4 : Memref sig .tc .vmem S8x3200 .f32) (harg4 : arg4.IsWhole) (hc0 : ¬cond0_0 i) (hc1 : cond0_1 i) (hc2 : ¬cond0_2 i)
    (x0 : Vec F S256x3200 .f32) (xs0 : Vec F S8x3200 .f32) : Vec F S1x1 .f32 :=
  VO0_2.read (Elt F) (VO0_2.writes (Elt F) VO0_2.junk (kernelRun0_B c i arg1 harg1 arg2 harg2 arg3 harg3 arg4 harg4 hc0 hc1 hc2 x0 xs0).2.1)

/-- Case B's pieces for scratch `arg4`, which the kernel carries between points, cover it: 1 piece of `S8x3200` tiling it . -/
theorem scover0_B_0 (c : Dev nD) (i : grid0.Coords) (arg1 : Memref sig .tc .vmem S256x3200 .f32) (harg1 : arg1.IsWhole) (arg2 : Memref sig .tc .vmem S1x1 .f32) (harg2 : arg2.IsWhole) (arg3 : Memref sig .tc .vmem S1x1 .f32) (harg3 : arg3.IsWhole) (arg4 : Memref sig .tc .vmem S8x3200 .f32) (harg4 : arg4.IsWhole) (hc0 : ¬cond0_0 i) (hc1 : cond0_1 i) (hc2 : ¬cond0_2 i)
    (x0 : Vec F S256x3200 .f32) (xs0 : Vec F S8x3200 .f32) (y : S8x3200.Idx) :
    ∃ pc ∈ (kernelRun0_B c i arg1 harg1 arg2 harg2 arg3 harg3 arg4 harg4 hc0 hc1 hc2 x0 xs0).2.2.1, y ∈ pc.1.set :=
  View.cover_of_tiledL (kernelRun0_B c i arg1 harg1 arg2 harg2 arg3 harg3 arg4 harg4 hc0 hc1 hc2 x0 xs0).2.2.1 S8x3200.size (by sl_kernel_rfl) y

/-- What case B leaves in scratch `arg4`: its pieces read back over junk. -/
def sout0_B_0 (c : Dev nD) (i : grid0.Coords) (arg1 : Memref sig .tc .vmem S256x3200 .f32) (harg1 : arg1.IsWhole) (arg2 : Memref sig .tc .vmem S1x1 .f32) (harg2 : arg2.IsWhole) (arg3 : Memref sig .tc .vmem S1x1 .f32) (harg3 : arg3.IsWhole) (arg4 : Memref sig .tc .vmem S8x3200 .f32) (harg4 : arg4.IsWhole) (hc0 : ¬cond0_0 i) (hc1 : cond0_1 i) (hc2 : ¬cond0_2 i)
    (x0 : Vec F S256x3200 .f32) (xs0 : Vec F S8x3200 .f32) : Vec F S8x3200 .f32 :=
  VS0_0.read (Elt F) (VS0_0.writes (Elt F) VS0_0.junk (kernelRun0_B c i arg1 harg1 arg2 harg2 arg3 harg3 arg4 harg4 hc0 hc1 hc2 x0 xs0).2.2.1)

/-- Case C's pieces for output 1 tile its block (1 store of `S1x1`, checked by the kernel's evaluation: Lib/Ring.lean `Piece.tiledL`, linear in the pieces, through a loop's `@[irreducible]` trip theorem too), so they cover it. -/
theorem cover0_C_1 (c : Dev nD) (i : grid0.Coords) (arg1 : Memref sig .tc .vmem S256x3200 .f32) (harg1 : arg1.IsWhole) (arg2 : Memref sig .tc .vmem S1x1 .f32) (harg2 : arg2.IsWhole) (arg3 : Memref sig .tc .vmem S1x1 .f32) (harg3 : arg3.IsWhole) (arg4 : Memref sig .tc .vmem S8x3200 .f32) (harg4 : arg4.IsWhole) (hc0 : ¬cond0_0 i) (hc1 : cond0_1 i) (hc2 : cond0_2 i)
    (x0 : Vec F S256x3200 .f32) (xs0 : Vec F S8x3200 .f32) (y : S1x1.Idx) :
    ∃ pc ∈ (kernelRun0_C c i arg1 harg1 arg2 harg2 arg3 harg3 arg4 harg4 hc0 hc1 hc2 x0 xs0).1, y ∈ pc.1.set :=
  View.cover_of_tiledL (kernelRun0_C c i arg1 harg1 arg2 harg2 arg3 harg3 arg4 harg4 hc0 hc1 hc2 x0 xs0).1 S1x1.size (by sl_kernel_rfl) y

/-- What case C leaves in output 1's staging buffer: its pieces read back over junk. -/
def out0_C_1 (c : Dev nD) (i : grid0.Coords) (arg1 : Memref sig .tc .vmem S256x3200 .f32) (harg1 : arg1.IsWhole) (arg2 : Memref sig .tc .vmem S1x1 .f32) (harg2 : arg2.IsWhole) (arg3 : Memref sig .tc .vmem S1x1 .f32) (harg3 : arg3.IsWhole) (arg4 : Memref sig .tc .vmem S8x3200 .f32) (harg4 : arg4.IsWhole) (hc0 : ¬cond0_0 i) (hc1 : cond0_1 i) (hc2 : cond0_2 i)
    (x0 : Vec F S256x3200 .f32) (xs0 : Vec F S8x3200 .f32) : Vec F S1x1 .f32 :=
  VO0_1.read (Elt F) (VO0_1.writes (Elt F) VO0_1.junk (kernelRun0_C c i arg1 harg1 arg2 harg2 arg3 harg3 arg4 harg4 hc0 hc1 hc2 x0 xs0).1)

/-- Case C's pieces for output 2 tile its block (1 store of `S1x1`, checked by the kernel's evaluation: Lib/Ring.lean `Piece.tiledL`, linear in the pieces, through a loop's `@[irreducible]` trip theorem too), so they cover it. -/
theorem cover0_C_2 (c : Dev nD) (i : grid0.Coords) (arg1 : Memref sig .tc .vmem S256x3200 .f32) (harg1 : arg1.IsWhole) (arg2 : Memref sig .tc .vmem S1x1 .f32) (harg2 : arg2.IsWhole) (arg3 : Memref sig .tc .vmem S1x1 .f32) (harg3 : arg3.IsWhole) (arg4 : Memref sig .tc .vmem S8x3200 .f32) (harg4 : arg4.IsWhole) (hc0 : ¬cond0_0 i) (hc1 : cond0_1 i) (hc2 : cond0_2 i)
    (x0 : Vec F S256x3200 .f32) (xs0 : Vec F S8x3200 .f32) (y : S1x1.Idx) :
    ∃ pc ∈ (kernelRun0_C c i arg1 harg1 arg2 harg2 arg3 harg3 arg4 harg4 hc0 hc1 hc2 x0 xs0).2.1, y ∈ pc.1.set :=
  View.cover_of_tiledL (kernelRun0_C c i arg1 harg1 arg2 harg2 arg3 harg3 arg4 harg4 hc0 hc1 hc2 x0 xs0).2.1 S1x1.size (by sl_kernel_rfl) y

/-- What case C leaves in output 2's staging buffer: its pieces read back over junk. -/
def out0_C_2 (c : Dev nD) (i : grid0.Coords) (arg1 : Memref sig .tc .vmem S256x3200 .f32) (harg1 : arg1.IsWhole) (arg2 : Memref sig .tc .vmem S1x1 .f32) (harg2 : arg2.IsWhole) (arg3 : Memref sig .tc .vmem S1x1 .f32) (harg3 : arg3.IsWhole) (arg4 : Memref sig .tc .vmem S8x3200 .f32) (harg4 : arg4.IsWhole) (hc0 : ¬cond0_0 i) (hc1 : cond0_1 i) (hc2 : cond0_2 i)
    (x0 : Vec F S256x3200 .f32) (xs0 : Vec F S8x3200 .f32) : Vec F S1x1 .f32 :=
  VO0_2.read (Elt F) (VO0_2.writes (Elt F) VO0_2.junk (kernelRun0_C c i arg1 harg1 arg2 harg2 arg3 harg3 arg4 harg4 hc0 hc1 hc2 x0 xs0).2.1)

/-- Case C's pieces for scratch `arg4`, which the kernel carries between points, cover it: 1 piece of `S8x3200` tiling it . -/
theorem scover0_C_0 (c : Dev nD) (i : grid0.Coords) (arg1 : Memref sig .tc .vmem S256x3200 .f32) (harg1 : arg1.IsWhole) (arg2 : Memref sig .tc .vmem S1x1 .f32) (harg2 : arg2.IsWhole) (arg3 : Memref sig .tc .vmem S1x1 .f32) (harg3 : arg3.IsWhole) (arg4 : Memref sig .tc .vmem S8x3200 .f32) (harg4 : arg4.IsWhole) (hc0 : ¬cond0_0 i) (hc1 : cond0_1 i) (hc2 : cond0_2 i)
    (x0 : Vec F S256x3200 .f32) (xs0 : Vec F S8x3200 .f32) (y : S8x3200.Idx) :
    ∃ pc ∈ (kernelRun0_C c i arg1 harg1 arg2 harg2 arg3 harg3 arg4 harg4 hc0 hc1 hc2 x0 xs0).2.2.1, y ∈ pc.1.set :=
  View.cover_of_tiledL (kernelRun0_C c i arg1 harg1 arg2 harg2 arg3 harg3 arg4 harg4 hc0 hc1 hc2 x0 xs0).2.2.1 S8x3200.size (by sl_kernel_rfl) y

/-- What case C leaves in scratch `arg4`: its pieces read back over junk. -/
def sout0_C_0 (c : Dev nD) (i : grid0.Coords) (arg1 : Memref sig .tc .vmem S256x3200 .f32) (harg1 : arg1.IsWhole) (arg2 : Memref sig .tc .vmem S1x1 .f32) (harg2 : arg2.IsWhole) (arg3 : Memref sig .tc .vmem S1x1 .f32) (harg3 : arg3.IsWhole) (arg4 : Memref sig .tc .vmem S8x3200 .f32) (harg4 : arg4.IsWhole) (hc0 : ¬cond0_0 i) (hc1 : cond0_1 i) (hc2 : cond0_2 i)
    (x0 : Vec F S256x3200 .f32) (xs0 : Vec F S8x3200 .f32) : Vec F S8x3200 .f32 :=
  VS0_0.read (Elt F) (VS0_0.writes (Elt F) VS0_0.junk (kernelRun0_C c i arg1 harg1 arg2 harg2 arg3 harg3 arg4 harg4 hc0 hc1 hc2 x0 xs0).2.2.1)

/-! ## What the outputs hold after each point -/

/-- THE ACCUMULATION. What the outputs' staging buffers and the scratch the kernel carries between points hold after the body at position `n` (a tuple: the outputs in window order, then the scratch):
    the case the closed forms select at `n`, run at the point's memrefs and input blocks, an output it reads before covering
    at what this leaves at `n - 1` (its buffer is not written back between: `before0_W_κ`). An assignment of the conditions no point meets is no case (`False.elim`). -/
def outsAt0 (c : Dev nD) : (n : ℕ) → n < cfg0.N → Vec F S1x1 .f32 × Vec F S1x1 .f32 × Vec F S8x3200 .f32
  | 0, hn => (out0_A_1 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) scM0_0 (Memref.isWhole_whole _) ((hcond0_0 ⟨0, hn⟩).mpr (Nat.zero_mod _)) (fun h => (fun h => by (try dsimp only at h); omega) ((hcond0_1 ⟨0, hn⟩).mp h)) (fun h => (fun h => by (try dsimp only at h); omega) ((hcond0_2 ⟨0, hn⟩).mp h)) (iblk0 V c 0 ⟨0, hn⟩), out0_A_2 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) scM0_0 (Memref.isWhole_whole _) ((hcond0_0 ⟨0, hn⟩).mpr (Nat.zero_mod _)) (fun h => (fun h => by (try dsimp only at h); omega) ((hcond0_1 ⟨0, hn⟩).mp h)) (fun h => (fun h => by (try dsimp only at h); omega) ((hcond0_2 ⟨0, hn⟩).mp h)) (iblk0 V c 0 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) scM0_0 (Memref.isWhole_whole _) ((hcond0_0 ⟨0, hn⟩).mpr (Nat.zero_mod _)) (fun h => (fun h => by (try dsimp only at h); omega) ((hcond0_1 ⟨0, hn⟩).mp h)) (fun h => (fun h => by (try dsimp only at h); omega) ((hcond0_2 ⟨0, hn⟩).mp h)) (iblk0 V c 0 ⟨0, hn⟩))
  | n + 1, hn =>
    if h0 : (n + 1) % 8 = 0 then
      if h1 : 1 ≤ (n + 1) then
        False.elim (by have hN : n + 1 < 8 := lt_of_lt_of_eq hn (show cfg0.N = 8 from N_0); omega)
      else
        if h2 : (n + 1) % 8 = 7 then
          False.elim (by have hN : n + 1 < 8 := lt_of_lt_of_eq hn (show cfg0.N = 8 from N_0); omega)
        else
          (out0_A_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) ((hcond0_0 ⟨n + 1, hn⟩).mpr h0) (fun h => h1 ((hcond0_1 ⟨n + 1, hn⟩).mp h)) (fun h => h2 ((hcond0_2 ⟨n + 1, hn⟩).mp h)) (iblk0 V c 0 ⟨n + 1, hn⟩), out0_A_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) ((hcond0_0 ⟨n + 1, hn⟩).mpr h0) (fun h => h1 ((hcond0_1 ⟨n + 1, hn⟩).mp h)) (fun h => h2 ((hcond0_2 ⟨n + 1, hn⟩).mp h)) (iblk0 V c 0 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) ((hcond0_0 ⟨n + 1, hn⟩).mpr h0) (fun h => h1 ((hcond0_1 ⟨n + 1, hn⟩).mp h)) (fun h => h2 ((hcond0_2 ⟨n + 1, hn⟩).mp h)) (iblk0 V c 0 ⟨n + 1, hn⟩))
    else
      if h1 : 1 ≤ (n + 1) then
        if h2 : (n + 1) % 8 = 7 then
          (out0_C_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (fun h => h0 ((hcond0_0 ⟨n + 1, hn⟩).mp h)) ((hcond0_1 ⟨n + 1, hn⟩).mpr h1) ((hcond0_2 ⟨n + 1, hn⟩).mpr h2) (iblk0 V c 0 ⟨n + 1, hn⟩) (outsAt0 c n (Nat.lt_of_succ_lt hn)).2.2, out0_C_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (fun h => h0 ((hcond0_0 ⟨n + 1, hn⟩).mp h)) ((hcond0_1 ⟨n + 1, hn⟩).mpr h1) ((hcond0_2 ⟨n + 1, hn⟩).mpr h2) (iblk0 V c 0 ⟨n + 1, hn⟩) (outsAt0 c n (Nat.lt_of_succ_lt hn)).2.2, sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (fun h => h0 ((hcond0_0 ⟨n + 1, hn⟩).mp h)) ((hcond0_1 ⟨n + 1, hn⟩).mpr h1) ((hcond0_2 ⟨n + 1, hn⟩).mpr h2) (iblk0 V c 0 ⟨n + 1, hn⟩) (outsAt0 c n (Nat.lt_of_succ_lt hn)).2.2)
        else
          (out0_B_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (fun h => h0 ((hcond0_0 ⟨n + 1, hn⟩).mp h)) ((hcond0_1 ⟨n + 1, hn⟩).mpr h1) (fun h => h2 ((hcond0_2 ⟨n + 1, hn⟩).mp h)) (iblk0 V c 0 ⟨n + 1, hn⟩) (outsAt0 c n (Nat.lt_of_succ_lt hn)).2.2, out0_B_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (fun h => h0 ((hcond0_0 ⟨n + 1, hn⟩).mp h)) ((hcond0_1 ⟨n + 1, hn⟩).mpr h1) (fun h => h2 ((hcond0_2 ⟨n + 1, hn⟩).mp h)) (iblk0 V c 0 ⟨n + 1, hn⟩) (outsAt0 c n (Nat.lt_of_succ_lt hn)).2.2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (fun h => h0 ((hcond0_0 ⟨n + 1, hn⟩).mp h)) ((hcond0_1 ⟨n + 1, hn⟩).mpr h1) (fun h => h2 ((hcond0_2 ⟨n + 1, hn⟩).mp h)) (iblk0 V c 0 ⟨n + 1, hn⟩) (outsAt0 c n (Nat.lt_of_succ_lt hn)).2.2)
      else
        False.elim (by have hN : n + 1 < 8 := lt_of_lt_of_eq hn (show cfg0.N = 8 from N_0); omega)

/-- `outsAt0` at a point of case A: that case's contents. -/
theorem outsAt0_A (c : Dev nD) (t : Fin cfg0.N) (h0 : t.val % 8 = 0) (h1 : ¬1 ≤ t.val) (h2 : ¬t.val % 8 = 7) :
    outsAt0 V c t.val t.isLt = (out0_A_1 c (grid0.coords t) (ms0_0 t) (hs0_0 t) (ms0_1 t) (hs0_1 t) (ms0_2 t) (hs0_2 t) scM0_0 (Memref.isWhole_whole _) ((hcond0_0 t).mpr h0) (fun h => h1 ((hcond0_1 t).mp h)) (fun h => h2 ((hcond0_2 t).mp h)) (iblk0 V c 0 t), out0_A_2 c (grid0.coords t) (ms0_0 t) (hs0_0 t) (ms0_1 t) (hs0_1 t) (ms0_2 t) (hs0_2 t) scM0_0 (Memref.isWhole_whole _) ((hcond0_0 t).mpr h0) (fun h => h1 ((hcond0_1 t).mp h)) (fun h => h2 ((hcond0_2 t).mp h)) (iblk0 V c 0 t), sout0_A_0 c (grid0.coords t) (ms0_0 t) (hs0_0 t) (ms0_1 t) (hs0_1 t) (ms0_2 t) (hs0_2 t) scM0_0 (Memref.isWhole_whole _) ((hcond0_0 t).mpr h0) (fun h => h1 ((hcond0_1 t).mp h)) (fun h => h2 ((hcond0_2 t).mp h)) (iblk0 V c 0 t)) := by
  obtain ⟨n, hn⟩ := t
  cases n with
  | zero => exact rfl
  | succ n => exact (dif_pos h0).trans ((dif_neg h1).trans ((dif_neg h2).trans rfl))

/-- `outsAt0` at a point of case B: that case's contents, over what the point before left. -/
theorem outsAt0_B (c : Dev nD) (t : Fin cfg0.N) (h0 : ¬t.val % 8 = 0) (h1 : 1 ≤ t.val) (h2 : ¬t.val % 8 = 7) :
    outsAt0 V c t.val t.isLt = (out0_B_1 c (grid0.coords t) (ms0_0 t) (hs0_0 t) (ms0_1 t) (hs0_1 t) (ms0_2 t) (hs0_2 t) scM0_0 (Memref.isWhole_whole _) (fun h => h0 ((hcond0_0 t).mp h)) ((hcond0_1 t).mpr h1) (fun h => h2 ((hcond0_2 t).mp h)) (iblk0 V c 0 t) (outsAt0 V c (t.val - 1) (Nat.lt_of_le_of_lt (Nat.sub_le _ _) t.isLt)).2.2, out0_B_2 c (grid0.coords t) (ms0_0 t) (hs0_0 t) (ms0_1 t) (hs0_1 t) (ms0_2 t) (hs0_2 t) scM0_0 (Memref.isWhole_whole _) (fun h => h0 ((hcond0_0 t).mp h)) ((hcond0_1 t).mpr h1) (fun h => h2 ((hcond0_2 t).mp h)) (iblk0 V c 0 t) (outsAt0 V c (t.val - 1) (Nat.lt_of_le_of_lt (Nat.sub_le _ _) t.isLt)).2.2, sout0_B_0 c (grid0.coords t) (ms0_0 t) (hs0_0 t) (ms0_1 t) (hs0_1 t) (ms0_2 t) (hs0_2 t) scM0_0 (Memref.isWhole_whole _) (fun h => h0 ((hcond0_0 t).mp h)) ((hcond0_1 t).mpr h1) (fun h => h2 ((hcond0_2 t).mp h)) (iblk0 V c 0 t) (outsAt0 V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_pos h1).trans ((dif_neg h2).trans rfl))

/-- `outsAt0` at a point of case C: that case's contents, over what the point before left. -/
theorem outsAt0_C (c : Dev nD) (t : Fin cfg0.N) (h0 : ¬t.val % 8 = 0) (h1 : 1 ≤ t.val) (h2 : t.val % 8 = 7) :
    outsAt0 V c t.val t.isLt = (out0_C_1 c (grid0.coords t) (ms0_0 t) (hs0_0 t) (ms0_1 t) (hs0_1 t) (ms0_2 t) (hs0_2 t) scM0_0 (Memref.isWhole_whole _) (fun h => h0 ((hcond0_0 t).mp h)) ((hcond0_1 t).mpr h1) ((hcond0_2 t).mpr h2) (iblk0 V c 0 t) (outsAt0 V c (t.val - 1) (Nat.lt_of_le_of_lt (Nat.sub_le _ _) t.isLt)).2.2, out0_C_2 c (grid0.coords t) (ms0_0 t) (hs0_0 t) (ms0_1 t) (hs0_1 t) (ms0_2 t) (hs0_2 t) scM0_0 (Memref.isWhole_whole _) (fun h => h0 ((hcond0_0 t).mp h)) ((hcond0_1 t).mpr h1) ((hcond0_2 t).mpr h2) (iblk0 V c 0 t) (outsAt0 V c (t.val - 1) (Nat.lt_of_le_of_lt (Nat.sub_le _ _) t.isLt)).2.2, sout0_C_0 c (grid0.coords t) (ms0_0 t) (hs0_0 t) (ms0_1 t) (hs0_1 t) (ms0_2 t) (hs0_2 t) scM0_0 (Memref.isWhole_whole _) (fun h => h0 ((hcond0_0 t).mp h)) ((hcond0_1 t).mpr h1) ((hcond0_2 t).mpr h2) (iblk0 V c 0 t) (outsAt0 V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_pos h1).trans ((dif_pos h2).trans rfl))

/-- The region invariant before position `n` with a scratch the kernel CARRIES between points: before the first point the
    class's ; afterwards the scoped rest with each carried scratch
    at what the point before left in it (`outsAt0`'s scratch components), the others at anything, and the generator register
    at some state. -/
def PhiS0 (c : Dev nD) : (n : ℕ) → n ≤ cfg0.N → sProp 𝕄
  | 0, _ => PhiJ0 c
  | n + 1, hn => iprop(iprop(owns (c : Thread nD τ) scM0_0 fullShare ((outsAt0 V c n hn).2.2) ∗ rest0 c) ∗ (∃ r, prngReg c r))

theorem PhiS0_zero (c : Dev nD) (n : ℕ) (h : n ≤ cfg0.N) (hz : n = 0) : PhiS0 V c n h = PhiJ0 c := by
  subst hz; rfl

/-- After point `n` (before point `n + 1`): the carried scratch at that point's contents. -/
theorem PhiS0_succ (c : Dev nD) (n : ℕ) (hn : n < cfg0.N) :
    PhiS0 V c (n + 1) hn = iprop(iprop(owns (c : Thread nD τ) scM0_0 fullShare ((outsAt0 V c n hn).2.2) ∗ rest0 c) ∗ (∃ r, prngReg c r)) := rfl

/-- Before a point that is not the first: the carried scratch at what the point before left. -/
theorem PhiS0_pos (c : Dev nD) (n : ℕ) (h : n ≤ cfg0.N) (hz : n ≠ 0) :
    PhiS0 V c n h = iprop(iprop(owns (c : Thread nD τ) scM0_0 fullShare ((outsAt0 V c (n - 1) (by omega)).2.2) ∗ rest0 c) ∗ (∃ r, prngReg c r)) := by
  cases n with
  | zero => exact absurd rfl hz
  | succ n => rfl

/-! ## The pipeline's proof data -/

/-- The proof data of the one pipeline on core `c`: the arrays as the region finds them (`V`); after the body at
    point `t` each input's buffer at its block and the outputs' at `outsAt0`; the invariant the class's
    (`PhiS0`: the class's `ΦA` before the first point, then the scoped rest with the carried scratch at `outsAt0`'s component);
    nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => (outsAt0 V c t.val t.isLt).1
    | ⟨2, _⟩ => (outsAt0 V c t.val t.isLt).2.1
  Φ t := PhiS0 V c t.val (Nat.le_of_lt_succ t.isLt)
  q _ := fullShare
  owed _ := 0

/-- The proof data's arrays are the region-entry contents: the proof data's definition projected (`dsimp`), so that
    `V` — a fold over @main's host prefix, long for some programs — is never unfolded to check it. -/
theorem A_eq0 (c : Dev nD) (w : Fin cfg0.W) : (dat0 V c).A w = V c (Pipeline.arrRef spec0 w) := by
  dsimp only [dat0]

/-- The invariant at a point's start (the proof data at `t.castSucc`), restated at `t.val`. -/
theorem PhiS0_castSucc (c : Dev nD) (t : Fin cfg0.N) :
    (dat0 V c).Φ t.castSucc = PhiS0 V c t.val (Nat.le_of_lt t.isLt) := by
  dsimp only [dat0]; exact Pipeline.Dat.Φ_castSucc (PhiS0 V c) t

/-- What the body leaves, window by window (the proof data's `match` reduced by `dsimp`). -/
theorem after0_0 (c : Dev nD) (t : Fin cfg0.N) : (dat0 V c).after 0 t = iblk0 V c 0 t := by dsimp only [dat0]
theorem after0_1 (c : Dev nD) (t : Fin cfg0.N) : (dat0 V c).after 1 t = (outsAt0 V c t.val t.isLt).1 := by dsimp only [dat0]
theorem after0_2 (c : Dev nD) (t : Fin cfg0.N) : (dat0 V c).after 2 t = (outsAt0 V c t.val t.isLt).2.1 := by dsimp only [dat0]

/-- Each input's current staging buffer holds its block at every point, fetched there or not (`beforeK_W_of`). -/
theorem before0_0 (c : Dev nD) (t : Fin cfg0.N) (d) : (dat0 V c).before 0 t d = iblk0 V c 0 t :=
  before0_0_of V (dat0 V c) (A_eq0 V c 0) (after0_0 V c) t d

/-! ## The body obligation, at a generic point -/

/-- What the body is called with at point `t` , -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t)

set_option maxHeartbeats 4800000 in
/-- The body at any point: the inputs' memrefs hold their blocks (`before0_W`); the closed forms say which case the point is in (`by_cases`), an output the case reads before covering holds what the point before left (`before0_W_κ`); so the
    run applies; the invariant hands the body the carried scratch at what the point before left (`PhiS0_pos`; at anything at the first point, `PhiS0_zero`), the other scratch buffers and the generator register at some state, and takes the carried scratch back at this point's contents (`PhiS0_succ`, by `scoverK_κ_N`); the core owes nothing throughout. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).owesAt () t.succ = (dat0 V c).owesAt () t.castSucc from rfl]
  rw [show (dat0 V c).Φ t.succ = PhiS0 V c (t.val + 1) t.isLt from rfl, PhiS0_succ]
  have hN : t.val < 8 := lt_of_lt_of_eq t.isLt (show cfg0.N = 8 from N_0)
  by_cases h0 : t.val % 8 = 0
  · by_cases h1 : 1 ≤ t.val
    · exfalso; omega
    · by_cases h2 : t.val % 8 = 7
      · exfalso; omega
      · rw [show (dat0 V c).leavesExact 0 t = owns (c : Thread nD τ) (ms0_0 t) fullShare ((dat0 V c).after 0 t) from by
      unfold Dat.leavesExact; rw [liveAt0_0 t], after0_0]
        rw [Dat.leavesExact_idle (dat0 V c) 1 t (idleAt0_1_A t ((hcond0_0 t).mpr h0) (fun h => h1 ((hcond0_1 t).mp h)) (fun h => h2 ((hcond0_2 t).mp h))) (noFlush0_1_A t ((hcond0_0 t).mpr h0) (fun h => h1 ((hcond0_1 t).mp h)) (fun h => h2 ((hcond0_2 t).mp h)))]
        rw [Dat.leavesExact_idle (dat0 V c) 2 t (idleAt0_2_A t ((hcond0_0 t).mpr h0) (fun h => h1 ((hcond0_1 t).mp h)) (fun h => h2 ((hcond0_2 t).mp h))) (noFlush0_2_A t ((hcond0_0 t).mpr h0) (fun h => h1 ((hcond0_1 t).mp h)) (fun h => h2 ((hcond0_2 t).mp h)))]
        by_cases hz : t.val = 0
        · rw [PhiS0_castSucc V c t, PhiS0_zero V c _ _ hz, PhiJ0]
          rw [outsAt0_A V c t h0 h1 h2]
          unfold sout0_A_0; (try dsimp only)
          iintro ⟨⟨⟨HS0, HR⟩, Hg⟩, Ho, ⟨%d0, H0⟩, ⟨%d1, H1⟩, ⟨%d2, H2⟩⟩
          iapply ((kernelRun0_A c (grid0.coords t) _ _ _ _ _ _ _ _ ((hcond0_0 t).mpr h0) (fun h => h1 ((hcond0_1 t).mp h)) (fun h => h2 ((hcond0_2 t).mp h)) (iblk0 V c 0 t)).2.2.2 _ _ Set.univ _)
          isplitl [H0]; · iexact H0
          isplitl [H1]; · iexact H1
          isplitl [H2]; · iexact H2
          isplitl [HS0]; · iexact HS0
          iintro ⟨H0, H1, H2, ⟨%es0, HS0⟩⟩
          isplitl [HS0 HR Hg]
          · isplitl [HS0 HR]
            · isplitl [HS0]
              · unfold owns; iexists _; isplitr
                swap; · iexact HS0
                ipureintro; exact View.read_writes_of_cover _ _ _ _ _ (scover0_A_0 c _ _ _ _ _ _ _ _ _ _ _ _ _)
              iexact HR
            iexact Hg
          isplitl [Ho]; · iexact Ho
          isplitl [H0]; · iexact H0
          isplitl [H1]; · iexists _; iexact H1
          iexists _; iexact H2
        · exfalso; have hN : t.val < 8 := lt_of_lt_of_eq t.isLt (show cfg0.N = 8 from N_0); omega
  · by_cases h1 : 1 ≤ t.val
    · by_cases h2 : t.val % 8 = 7
      · rw [show (dat0 V c).leavesExact 0 t = owns (c : Thread nD τ) (ms0_0 t) fullShare ((dat0 V c).after 0 t) from by
      unfold Dat.leavesExact; rw [liveAt0_0 t], after0_0]
        rw [show (dat0 V c).leavesExact 1 t = owns (c : Thread nD τ) (ms0_1 t) fullShare ((dat0 V c).after 1 t) from by
      unfold Dat.leavesExact; rw [liveAt0_1_C t (fun h => h0 ((hcond0_0 t).mp h)) ((hcond0_1 t).mpr h1) ((hcond0_2 t).mpr h2)], after0_1]
        rw [show (dat0 V c).leavesExact 2 t = owns (c : Thread nD τ) (ms0_2 t) fullShare ((dat0 V c).after 2 t) from by
      unfold Dat.leavesExact; rw [liveAt0_2_C t (fun h => h0 ((hcond0_0 t).mp h)) ((hcond0_1 t).mpr h1) ((hcond0_2 t).mpr h2)], after0_2]
        by_cases hz : t.val = 0
        · exfalso; have hN : t.val < 8 := lt_of_lt_of_eq t.isLt (show cfg0.N = 8 from N_0); omega
        · rw [PhiS0_castSucc V c t, PhiS0_pos V c _ _ hz]
          rw [outsAt0_C V c t h0 h1 h2]
          unfold out0_C_1 out0_C_2 sout0_C_0; (try dsimp only)
          iintro ⟨⟨⟨HS0, HR⟩, Hg⟩, Ho, ⟨%d0, H0⟩, ⟨%d1, H1⟩, ⟨%d2, H2⟩⟩
          iapply ((kernelRun0_C c (grid0.coords t) _ _ _ _ _ _ _ _ (fun h => h0 ((hcond0_0 t).mp h)) ((hcond0_1 t).mpr h1) ((hcond0_2 t).mpr h2) (iblk0 V c 0 t) _).2.2.2 Set.univ _)
          isplitl [H0]; · iexact H0
          isplitl [H1]; · iexists _; iexact H1
          isplitl [H2]; · iexists _; iexact H2
          isplitl [HS0]; · iexact HS0
          iintro ⟨H0, ⟨%e1, H1⟩, ⟨%e2, H2⟩, ⟨%es0, HS0⟩⟩
          isplitl [HS0 HR Hg]
          · isplitl [HS0 HR]
            · isplitl [HS0]
              · unfold owns; iexists _; isplitr
                swap; · iexact HS0
                ipureintro; exact View.read_writes_of_cover _ _ _ _ _ (scover0_C_0 c _ _ _ _ _ _ _ _ _ _ _ _ _ _)
              iexact HR
            iexact Hg
          isplitl [Ho]; · iexact Ho
          isplitl [H0]; · iexact H0
          isplitl [H1]
          · unfold owns; iexists _; isplitr
            swap; · iexact H1
            ipureintro; exact View.read_writes_of_cover _ _ _ _ _ (cover0_C_1 c _ _ _ _ _ _ _ _ _ _ _ _ _ _)
          unfold owns; iexists _; isplitr
          swap; · iexact H2
          ipureintro; exact View.read_writes_of_cover _ _ _ _ _ (cover0_C_2 c _ _ _ _ _ _ _ _ _ _ _ _ _ _)
      · rw [show (dat0 V c).leavesExact 0 t = owns (c : Thread nD τ) (ms0_0 t) fullShare ((dat0 V c).after 0 t) from by
      unfold Dat.leavesExact; rw [liveAt0_0 t], after0_0]
        rw [Dat.leavesExact_idle (dat0 V c) 1 t (idleAt0_1_B t (fun h => h0 ((hcond0_0 t).mp h)) ((hcond0_1 t).mpr h1) (fun h => h2 ((hcond0_2 t).mp h))) (noFlush0_1_B t (fun h => h0 ((hcond0_0 t).mp h)) ((hcond0_1 t).mpr h1) (fun h => h2 ((hcond0_2 t).mp h)))]
        rw [Dat.leavesExact_idle (dat0 V c) 2 t (idleAt0_2_B t (fun h => h0 ((hcond0_0 t).mp h)) ((hcond0_1 t).mpr h1) (fun h => h2 ((hcond0_2 t).mp h))) (noFlush0_2_B t (fun h => h0 ((hcond0_0 t).mp h)) ((hcond0_1 t).mpr h1) (fun h => h2 ((hcond0_2 t).mp h)))]
        by_cases hz : t.val = 0
        · exfalso; have hN : t.val < 8 := lt_of_lt_of_eq t.isLt (show cfg0.N = 8 from N_0); omega
        · rw [PhiS0_castSucc V c t, PhiS0_pos V c _ _ hz]
          rw [outsAt0_B V c t h0 h1 h2]
          unfold sout0_B_0; (try dsimp only)
          iintro ⟨⟨⟨HS0, HR⟩, Hg⟩, Ho, ⟨%d0, H0⟩, ⟨%d1, H1⟩, ⟨%d2, H2⟩⟩
          iapply ((kernelRun0_B c (grid0.coords t) _ _ _ _ _ _ _ _ (fun h => h0 ((hcond0_0 t).mp h)) ((hcond0_1 t).mpr h1) (fun h => h2 ((hcond0_2 t).mp h)) (iblk0 V c 0 t) _).2.2.2 _ _ Set.univ _)
          isplitl [H0]; · iexact H0
          isplitl [H1]; · iexact H1
          isplitl [H2]; · iexact H2
          isplitl [HS0]; · iexact HS0
          iintro ⟨H0, H1, H2, ⟨%es0, HS0⟩⟩
          isplitl [HS0 HR Hg]
          · isplitl [HS0 HR]
            · isplitl [HS0]
              · unfold owns; iexists _; isplitr
                swap; · iexact HS0
                ipureintro; exact View.read_writes_of_cover _ _ _ _ _ (scover0_B_0 c _ _ _ _ _ _ _ _ _ _ _ _ _ _)
              iexact HR
            iexact Hg
          isplitl [Ho]; · iexact Ho
          isplitl [H0]; · iexact H0
          isplitl [H1]; · iexists _; iexact H1
          iexists _; iexact H2
    · exfalso; omega

/-- The body table's row at point `t`'s slots is the body as `bodyAt0` spells it. -/
theorem defs₀_row0 (t : Fin cfg0.N) :
    defs₀ (F := F) .tc cfg0.body (cfg0.bodyArgs t (cfg0.slots t)) = bodyAt0 t := by
  unfold defs₀; rw [Defs.onTc_tc]

/-- The library's body obligation, at every point: the body's triple restated . -/
theorem body_obligation0 (c : Dev nD) : BodyObligation (dat0 (F := F) V c) (defs₀ (F := F)) Variants.none () Set.univ := fun t => by
  rw [bigSep_W0, bigSep_W0, defs₀_row0]
  exact triple_restated (sound_body0 V c t) rfl .rfl fun _ => .rfl

/-- Before the first point the invariant is `PhiJ0`. -/
theorem hin0 (c : Dev nD) : (PhiJ0 c : sProp 𝕄) ⊢ (dat0 V c).Φ 0 := by
  rw [show (dat0 V c).Φ 0 = PhiS0 V c 0 (Nat.zero_le _) from rfl, PhiS0_zero V c 0 _ rfl]

/-- After the last point the scratch's named contents are forgotten. -/
theorem hout0 (c : Dev nD) : (dat0 V c).Φ (Fin.last cfg0.N) ⊢ (PhiJ0 c : sProp 𝕄) := by
  rw [show (dat0 V c).Φ (Fin.last cfg0.N) = PhiS0 V c cfg0.N (le_refl _) from rfl,
    PhiS0_pos V c _ _ (by have : cfg0.N = 8 := N_0; omega)]
  unfold PhiJ0
  iintro ⟨⟨HS0, HR⟩, Hg⟩
  isplitl [HS0 HR]
  · isplitl [HS0]
    · iexists _; iexact HS0
    iexact HR
  iexact Hg

end Cert.KernelIdeal.Hand

end
-- ==== Proof.IQuantW.lean ====
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the call is entered
variable (V : (c : Dev nD) → (b : Ref sig .tc) → Buf (Elt F) ((c : Thread nD τ).loc b))

/-! # REGION 1 of @main: custom_call 1, `cc1_quant_w` (pipeline 1), at the entry contents `V` -/

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses -/

abbrev r1_0 : Rect S256x3200 := Rect.unit (s := S256x3200) ![0, 0] S256x3200.size inb_S256x3200_S256x3200_0_0
abbrev r1_1 : Rect S1x1 := Rect.unit (s := S1x1) ![0, 0] S1x1.size inb_S1x1_S1x1_0_0

/-! ## What the body leaves in each output window's buffer -/

/-- Window 2's staging buffer after the body, from the input windows' blocks: its 1 store as pieces, LAST
    FIRST . -/
def out1_2 (x0 : Vec F S1x1 .f32) (x1 : Vec F S256x3200 .f32) : Vec F S256x3200 .fp8e4m3 :=
  View.canon [⟨r1_0, k1_pay1 (View.ld x1 r1_0) (View.ld x0 r1_1)⟩]

/-- Its stores tile the buffer (checked by evaluation), so they cover it. -/
theorem cover1_2 (p0 : Vec F S256x3200 .fp8e4m3) (y : S256x3200.Idx) :
    ∃ pc ∈ ([⟨r1_0, p0⟩] : List (View.Piece (Elt F) S256x3200 .fp8e4m3)), y ∈ pc.1.set :=
  View.cover_of_tiled [⟨r1_0, p0⟩] S256x3200.size (by rfl) y

/-! ## The body's triple -/

set_option maxHeartbeats 1000000 in
/-- The kernel body on whole staging memrefs, the inputs' at read contents `xW` and the outputs' at anything, runs to
    the continuation holding the inputs' as they were and each output's at `out1_W` of the inputs': the printed functions
    are their skeletons (`Gen.*_eq_skeleton`), which `sl_exec` runs , through every part call. -/
theorem sound_kernel1 (c : Dev nD) (E : Set ℕ) (i : grid1.Coords) (arg1 : Memref sig .tc .vmem S1x1 .f32) (harg1 : arg1.IsWhole) (arg2 : Memref sig .tc .vmem S256x3200 .f32) (harg2 : arg2.IsWhole) (arg3 : Memref sig .tc .vmem S256x3200 .fp8e4m3) (harg3 : arg3.IsWhole)
    (x0 : Vec F S1x1 .f32) (x1 : Vec F S256x3200 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out1_2 x0 x1)) -∗ K ⟨⟩))
      ⊢ wp frame (wpE (defs₀ (F := F)) Variants.none c none) E (cc1_quant_w i arg1 harg1 arg2 harg2 arg3 harg3) K := by
  simp only [cc1_quant_w_eq_skeleton]; unfold cc1_quant_w_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover1_2 _)

/-! ## The pipeline's proof data -/

/-- The proof data of pipeline 1 on core `c`: the arrays as the region finds them (`V`); after the body at
    point `t` each input's buffer at its block and each output's at `out1_W` of the input blocks; the invariant the
    class's ; nothing owed;
    full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1_2 (iblk1 V c 0 t) (iblk1 V c 1 t)
  Φ _ := Pipeline.ΦA spec1 c
  q _ := fullShare
  owed _ := 0

/-- The proof data's arrays are the region-entry contents, by projecting the definition (`dsimp`): a region record cites
    this for its arrays rather than have Lean unfold `V`, the fold through @main up to the region's entry. -/
theorem A_eq1 (c : Dev nD) (w : Fin cfg1.W) : (dat1 V c).A w = V c (Pipeline.arrRef spec1 w) := by
  dsimp only [dat1]

/-- What the body leaves, window by window (the proof data's `match` reduced by `dsimp`, never `rfl`: Lib/Pipeline.lean `Dat`). -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = out1_2 (iblk1 V c 0 t) (iblk1 V c 1 t) := by dsimp only [dat1]

/-- Each input's current staging buffer holds its block at every point, fetched there or not (`beforeK_W_of`). -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-! ## The body obligation, at a generic point -/

/-- What the body is called with at point `t` , -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

/-- The body at any point: the inputs' memrefs hold their blocks (`before1_W`), so `sound_kernel1` applies; the invariant and
    the core's `owes` pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (sound_kernel1 c Set.univ (grid1.coords t) _ _ _ _ _ _ (iblk1 V c 0 t) (iblk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body table's row at point `t`'s slots is the body as `bodyAt1` spells it. -/
theorem defs₀_row1 (t : Fin cfg1.N) :
    defs₀ (F := F) .tc cfg1.body (cfg1.bodyArgs t (cfg1.slots t)) = bodyAt1 t := by
  unfold defs₀; rw [Defs.onTc_tc]

/-- The library's body obligation, at every point: the body's triple restated . -/
theorem body_obligation1 (c : Dev nD) : BodyObligation (dat1 (F := F) V c) (defs₀ (F := F)) Variants.none () Set.univ := fun t => by
  rw [bigSep_W1, bigSep_W1, defs₀_row1]
  exact triple_restated (sound_body1 V c t) rfl .rfl fun _ => .rfl

end Cert.KernelIdeal.Hand

end
-- ==== Proof.IAmaxDyRun.lean ====
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # What `amax_dy`'s body does at the first point (case A), at a middle point (B) and at the last (C) -/

-- the TensorCore's buffer contents when the call is entered
variable (V : (c : Dev nD) → (b : Ref sig .tc) → Buf (Elt F) ((c : Thread nD τ).loc b))

/-! ## The windows' blocks -/

/-- Window `w`'s block at point `t`, read off its array as the region finds it (`V`). -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-! ## The body's branch conditions -/

/-- The condition of the body's `scf.if` 0 (`k2_h1`), from the grid coordinates (the skeleton's scalar
    chain substituted). -/
abbrev cond2_0 (i : grid2.Coords) : Prop := (Scalar.cmpi .ne (Scalar.extui (Scalar.cmpi .eq (BitVec.ofNat 32 (i 0).val) 0#32)) 0#32) = 1#1
/-- It holds at the first point only — by arithmetic of the point. -/
theorem hcond2_0 : ∀ t : Fin cfg2.N, cond2_0 (grid2.coords t) ↔ t.val % 16 = 0 :=
  (fun t => by
    have ht : t.val < 16 := Nat.lt_of_lt_of_eq t.isLt N_2
    have e0 : (grid2.coords t 0).val = t.val / 1 % 16 := Pipeline.Grid.coords_val t 0 (by decide) rfl
    simp only [cond2_0, e0]
    word_cmp
   : ∀ t : Fin grid2.N, cond2_0 (grid2.coords t) ↔ t.val % 16 = 0)

/-- The condition of the body's `scf.if` 1 (`k2_h2`), from the grid coordinates (the skeleton's scalar
    chain substituted). -/
abbrev cond2_1 (i : grid2.Coords) : Prop := (Scalar.cmpi .ne (Scalar.extui (Scalar.cmpi .sgt (BitVec.ofNat 32 (i 0).val) 0#32)) 0#32) = 1#1
/-- It holds at the points from point 1 on — decided over the grid. -/
theorem hcond2_1 : ∀ t : Fin cfg2.N, cond2_1 (grid2.coords t) ↔ 1 ≤ t.val :=
  (by decide +kernel : ∀ t : Fin grid2.N, cond2_1 (grid2.coords t) ↔ 1 ≤ t.val)

/-- The condition of the body's `scf.if` 2 (`k2_h3`), from the grid coordinates (the skeleton's scalar
    chain substituted). -/
abbrev cond2_2 (i : grid2.Coords) : Prop := k2_cond3 i = 1#1
/-- It holds at the last point only — by arithmetic of the point. -/
theorem hcond2_2 : ∀ t : Fin cfg2.N, cond2_2 (grid2.coords t) ↔ t.val % 16 = 15 :=
  (fun t => by
    have ht : t.val < 16 := Nat.lt_of_lt_of_eq t.isLt N_2
    have e0 : (grid2.coords t 0).val = t.val / 1 % 16 := Pipeline.Grid.coords_val t 0 (by decide) rfl
    simp only [cond2_2, k2_cond3, e0]
    word_cmp
   : ∀ t : Fin grid2.N, cond2_2 (grid2.coords t) ↔ t.val % 16 = 15)

/-! ## Where the windows are idle (the printed configuration's table `Cfg.idle`) -/

/-- Window 0 is never idle (an input). -/
theorem liveAt2_0 : ∀ t : Fin cfg2.N, cfg2.idle 0 (grid2.coords t) = false := fun _ => rfl
/-- At the points of case A the printed configuration (`Cfg.idle`) calls output 1 idle: the case stores nothing into it. -/
theorem idleAt2_1_A : ∀ t : Fin cfg2.N, cond2_0 (grid2.coords t) → ¬cond2_1 (grid2.coords t) → ¬cond2_2 (grid2.coords t) → cfg2.idle 1 (grid2.coords t) = true := by decide +kernel
/-- At the points of case A the pipeline does not write output 1's block back. -/
theorem noFlush2_1_A : ∀ t : Fin cfg2.N, cond2_0 (grid2.coords t) → ¬cond2_1 (grid2.coords t) → ¬cond2_2 (grid2.coords t) → (cfg2.win 1).flush t = false := by decide +kernel
/-- At the points of case B the printed configuration (`Cfg.idle`) calls output 1 idle: the case stores nothing into it. -/
theorem idleAt2_1_B : ∀ t : Fin cfg2.N, ¬cond2_0 (grid2.coords t) → cond2_1 (grid2.coords t) → ¬cond2_2 (grid2.coords t) → cfg2.idle 1 (grid2.coords t) = true := by decide +kernel
/-- At the points of case B the pipeline does not write output 1's block back. -/
theorem noFlush2_1_B : ∀ t : Fin cfg2.N, ¬cond2_0 (grid2.coords t) → cond2_1 (grid2.coords t) → ¬cond2_2 (grid2.coords t) → (cfg2.win 1).flush t = false := by decide +kernel
/-- At the points of case C the printed configuration (`Cfg.idle`) calls output 1 live: the case stores into it. -/
theorem liveAt2_1_C : ∀ t : Fin cfg2.N, ¬cond2_0 (grid2.coords t) → cond2_1 (grid2.coords t) → cond2_2 (grid2.coords t) → cfg2.idle 1 (grid2.coords t) = false := by decide +kernel
/-- At the points of case A the printed configuration (`Cfg.idle`) calls output 2 idle: the case stores nothing into it. -/
theorem idleAt2_2_A : ∀ t : Fin cfg2.N, cond2_0 (grid2.coords t) → ¬cond2_1 (grid2.coords t) → ¬cond2_2 (grid2.coords t) → cfg2.idle 2 (grid2.coords t) = true := by decide +kernel
/-- At the points of case A the pipeline does not write output 2's block back. -/
theorem noFlush2_2_A : ∀ t : Fin cfg2.N, cond2_0 (grid2.coords t) → ¬cond2_1 (grid2.coords t) → ¬cond2_2 (grid2.coords t) → (cfg2.win 2).flush t = false := by decide +kernel
/-- At the points of case B the printed configuration (`Cfg.idle`) calls output 2 idle: the case stores nothing into it. -/
theorem idleAt2_2_B : ∀ t : Fin cfg2.N, ¬cond2_0 (grid2.coords t) → cond2_1 (grid2.coords t) → ¬cond2_2 (grid2.coords t) → cfg2.idle 2 (grid2.coords t) = true := by decide +kernel
/-- At the points of case B the pipeline does not write output 2's block back. -/
theorem noFlush2_2_B : ∀ t : Fin cfg2.N, ¬cond2_0 (grid2.coords t) → cond2_1 (grid2.coords t) → ¬cond2_2 (grid2.coords t) → (cfg2.win 2).flush t = false := by decide +kernel
/-- At the points of case C the printed configuration (`Cfg.idle`) calls output 2 live: the case stores into it. -/
theorem liveAt2_2_C : ∀ t : Fin cfg2.N, ¬cond2_0 (grid2.coords t) → cond2_1 (grid2.coords t) → cond2_2 (grid2.coords t) → cfg2.idle 2 (grid2.coords t) = false := by decide +kernel

/-! ## The kernel body on any staging memrefs: a subtype the run finds -/

/-- One staging buffer of output window 1, through which its contents are stated (`View.read_writes_of_cover`: the
    choice does not matter). -/
abbrev VO2_1 : View sig .tc .vmem S1x1 .f32 := (Memref.whole cc2_stg1_0 : Memref sig .tc .vmem S1x1 .f32).view
/-- One staging buffer of output window 2, through which its contents are stated (`View.read_writes_of_cover`: the
    choice does not matter). -/
abbrev VO2_2 : View sig .tc .vmem S1x1 .f32 := (Memref.whole cc2_stg2_0 : Memref sig .tc .vmem S1x1 .f32).view
/-- Each window's current staging memref at point `t`, spelled as the pipeline passes it (`bodyAt2`), and its wholeness. -/
abbrev ms2_0 (t : Fin cfg2.N) : Memref sig .tc .vmem S1024x3200 .bf16 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S1x1 .f32 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S1x1 .f32 := win2_2.stage (cfg2.slots t 2)
abbrev hs2_2 (t : Fin cfg2.N) : (ms2_2 t).IsWhole := hstage2_2 ((cfg2.slots t 2).cast nbuf2_2)
/-- The scratch operands: whole scoped buffers of the kernel's own, passed beside the windows. -/
abbrev scM2_0 : Memref sig .tc .vmem S16x3200 .bf16 := Memref.whole cc2_scratch0
/-- The scratch `arg4` the kernel carries between points, as a view: what it holds is stated through it. -/
abbrev VS2_0 : View sig .tc .vmem S16x3200 .bf16 := scM2_0.view

/-- The scoped buffers of the other calls: this call carries them along untouched. -/
def rest2 (c : Dev nD) : sProp 𝕄 := iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_scratch0), ((c : Thread nD τ).loc cc0_scratch0) ↦{fullShare} f) ∗ (∃ f : Buf (Elt F) ((c : Thread nD τ).loc cc1_stg0_0), ((c : Thread nD τ).loc cc1_stg0_0) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc3_stg0_0), ((c : Thread nD τ).loc cc3_stg0_0) ↦{fullShare} f) ∗ (∃ f : Buf (Elt F) ((c : Thread nD τ).loc cc3_stg1_0), ((c : Thread nD τ).loc cc3_stg1_0) ↦{fullShare} f) ∗ (∃ f : Buf (Elt F) ((c : Thread nD τ).loc cc3_stg2_0), ((c : Thread nD τ).loc cc3_stg2_0) ↦{fullShare} f) ∗ (∃ f : Buf (Elt F) ((c : Thread nD τ).loc cc3_stg3_0), ((c : Thread nD τ).loc cc3_stg3_0) ↦{fullShare} f) ∗ (∃ f : Buf (Elt F) ((c : Thread nD τ).loc cc3_stg3_1), ((c : Thread nD τ).loc cc3_stg3_1) ↦{fullShare} f) ∗ (∃ f : Buf (Elt F) ((c : Thread nD τ).loc cc3_stg4_0), ((c : Thread nD τ).loc cc3_stg4_0) ↦{fullShare} f) ∗ (∃ f : Buf (Elt F) ((c : Thread nD τ).loc cc3_stg5_0), ((c : Thread nD τ).loc cc3_stg5_0) ↦{fullShare} f) ∗ (∃ f : Buf (Elt F) ((c : Thread nD τ).loc cc3_stg5_1), ((c : Thread nD τ).loc cc3_stg5_1) ↦{fullShare} f) ∗ (∃ f : Buf (Elt F) ((c : Thread nD τ).loc cc3_stg6_0), ((c : Thread nD τ).loc cc3_stg6_0) ↦{fullShare} f) ∗ (∃ f : Buf (Elt F) ((c : Thread nD τ).loc cc3_stg6_1), ((c : Thread nD τ).loc cc3_stg6_1) ↦{fullShare} f))

/-- Before the first point: the scratch at anything, the other calls' scoped buffers, and the generator register. -/
def PhiJ2 (c : Dev nD) : sProp 𝕄 :=
  iprop(iprop((∃ d, owns (c : Thread nD τ) scM2_0 fullShare d) ∗ rest2 c) ∗ (∃ r, prngReg c r))

/-- What the launch hands the call gives the invariant before the first point. -/
theorem PhiJ2_of (c : Dev nD) : (Pipeline.ΦA spec2 c : sProp 𝕄) ⊢ PhiJ2 c := by
  unfold Pipeline.ΦA PhiJ2 rest2; rw [scopedRest2_eq]; simp only [scM2_0, owns_whole]
  iintro ⟨⟨R0, R1, R2, R3, R4, R5, R6, R7, R8, R9, R10, R11, R12, R13, R14, R15, R16, R17, R18, R19, R20⟩, Hg⟩
  isplitr [Hg]
  · isplitl [R10]; · iexact R10
    isplitl [R0]; · iexact R0
    isplitl [R1]; · iexact R1
    isplitl [R2]; · iexact R2
    isplitl [R3]; · iexact R3
    isplitl [R4]; · iexact R4
    isplitl [R5]; · iexact R5
    isplitl [R6]; · iexact R6
    isplitl [R7]; · iexact R7
    isplitl [R8]; · iexact R8
    isplitl [R9]; · iexact R9
    isplitl [R11]; · iexact R11
    isplitl [R12]; · iexact R12
    isplitl [R13]; · iexact R13
    isplitl [R14]; · iexact R14
    isplitl [R15]; · iexact R15
    isplitl [R16]; · iexact R16
    isplitl [R17]; · iexact R17
    isplitl [R18]; · iexact R18
    isplitl [R19]; · iexact R19
    iexact R20
  iexact Hg

/-- And back. -/
theorem PhiJ2_to (c : Dev nD) : (PhiJ2 c : sProp 𝕄) ⊢ Pipeline.ΦA spec2 c := by
  unfold Pipeline.ΦA PhiJ2 rest2; rw [scopedRest2_eq]; simp only [scM2_0, owns_whole]
  iintro ⟨⟨R10, R0, R1, R2, R3, R4, R5, R6, R7, R8, R9, R11, R12, R13, R14, R15, R16, R17, R18, R19, R20⟩, Hg⟩
  isplitr [Hg]
  · skip
    isplitl [R0]; · iexact R0
    isplitl [R1]; · iexact R1
    isplitl [R2]; · iexact R2
    isplitl [R3]; · iexact R3
    isplitl [R4]; · iexact R4
    isplitl [R5]; · iexact R5
    isplitl [R6]; · iexact R6
    isplitl [R7]; · iexact R7
    isplitl [R8]; · iexact R8
    isplitl [R9]; · iexact R9
    isplitl [R10]; · iexact R10
    isplitl [R11]; · iexact R11
    isplitl [R12]; · iexact R12
    isplitl [R13]; · iexact R13
    isplitl [R14]; · iexact R14
    isplitl [R15]; · iexact R15
    isplitl [R16]; · iexact R16
    isplitl [R17]; · iexact R17
    isplitl [R18]; · iexact R18
    isplitl [R19]; · iexact R19
    iexact R20
  iexact Hg

-- (the run's proof term is large: the definition's epilogue — `abstractNestedProofs` — walks it past the default budget)
set_option maxHeartbeats 1000000 in
/-- What the body's stores leave in each output's staging memref, as pieces (last first) IN CASE A (`scf.if` 0 taken, `scf.if` 1 not taken, `scf.if` 2 not taken: points 0), WITH the
    proof that on whole staging memrefs — the inputs' at their contents, the outputs it leaves idle (1, 2: no store, the window idle and not written back at the case's points) at contents `xi·` handed back untouched, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs  — each `scf.if` decided by the case's hypotheses `hc·`; the pieces are
    the witness that run finds (assigned when `iexact` hands the buffer to the continuation). -/
noncomputable def kernelRun2_A (c : Dev nD) (i : grid2.Coords) (arg1 : Memref sig .tc .vmem S1024x3200 .bf16) (harg1 : arg1.IsWhole) (arg2 : Memref sig .tc .vmem S1x1 .f32) (harg2 : arg2.IsWhole) (arg3 : Memref sig .tc .vmem S1x1 .f32) (harg3 : arg3.IsWhole) (arg4 : Memref sig .tc .vmem S16x3200 .bf16) (harg4 : arg4.IsWhole) (hc0 : cond2_0 i) (hc1 : ¬cond2_1 i) (hc2 : ¬cond2_2 i)
    (x0 : Vec F S1024x3200 .bf16) :
    Σ' (L1 : List (View.Piece (Elt F) S1x1 .f32)), Σ' (L2 : List (View.Piece (Elt F) S1x1 .f32)), { LS0 : List (View.Piece (Elt F) S16x3200 .bf16) //
      ∀ (xi1 : Vec F S1x1 .f32) (xi2 : Vec F S1x1 .f32) (E : Set ℕ) (K : PUnit → sProp 𝕄),
        iprop(owns (c : Thread nD τ) arg1 fullShare x0 ∗ owns (c : Thread nD τ) arg2 fullShare xi1 ∗ owns (c : Thread nD τ) arg3 fullShare xi2 ∗ (∃ d, owns (c : Thread nD τ) arg4 fullShare d)
            ∗ (iprop(owns (c : Thread nD τ) arg1 fullShare x0 ∗ owns (c : Thread nD τ) arg2 fullShare xi1 ∗ owns (c : Thread nD τ) arg3 fullShare xi2 ∗ (∃ f, arg4.view.loc (c : Thread nD τ) ↦[arg4.view.set]{fullShare} arg4.view.writes (Elt F) f LS0)) -∗ K ⟨⟩))
          ⊢ wp frame (wpE (defs₀ (F := F)) Variants.none c none) E (cc2_amax_dy i arg1 harg1 arg2 harg2 arg3 harg3 arg4 harg4) K } := by
  refine ⟨[], [], ?_, fun xi1 xi2 E K => ?run⟩
  case run =>
    simp only [cc2_amax_dy_eq_skeleton]; unfold cc2_amax_dy_skel
    unfold owns
    iintro ⟨⟨%f0, %hf0, H0⟩, ⟨%f1, %hf1, H1⟩, ⟨%f2, %hf2, H2⟩, ⟨%ds0, %fs0, -, HS0⟩, Hk⟩
    obtain rfl := harg1.eq_unread hf0; obtain rfl := harg2.eq_unread hf1; obtain rfl := harg3.eq_unread hf2
    sl_exec (disch := first | sl_exact hc0 | sl_exact hc1 | sl_exact hc2)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    iexists _; iexact HS0

-- (the run's proof term is large: the definition's epilogue — `abstractNestedProofs` — walks it past the default budget)
set_option maxHeartbeats 1000000 in
/-- What the body's stores leave in each output's staging memref, as pieces (last first) IN CASE B (`scf.if` 0 not taken, `scf.if` 1 taken, `scf.if` 2 not taken: points 1, 2, … 14: 14 of 16), WITH the
    proof that on whole staging memrefs — the inputs' at their contents, the outputs it leaves idle (1, 2: no store, the window idle and not written back at the case's points) at contents `xi·` handed back untouched, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs  — each `scf.if` decided by the case's hypotheses `hc·`; the pieces are
    the witness that run finds (assigned when `iexact` hands the buffer to the continuation). -/
noncomputable def kernelRun2_B (c : Dev nD) (i : grid2.Coords) (arg1 : Memref sig .tc .vmem S1024x3200 .bf16) (harg1 : arg1.IsWhole) (arg2 : Memref sig .tc .vmem S1x1 .f32) (harg2 : arg2.IsWhole) (arg3 : Memref sig .tc .vmem S1x1 .f32) (harg3 : arg3.IsWhole) (arg4 : Memref sig .tc .vmem S16x3200 .bf16) (harg4 : arg4.IsWhole) (hc0 : ¬cond2_0 i) (hc1 : cond2_1 i) (hc2 : ¬cond2_2 i)
    (x0 : Vec F S1024x3200 .bf16) (xs0 : Vec F S16x3200 .bf16) :
    Σ' (L1 : List (View.Piece (Elt F) S1x1 .f32)), Σ' (L2 : List (View.Piece (Elt F) S1x1 .f32)), { LS0 : List (View.Piece (Elt F) S16x3200 .bf16) //
      ∀ (xi1 : Vec F S1x1 .f32) (xi2 : Vec F S1x1 .f32) (E : Set ℕ) (K : PUnit → sProp 𝕄),
        iprop(owns (c : Thread nD τ) arg1 fullShare x0 ∗ owns (c : Thread nD τ) arg2 fullShare xi1 ∗ owns (c : Thread nD τ) arg3 fullShare xi2 ∗ owns (c : Thread nD τ) arg4 fullShare xs0
            ∗ (iprop(owns (c : Thread nD τ) arg1 fullShare x0 ∗ owns (c : Thread nD τ) arg2 fullShare xi1 ∗ owns (c : Thread nD τ) arg3 fullShare xi2 ∗ (∃ f, arg4.view.loc (c : Thread nD τ) ↦[arg4.view.set]{fullShare} arg4.view.writes (Elt F) f LS0)) -∗ K ⟨⟩))
          ⊢ wp frame (wpE (defs₀ (F := F)) Variants.none c none) E (cc2_amax_dy i arg1 harg1 arg2 harg2 arg3 harg3 arg4 harg4) K } := by
  refine ⟨[], [], ?_, fun xi1 xi2 E K => ?run⟩
  case run =>
    simp only [cc2_amax_dy_eq_skeleton]; unfold cc2_amax_dy_skel
    unfold owns
    iintro ⟨⟨%f0, %hf0, H0⟩, ⟨%f1, %hf1, H1⟩, ⟨%f2, %hf2, H2⟩, ⟨%fs0, %hfs0, HS0⟩, Hk⟩
    obtain rfl := harg1.eq_unread hf0; obtain rfl := harg2.eq_unread hf1; obtain rfl := harg3.eq_unread hf2; obtain rfl := harg4.eq_unread hfs0
    sl_exec (disch := first | sl_exact hc0 | sl_exact hc1 | sl_exact hc2)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    iexists _; iexact HS0

-- (the run's proof term is large: the definition's epilogue — `abstractNestedProofs` — walks it past the default budget)
set_option maxHeartbeats 1000000 in
/-- What the body's stores leave in each output's staging memref, as pieces (last first) IN CASE C (`scf.if` 0 not taken, `scf.if` 1 taken, `scf.if` 2 taken: points 15), WITH the
    proof that on whole staging memrefs — the inputs' at their contents, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs  — each `scf.if` decided by the case's hypotheses `hc·`; the pieces are
    the witness that run finds (assigned when `iexact` hands the buffer to the continuation). -/
noncomputable def kernelRun2_C (c : Dev nD) (i : grid2.Coords) (arg1 : Memref sig .tc .vmem S1024x3200 .bf16) (harg1 : arg1.IsWhole) (arg2 : Memref sig .tc .vmem S1x1 .f32) (harg2 : arg2.IsWhole) (arg3 : Memref sig .tc .vmem S1x1 .f32) (harg3 : arg3.IsWhole) (arg4 : Memref sig .tc .vmem S16x3200 .bf16) (harg4 : arg4.IsWhole) (hc0 : ¬cond2_0 i) (hc1 : cond2_1 i) (hc2 : cond2_2 i)
    (x0 : Vec F S1024x3200 .bf16) (xs0 : Vec F S16x3200 .bf16) :
    Σ' (L1 : List (View.Piece (Elt F) S1x1 .f32)), Σ' (L2 : List (View.Piece (Elt F) S1x1 .f32)), { LS0 : List (View.Piece (Elt F) S16x3200 .bf16) //
      ∀ (E : Set ℕ) (K : PUnit → sProp 𝕄),
        iprop(owns (c : Thread nD τ) arg1 fullShare x0 ∗ (∃ d, owns (c : Thread nD τ) arg2 fullShare d) ∗ (∃ d, owns (c : Thread nD τ) arg3 fullShare d) ∗ owns (c : Thread nD τ) arg4 fullShare xs0
            ∗ (iprop(owns (c : Thread nD τ) arg1 fullShare x0 ∗ (∃ f, arg2.view.loc (c : Thread nD τ) ↦[arg2.view.set]{fullShare} arg2.view.writes (Elt F) f L1) ∗ (∃ f, arg3.view.loc (c : Thread nD τ) ↦[arg3.view.set]{fullShare} arg3.view.writes (Elt F) f L2) ∗ (∃ f, arg4.view.loc (c : Thread nD τ) ↦[arg4.view.set]{fullShare} arg4.view.writes (Elt F) f LS0)) -∗ K ⟨⟩))
          ⊢ wp frame (wpE (defs₀ (F := F)) Variants.none c none) E (cc2_amax_dy i arg1 harg1 arg2 harg2 arg3 harg3 arg4 harg4) K } := by
  refine ⟨?_, ?_, ?_, fun E K => ?run⟩
  case run =>
    simp only [cc2_amax_dy_eq_skeleton]; unfold cc2_amax_dy_skel
    simp only [k2_part1_eq_skeleton]
    unfold owns
    iintro ⟨⟨%f0, %hf0, H0⟩, ⟨%d1, %f1, -, H1⟩, ⟨%d2, %f2, -, H2⟩, ⟨%fs0, %hfs0, HS0⟩, Hk⟩
    obtain rfl := harg1.eq_unread hf0; obtain rfl := harg4.eq_unread hfs0
    sl_exec (disch := first | sl_exact hc0 | sl_exact hc1 | sl_exact hc2)
    sl_step
    iapply Hk
    isplitl [H0]
    · iexists _; isplitr; · ipureintro; exact harg1.read_unread _
      iexact H0
    isplitl [H1]; · iexists _; iexact H1
    isplitl [H2]; · iexists _; iexact H2
    iexists _; iexact HS0

end Cert.KernelIdeal.Hand

end
-- ==== Proof.IAmaxDy.lean ====
module

public import proofs.«01_k».proof.Proof.IAmaxDyRun

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # What `amax_dy` leaves after each point, and its body's obligation -/

-- the TensorCore's buffer contents when the call is entered
variable (V : (c : Dev nD) → (b : Ref sig .tc) → Buf (Elt F) ((c : Thread nD τ).loc b))

/-- Case A stores nothing into output 1 (the window is idle at its points and not written back there):
    no pieces — a placeholder (junk read back) that nothing consults, since at these points the window is neither
    written back nor read at the next point . -/
def out2_A_1 (c : Dev nD) (i : grid2.Coords) (arg1 : Memref sig .tc .vmem S1024x3200 .bf16) (harg1 : arg1.IsWhole) (arg2 : Memref sig .tc .vmem S1x1 .f32) (harg2 : arg2.IsWhole) (arg3 : Memref sig .tc .vmem S1x1 .f32) (harg3 : arg3.IsWhole) (arg4 : Memref sig .tc .vmem S16x3200 .bf16) (harg4 : arg4.IsWhole) (hc0 : cond2_0 i) (hc1 : ¬cond2_1 i) (hc2 : ¬cond2_2 i)
    (x0 : Vec F S1024x3200 .bf16) : Vec F S1x1 .f32 :=
  VO2_1.read (Elt F) (VO2_1.writes (Elt F) VO2_1.junk (kernelRun2_A c i arg1 harg1 arg2 harg2 arg3 harg3 arg4 harg4 hc0 hc1 hc2 x0).1)

/-- Case A stores nothing into output 2 (the window is idle at its points and not written back there):
    no pieces — a placeholder (junk read back) that nothing consults, since at these points the window is neither
    written back nor read at the next point . -/
def out2_A_2 (c : Dev nD) (i : grid2.Coords) (arg1 : Memref sig .tc .vmem S1024x3200 .bf16) (harg1 : arg1.IsWhole) (arg2 : Memref sig .tc .vmem S1x1 .f32) (harg2 : arg2.IsWhole) (arg3 : Memref sig .tc .vmem S1x1 .f32) (harg3 : arg3.IsWhole) (arg4 : Memref sig .tc .vmem S16x3200 .bf16) (harg4 : arg4.IsWhole) (hc0 : cond2_0 i) (hc1 : ¬cond2_1 i) (hc2 : ¬cond2_2 i)
    (x0 : Vec F S1024x3200 .bf16) : Vec F S1x1 .f32 :=
  VO2_2.read (Elt F) (VO2_2.writes (Elt F) VO2_2.junk (kernelRun2_A c i arg1 harg1 arg2 harg2 arg3 harg3 arg4 harg4 hc0 hc1 hc2 x0).2.1)

/-- Case A's pieces for scratch `arg4`, which the kernel carries between points, cover it: 1 piece of `S16x3200` tiling it . -/
theorem scover2_A_0 (c : Dev nD) (i : grid2.Coords) (arg1 : Memref sig .tc .vmem S1024x3200 .bf16) (harg1 : arg1.IsWhole) (arg2 : Memref sig .tc .vmem S1x1 .f32) (harg2 : arg2.IsWhole) (arg3 : Memref sig .tc .vmem S1x1 .f32) (harg3 : arg3.IsWhole) (arg4 : Memref sig .tc .vmem S16x3200 .bf16) (harg4 : arg4.IsWhole) (hc0 : cond2_0 i) (hc1 : ¬cond2_1 i) (hc2 : ¬cond2_2 i)
    (x0 : Vec F S1024x3200 .bf16) (y : S16x3200.Idx) :
    ∃ pc ∈ (kernelRun2_A c i arg1 harg1 arg2 harg2 arg3 harg3 arg4 harg4 hc0 hc1 hc2 x0).2.2.1, y ∈ pc.1.set :=
  View.cover_of_tiledL (kernelRun2_A c i arg1 harg1 arg2 harg2 arg3 harg3 arg4 harg4 hc0 hc1 hc2 x0).2.2.1 S16x3200.size (by sl_kernel_rfl) y

/-- What case A leaves in scratch `arg4`: its pieces read back over junk. -/
def sout2_A_0 (c : Dev nD) (i : grid2.Coords) (arg1 : Memref sig .tc .vmem S1024x3200 .bf16) (harg1 : arg1.IsWhole) (arg2 : Memref sig .tc .vmem S1x1 .f32) (harg2 : arg2.IsWhole) (arg3 : Memref sig .tc .vmem S1x1 .f32) (harg3 : arg3.IsWhole) (arg4 : Memref sig .tc .vmem S16x3200 .bf16) (harg4 : arg4.IsWhole) (hc0 : cond2_0 i) (hc1 : ¬cond2_1 i) (hc2 : ¬cond2_2 i)
    (x0 : Vec F S1024x3200 .bf16) : Vec F S16x3200 .bf16 :=
  VS2_0.read (Elt F) (VS2_0.writes (Elt F) VS2_0.junk (kernelRun2_A c i arg1 harg1 arg2 harg2 arg3 harg3 arg4 harg4 hc0 hc1 hc2 x0).2.2.1)

/-- Case B stores nothing into output 1 (the window is idle at its points and not written back there):
    no pieces — a placeholder (junk read back) that nothing consults, since at these points the window is neither
    written back nor read at the next point . -/
def out2_B_1 (c : Dev nD) (i : grid2.Coords) (arg1 : Memref sig .tc .vmem S1024x3200 .bf16) (harg1 : arg1.IsWhole) (arg2 : Memref sig .tc .vmem S1x1 .f32) (harg2 : arg2.IsWhole) (arg3 : Memref sig .tc .vmem S1x1 .f32) (harg3 : arg3.IsWhole) (arg4 : Memref sig .tc .vmem S16x3200 .bf16) (harg4 : arg4.IsWhole) (hc0 : ¬cond2_0 i) (hc1 : cond2_1 i) (hc2 : ¬cond2_2 i)
    (x0 : Vec F S1024x3200 .bf16) (xs0 : Vec F S16x3200 .bf16) : Vec F S1x1 .f32 :=
  VO2_1.read (Elt F) (VO2_1.writes (Elt F) VO2_1.junk (kernelRun2_B c i arg1 harg1 arg2 harg2 arg3 harg3 arg4 harg4 hc0 hc1 hc2 x0 xs0).1)

/-- Case B stores nothing into output 2 (the window is idle at its points and not written back there):
    no pieces — a placeholder (junk read back) that nothing consults, since at these points the window is neither
    written back nor read at the next point . -/
def out2_B_2 (c : Dev nD) (i : grid2.Coords) (arg1 : Memref sig .tc .vmem S1024x3200 .bf16) (harg1 : arg1.IsWhole) (arg2 : Memref sig .tc .vmem S1x1 .f32) (harg2 : arg2.IsWhole) (arg3 : Memref sig .tc .vmem S1x1 .f32) (harg3 : arg3.IsWhole) (arg4 : Memref sig .tc .vmem S16x3200 .bf16) (harg4 : arg4.IsWhole) (hc0 : ¬cond2_0 i) (hc1 : cond2_1 i) (hc2 : ¬cond2_2 i)
    (x0 : Vec F S1024x3200 .bf16) (xs0 : Vec F S16x3200 .bf16) : Vec F S1x1 .f32 :=
  VO2_2.read (Elt F) (VO2_2.writes (Elt F) VO2_2.junk (kernelRun2_B c i arg1 harg1 arg2 harg2 arg3 harg3 arg4 harg4 hc0 hc1 hc2 x0 xs0).2.1)

/-- Case B's pieces for scratch `arg4`, which the kernel carries between points, cover it: 1 piece of `S16x3200` tiling it . -/
theorem scover2_B_0 (c : Dev nD) (i : grid2.Coords) (arg1 : Memref sig .tc .vmem S1024x3200 .bf16) (harg1 : arg1.IsWhole) (arg2 : Memref sig .tc .vmem S1x1 .f32) (harg2 : arg2.IsWhole) (arg3 : Memref sig .tc .vmem S1x1 .f32) (harg3 : arg3.IsWhole) (arg4 : Memref sig .tc .vmem S16x3200 .bf16) (harg4 : arg4.IsWhole) (hc0 : ¬cond2_0 i) (hc1 : cond2_1 i) (hc2 : ¬cond2_2 i)
    (x0 : Vec F S1024x3200 .bf16) (xs0 : Vec F S16x3200 .bf16) (y : S16x3200.Idx) :
    ∃ pc ∈ (kernelRun2_B c i arg1 harg1 arg2 harg2 arg3 harg3 arg4 harg4 hc0 hc1 hc2 x0 xs0).2.2.1, y ∈ pc.1.set :=
  View.cover_of_tiledL (kernelRun2_B c i arg1 harg1 arg2 harg2 arg3 harg3 arg4 harg4 hc0 hc1 hc2 x0 xs0).2.2.1 S16x3200.size (by sl_kernel_rfl) y

/-- What case B leaves in scratch `arg4`: its pieces read back over junk. -/
def sout2_B_0 (c : Dev nD) (i : grid2.Coords) (arg1 : Memref sig .tc .vmem S1024x3200 .bf16) (harg1 : arg1.IsWhole) (arg2 : Memref sig .tc .vmem S1x1 .f32) (harg2 : arg2.IsWhole) (arg3 : Memref sig .tc .vmem S1x1 .f32) (harg3 : arg3.IsWhole) (arg4 : Memref sig .tc .vmem S16x3200 .bf16) (harg4 : arg4.IsWhole) (hc0 : ¬cond2_0 i) (hc1 : cond2_1 i) (hc2 : ¬cond2_2 i)
    (x0 : Vec F S1024x3200 .bf16) (xs0 : Vec F S16x3200 .bf16) : Vec F S16x3200 .bf16 :=
  VS2_0.read (Elt F) (VS2_0.writes (Elt F) VS2_0.junk (kernelRun2_B c i arg1 harg1 arg2 harg2 arg3 harg3 arg4 harg4 hc0 hc1 hc2 x0 xs0).2.2.1)

/-- Case C's pieces for output 1 tile its block (1 store of `S1x1`, checked by the kernel's evaluation: Lib/Ring.lean `Piece.tiledL`, linear in the pieces, through a loop's `@[irreducible]` trip theorem too), so they cover it. -/
theorem cover2_C_1 (c : Dev nD) (i : grid2.Coords) (arg1 : Memref sig .tc .vmem S1024x3200 .bf16) (harg1 : arg1.IsWhole) (arg2 : Memref sig .tc .vmem S1x1 .f32) (harg2 : arg2.IsWhole) (arg3 : Memref sig .tc .vmem S1x1 .f32) (harg3 : arg3.IsWhole) (arg4 : Memref sig .tc .vmem S16x3200 .bf16) (harg4 : arg4.IsWhole) (hc0 : ¬cond2_0 i) (hc1 : cond2_1 i) (hc2 : cond2_2 i)
    (x0 : Vec F S1024x3200 .bf16) (xs0 : Vec F S16x3200 .bf16) (y : S1x1.Idx) :
    ∃ pc ∈ (kernelRun2_C c i arg1 harg1 arg2 harg2 arg3 harg3 arg4 harg4 hc0 hc1 hc2 x0 xs0).1, y ∈ pc.1.set :=
  View.cover_of_tiledL (kernelRun2_C c i arg1 harg1 arg2 harg2 arg3 harg3 arg4 harg4 hc0 hc1 hc2 x0 xs0).1 S1x1.size (by sl_kernel_rfl) y

/-- What case C leaves in output 1's staging buffer: its pieces read back over junk. -/
def out2_C_1 (c : Dev nD) (i : grid2.Coords) (arg1 : Memref sig .tc .vmem S1024x3200 .bf16) (harg1 : arg1.IsWhole) (arg2 : Memref sig .tc .vmem S1x1 .f32) (harg2 : arg2.IsWhole) (arg3 : Memref sig .tc .vmem S1x1 .f32) (harg3 : arg3.IsWhole) (arg4 : Memref sig .tc .vmem S16x3200 .bf16) (harg4 : arg4.IsWhole) (hc0 : ¬cond2_0 i) (hc1 : cond2_1 i) (hc2 : cond2_2 i)
    (x0 : Vec F S1024x3200 .bf16) (xs0 : Vec F S16x3200 .bf16) : Vec F S1x1 .f32 :=
  VO2_1.read (Elt F) (VO2_1.writes (Elt F) VO2_1.junk (kernelRun2_C c i arg1 harg1 arg2 harg2 arg3 harg3 arg4 harg4 hc0 hc1 hc2 x0 xs0).1)

/-- Case C's pieces for output 2 tile its block (1 store of `S1x1`, checked by the kernel's evaluation: Lib/Ring.lean `Piece.tiledL`, linear in the pieces, through a loop's `@[irreducible]` trip theorem too), so they cover it. -/
theorem cover2_C_2 (c : Dev nD) (i : grid2.Coords) (arg1 : Memref sig .tc .vmem S1024x3200 .bf16) (harg1 : arg1.IsWhole) (arg2 : Memref sig .tc .vmem S1x1 .f32) (harg2 : arg2.IsWhole) (arg3 : Memref sig .tc .vmem S1x1 .f32) (harg3 : arg3.IsWhole) (arg4 : Memref sig .tc .vmem S16x3200 .bf16) (harg4 : arg4.IsWhole) (hc0 : ¬cond2_0 i) (hc1 : cond2_1 i) (hc2 : cond2_2 i)
    (x0 : Vec F S1024x3200 .bf16) (xs0 : Vec F S16x3200 .bf16) (y : S1x1.Idx) :
    ∃ pc ∈ (kernelRun2_C c i arg1 harg1 arg2 harg2 arg3 harg3 arg4 harg4 hc0 hc1 hc2 x0 xs0).2.1, y ∈ pc.1.set :=
  View.cover_of_tiledL (kernelRun2_C c i arg1 harg1 arg2 harg2 arg3 harg3 arg4 harg4 hc0 hc1 hc2 x0 xs0).2.1 S1x1.size (by sl_kernel_rfl) y

/-- What case C leaves in output 2's staging buffer: its pieces read back over junk. -/
def out2_C_2 (c : Dev nD) (i : grid2.Coords) (arg1 : Memref sig .tc .vmem S1024x3200 .bf16) (harg1 : arg1.IsWhole) (arg2 : Memref sig .tc .vmem S1x1 .f32) (harg2 : arg2.IsWhole) (arg3 : Memref sig .tc .vmem S1x1 .f32) (harg3 : arg3.IsWhole) (arg4 : Memref sig .tc .vmem S16x3200 .bf16) (harg4 : arg4.IsWhole) (hc0 : ¬cond2_0 i) (hc1 : cond2_1 i) (hc2 : cond2_2 i)
    (x0 : Vec F S1024x3200 .bf16) (xs0 : Vec F S16x3200 .bf16) : Vec F S1x1 .f32 :=
  VO2_2.read (Elt F) (VO2_2.writes (Elt F) VO2_2.junk (kernelRun2_C c i arg1 harg1 arg2 harg2 arg3 harg3 arg4 harg4 hc0 hc1 hc2 x0 xs0).2.1)

/-- Case C's pieces for scratch `arg4`, which the kernel carries between points, cover it: 1 piece of `S16x3200` tiling it . -/
theorem scover2_C_0 (c : Dev nD) (i : grid2.Coords) (arg1 : Memref sig .tc .vmem S1024x3200 .bf16) (harg1 : arg1.IsWhole) (arg2 : Memref sig .tc .vmem S1x1 .f32) (harg2 : arg2.IsWhole) (arg3 : Memref sig .tc .vmem S1x1 .f32) (harg3 : arg3.IsWhole) (arg4 : Memref sig .tc .vmem S16x3200 .bf16) (harg4 : arg4.IsWhole) (hc0 : ¬cond2_0 i) (hc1 : cond2_1 i) (hc2 : cond2_2 i)
    (x0 : Vec F S1024x3200 .bf16) (xs0 : Vec F S16x3200 .bf16) (y : S16x3200.Idx) :
    ∃ pc ∈ (kernelRun2_C c i arg1 harg1 arg2 harg2 arg3 harg3 arg4 harg4 hc0 hc1 hc2 x0 xs0).2.2.1, y ∈ pc.1.set :=
  View.cover_of_tiledL (kernelRun2_C c i arg1 harg1 arg2 harg2 arg3 harg3 arg4 harg4 hc0 hc1 hc2 x0 xs0).2.2.1 S16x3200.size (by sl_kernel_rfl) y

/-- What case C leaves in scratch `arg4`: its pieces read back over junk. -/
def sout2_C_0 (c : Dev nD) (i : grid2.Coords) (arg1 : Memref sig .tc .vmem S1024x3200 .bf16) (harg1 : arg1.IsWhole) (arg2 : Memref sig .tc .vmem S1x1 .f32) (harg2 : arg2.IsWhole) (arg3 : Memref sig .tc .vmem S1x1 .f32) (harg3 : arg3.IsWhole) (arg4 : Memref sig .tc .vmem S16x3200 .bf16) (harg4 : arg4.IsWhole) (hc0 : ¬cond2_0 i) (hc1 : cond2_1 i) (hc2 : cond2_2 i)
    (x0 : Vec F S1024x3200 .bf16) (xs0 : Vec F S16x3200 .bf16) : Vec F S16x3200 .bf16 :=
  VS2_0.read (Elt F) (VS2_0.writes (Elt F) VS2_0.junk (kernelRun2_C c i arg1 harg1 arg2 harg2 arg3 harg3 arg4 harg4 hc0 hc1 hc2 x0 xs0).2.2.1)

/-! ## What the outputs hold after each point -/

/-- THE ACCUMULATION. What the outputs' staging buffers and the scratch the kernel carries between points hold after the body at position `n` (a tuple: the outputs in window order, then the scratch):
    the case the closed forms select at `n`, run at the point's memrefs and input blocks, an output it reads before covering
    at what this leaves at `n - 1` (its buffer is not written back between: `before2_W_κ`). An assignment of the conditions no point meets is no case (`False.elim`). -/
def outsAt2 (c : Dev nD) : (n : ℕ) → n < cfg2.N → Vec F S1x1 .f32 × Vec F S1x1 .f32 × Vec F S16x3200 .bf16
  | 0, hn => (out2_A_1 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) scM2_0 (Memref.isWhole_whole _) ((hcond2_0 ⟨0, hn⟩).mpr (Nat.zero_mod _)) (fun h => (fun h => by (try dsimp only at h); omega) ((hcond2_1 ⟨0, hn⟩).mp h)) (fun h => (fun h => by (try dsimp only at h); omega) ((hcond2_2 ⟨0, hn⟩).mp h)) (iblk2 V c 0 ⟨0, hn⟩), out2_A_2 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) scM2_0 (Memref.isWhole_whole _) ((hcond2_0 ⟨0, hn⟩).mpr (Nat.zero_mod _)) (fun h => (fun h => by (try dsimp only at h); omega) ((hcond2_1 ⟨0, hn⟩).mp h)) (fun h => (fun h => by (try dsimp only at h); omega) ((hcond2_2 ⟨0, hn⟩).mp h)) (iblk2 V c 0 ⟨0, hn⟩), sout2_A_0 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) scM2_0 (Memref.isWhole_whole _) ((hcond2_0 ⟨0, hn⟩).mpr (Nat.zero_mod _)) (fun h => (fun h => by (try dsimp only at h); omega) ((hcond2_1 ⟨0, hn⟩).mp h)) (fun h => (fun h => by (try dsimp only at h); omega) ((hcond2_2 ⟨0, hn⟩).mp h)) (iblk2 V c 0 ⟨0, hn⟩))
  | n + 1, hn =>
    if h0 : (n + 1) % 16 = 0 then
      if h1 : 1 ≤ (n + 1) then
        False.elim (by have hN : n + 1 < 16 := lt_of_lt_of_eq hn (show cfg2.N = 16 from N_2); omega)
      else
        if h2 : (n + 1) % 16 = 15 then
          False.elim (by have hN : n + 1 < 16 := lt_of_lt_of_eq hn (show cfg2.N = 16 from N_2); omega)
        else
          (out2_A_1 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) scM2_0 (Memref.isWhole_whole _) ((hcond2_0 ⟨n + 1, hn⟩).mpr h0) (fun h => h1 ((hcond2_1 ⟨n + 1, hn⟩).mp h)) (fun h => h2 ((hcond2_2 ⟨n + 1, hn⟩).mp h)) (iblk2 V c 0 ⟨n + 1, hn⟩), out2_A_2 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) scM2_0 (Memref.isWhole_whole _) ((hcond2_0 ⟨n + 1, hn⟩).mpr h0) (fun h => h1 ((hcond2_1 ⟨n + 1, hn⟩).mp h)) (fun h => h2 ((hcond2_2 ⟨n + 1, hn⟩).mp h)) (iblk2 V c 0 ⟨n + 1, hn⟩), sout2_A_0 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) scM2_0 (Memref.isWhole_whole _) ((hcond2_0 ⟨n + 1, hn⟩).mpr h0) (fun h => h1 ((hcond2_1 ⟨n + 1, hn⟩).mp h)) (fun h => h2 ((hcond2_2 ⟨n + 1, hn⟩).mp h)) (iblk2 V c 0 ⟨n + 1, hn⟩))
    else
      if h1 : 1 ≤ (n + 1) then
        if h2 : (n + 1) % 16 = 15 then
          (out2_C_1 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) scM2_0 (Memref.isWhole_whole _) (fun h => h0 ((hcond2_0 ⟨n + 1, hn⟩).mp h)) ((hcond2_1 ⟨n + 1, hn⟩).mpr h1) ((hcond2_2 ⟨n + 1, hn⟩).mpr h2) (iblk2 V c 0 ⟨n + 1, hn⟩) (outsAt2 c n (Nat.lt_of_succ_lt hn)).2.2, out2_C_2 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) scM2_0 (Memref.isWhole_whole _) (fun h => h0 ((hcond2_0 ⟨n + 1, hn⟩).mp h)) ((hcond2_1 ⟨n + 1, hn⟩).mpr h1) ((hcond2_2 ⟨n + 1, hn⟩).mpr h2) (iblk2 V c 0 ⟨n + 1, hn⟩) (outsAt2 c n (Nat.lt_of_succ_lt hn)).2.2, sout2_C_0 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) scM2_0 (Memref.isWhole_whole _) (fun h => h0 ((hcond2_0 ⟨n + 1, hn⟩).mp h)) ((hcond2_1 ⟨n + 1, hn⟩).mpr h1) ((hcond2_2 ⟨n + 1, hn⟩).mpr h2) (iblk2 V c 0 ⟨n + 1, hn⟩) (outsAt2 c n (Nat.lt_of_succ_lt hn)).2.2)
        else
          (out2_B_1 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) scM2_0 (Memref.isWhole_whole _) (fun h => h0 ((hcond2_0 ⟨n + 1, hn⟩).mp h)) ((hcond2_1 ⟨n + 1, hn⟩).mpr h1) (fun h => h2 ((hcond2_2 ⟨n + 1, hn⟩).mp h)) (iblk2 V c 0 ⟨n + 1, hn⟩) (outsAt2 c n (Nat.lt_of_succ_lt hn)).2.2, out2_B_2 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) scM2_0 (Memref.isWhole_whole _) (fun h => h0 ((hcond2_0 ⟨n + 1, hn⟩).mp h)) ((hcond2_1 ⟨n + 1, hn⟩).mpr h1) (fun h => h2 ((hcond2_2 ⟨n + 1, hn⟩).mp h)) (iblk2 V c 0 ⟨n + 1, hn⟩) (outsAt2 c n (Nat.lt_of_succ_lt hn)).2.2, sout2_B_0 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) scM2_0 (Memref.isWhole_whole _) (fun h => h0 ((hcond2_0 ⟨n + 1, hn⟩).mp h)) ((hcond2_1 ⟨n + 1, hn⟩).mpr h1) (fun h => h2 ((hcond2_2 ⟨n + 1, hn⟩).mp h)) (iblk2 V c 0 ⟨n + 1, hn⟩) (outsAt2 c n (Nat.lt_of_succ_lt hn)).2.2)
      else
        False.elim (by have hN : n + 1 < 16 := lt_of_lt_of_eq hn (show cfg2.N = 16 from N_2); omega)

/-- `outsAt2` at a point of case A: that case's contents. -/
theorem outsAt2_A (c : Dev nD) (t : Fin cfg2.N) (h0 : t.val % 16 = 0) (h1 : ¬1 ≤ t.val) (h2 : ¬t.val % 16 = 15) :
    outsAt2 V c t.val t.isLt = (out2_A_1 c (grid2.coords t) (ms2_0 t) (hs2_0 t) (ms2_1 t) (hs2_1 t) (ms2_2 t) (hs2_2 t) scM2_0 (Memref.isWhole_whole _) ((hcond2_0 t).mpr h0) (fun h => h1 ((hcond2_1 t).mp h)) (fun h => h2 ((hcond2_2 t).mp h)) (iblk2 V c 0 t), out2_A_2 c (grid2.coords t) (ms2_0 t) (hs2_0 t) (ms2_1 t) (hs2_1 t) (ms2_2 t) (hs2_2 t) scM2_0 (Memref.isWhole_whole _) ((hcond2_0 t).mpr h0) (fun h => h1 ((hcond2_1 t).mp h)) (fun h => h2 ((hcond2_2 t).mp h)) (iblk2 V c 0 t), sout2_A_0 c (grid2.coords t) (ms2_0 t) (hs2_0 t) (ms2_1 t) (hs2_1 t) (ms2_2 t) (hs2_2 t) scM2_0 (Memref.isWhole_whole _) ((hcond2_0 t).mpr h0) (fun h => h1 ((hcond2_1 t).mp h)) (fun h => h2 ((hcond2_2 t).mp h)) (iblk2 V c 0 t)) := by
  obtain ⟨n, hn⟩ := t
  cases n with
  | zero => exact rfl
  | succ n => exact (dif_pos h0).trans ((dif_neg h1).trans ((dif_neg h2).trans rfl))

/-- `outsAt2` at a point of case B: that case's contents, over what the point before left. -/
theorem outsAt2_B (c : Dev nD) (t : Fin cfg2.N) (h0 : ¬t.val % 16 = 0) (h1 : 1 ≤ t.val) (h2 : ¬t.val % 16 = 15) :
    outsAt2 V c t.val t.isLt = (out2_B_1 c (grid2.coords t) (ms2_0 t) (hs2_0 t) (ms2_1 t) (hs2_1 t) (ms2_2 t) (hs2_2 t) scM2_0 (Memref.isWhole_whole _) (fun h => h0 ((hcond2_0 t).mp h)) ((hcond2_1 t).mpr h1) (fun h => h2 ((hcond2_2 t).mp h)) (iblk2 V c 0 t) (outsAt2 V c (t.val - 1) (Nat.lt_of_le_of_lt (Nat.sub_le _ _) t.isLt)).2.2, out2_B_2 c (grid2.coords t) (ms2_0 t) (hs2_0 t) (ms2_1 t) (hs2_1 t) (ms2_2 t) (hs2_2 t) scM2_0 (Memref.isWhole_whole _) (fun h => h0 ((hcond2_0 t).mp h)) ((hcond2_1 t).mpr h1) (fun h => h2 ((hcond2_2 t).mp h)) (iblk2 V c 0 t) (outsAt2 V c (t.val - 1) (Nat.lt_of_le_of_lt (Nat.sub_le _ _) t.isLt)).2.2, sout2_B_0 c (grid2.coords t) (ms2_0 t) (hs2_0 t) (ms2_1 t) (hs2_1 t) (ms2_2 t) (hs2_2 t) scM2_0 (Memref.isWhole_whole _) (fun h => h0 ((hcond2_0 t).mp h)) ((hcond2_1 t).mpr h1) (fun h => h2 ((hcond2_2 t).mp h)) (iblk2 V c 0 t) (outsAt2 V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_pos h1).trans ((dif_neg h2).trans rfl))

/-- `outsAt2` at a point of case C: that case's contents, over what the point before left. -/
theorem outsAt2_C (c : Dev nD) (t : Fin cfg2.N) (h0 : ¬t.val % 16 = 0) (h1 : 1 ≤ t.val) (h2 : t.val % 16 = 15) :
    outsAt2 V c t.val t.isLt = (out2_C_1 c (grid2.coords t) (ms2_0 t) (hs2_0 t) (ms2_1 t) (hs2_1 t) (ms2_2 t) (hs2_2 t) scM2_0 (Memref.isWhole_whole _) (fun h => h0 ((hcond2_0 t).mp h)) ((hcond2_1 t).mpr h1) ((hcond2_2 t).mpr h2) (iblk2 V c 0 t) (outsAt2 V c (t.val - 1) (Nat.lt_of_le_of_lt (Nat.sub_le _ _) t.isLt)).2.2, out2_C_2 c (grid2.coords t) (ms2_0 t) (hs2_0 t) (ms2_1 t) (hs2_1 t) (ms2_2 t) (hs2_2 t) scM2_0 (Memref.isWhole_whole _) (fun h => h0 ((hcond2_0 t).mp h)) ((hcond2_1 t).mpr h1) ((hcond2_2 t).mpr h2) (iblk2 V c 0 t) (outsAt2 V c (t.val - 1) (Nat.lt_of_le_of_lt (Nat.sub_le _ _) t.isLt)).2.2, sout2_C_0 c (grid2.coords t) (ms2_0 t) (hs2_0 t) (ms2_1 t) (hs2_1 t) (ms2_2 t) (hs2_2 t) scM2_0 (Memref.isWhole_whole _) (fun h => h0 ((hcond2_0 t).mp h)) ((hcond2_1 t).mpr h1) ((hcond2_2 t).mpr h2) (iblk2 V c 0 t) (outsAt2 V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_pos h1).trans ((dif_pos h2).trans rfl))

/-- The region invariant before position `n` with a scratch the kernel CARRIES between points: before the first point the
    class's ; afterwards the scoped rest with each carried scratch
    at what the point before left in it (`outsAt2`'s scratch components), the others at anything, and the generator register
    at some state. -/
def PhiS2 (c : Dev nD) : (n : ℕ) → n ≤ cfg2.N → sProp 𝕄
  | 0, _ => PhiJ2 c
  | n + 1, hn => iprop(iprop(owns (c : Thread nD τ) scM2_0 fullShare ((outsAt2 V c n hn).2.2) ∗ rest2 c) ∗ (∃ r, prngReg c r))

theorem PhiS2_zero (c : Dev nD) (n : ℕ) (h : n ≤ cfg2.N) (hz : n = 0) : PhiS2 V c n h = PhiJ2 c := by
  subst hz; rfl

/-- After point `n` (before point `n + 1`): the carried scratch at that point's contents. -/
theorem PhiS2_succ (c : Dev nD) (n : ℕ) (hn : n < cfg2.N) :
    PhiS2 V c (n + 1) hn = iprop(iprop(owns (c : Thread nD τ) scM2_0 fullShare ((outsAt2 V c n hn).2.2) ∗ rest2 c) ∗ (∃ r, prngReg c r)) := rfl

/-- Before a point that is not the first: the carried scratch at what the point before left. -/
theorem PhiS2_pos (c : Dev nD) (n : ℕ) (h : n ≤ cfg2.N) (hz : n ≠ 0) :
    PhiS2 V c n h = iprop(iprop(owns (c : Thread nD τ) scM2_0 fullShare ((outsAt2 V c (n - 1) (by omega)).2.2) ∗ rest2 c) ∗ (∃ r, prngReg c r)) := by
  cases n with
  | zero => exact absurd rfl hz
  | succ n => rfl

/-! ## The pipeline's proof data -/

/-- The proof data of the one pipeline on core `c`: the arrays as the region finds them (`V`); after the body at
    point `t` each input's buffer at its block and the outputs' at `outsAt2`; the invariant the class's
    (`PhiS2`: the class's `ΦA` before the first point, then the scoped rest with the carried scratch at `outsAt2`'s component);
    nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => (outsAt2 V c t.val t.isLt).1
    | ⟨2, _⟩ => (outsAt2 V c t.val t.isLt).2.1
  Φ t := PhiS2 V c t.val (Nat.le_of_lt_succ t.isLt)
  q _ := fullShare
  owed _ := 0

/-- The proof data's arrays are the region-entry contents: the proof data's definition projected (`dsimp`), so that
    `V` — a fold over @main's host prefix, long for some programs — is never unfolded to check it. -/
theorem A_eq2 (c : Dev nD) (w : Fin cfg2.W) : (dat2 V c).A w = V c (Pipeline.arrRef spec2 w) := by
  dsimp only [dat2]

/-- The invariant at a point's start (the proof data at `t.castSucc`), restated at `t.val`. -/
theorem PhiS2_castSucc (c : Dev nD) (t : Fin cfg2.N) :
    (dat2 V c).Φ t.castSucc = PhiS2 V c t.val (Nat.le_of_lt t.isLt) := by
  dsimp only [dat2]; exact Pipeline.Dat.Φ_castSucc (PhiS2 V c) t

/-- What the body leaves, window by window (the proof data's `match` reduced by `dsimp`). -/
theorem after2_0 (c : Dev nD) (t : Fin cfg2.N) : (dat2 V c).after 0 t = iblk2 V c 0 t := by dsimp only [dat2]
theorem after2_1 (c : Dev nD) (t : Fin cfg2.N) : (dat2 V c).after 1 t = (outsAt2 V c t.val t.isLt).1 := by dsimp only [dat2]
theorem after2_2 (c : Dev nD) (t : Fin cfg2.N) : (dat2 V c).after 2 t = (outsAt2 V c t.val t.isLt).2.1 := by dsimp only [dat2]

/-- Each input's current staging buffer holds its block at every point, fetched there or not (`beforeK_W_of`). -/
theorem before2_0 (c : Dev nD) (t : Fin cfg2.N) (d) : (dat2 V c).before 0 t d = iblk2 V c 0 t :=
  before2_0_of V (dat2 V c) (A_eq2 V c 0) (after2_0 V c) t d

/-! ## The body obligation, at a generic point -/

/-- What the body is called with at point `t` , -/
def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d)))

/-- and what it returns. -/
def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t)

set_option maxHeartbeats 4800000 in
/-- The body at any point: the inputs' memrefs hold their blocks (`before2_W`); the closed forms say which case the point is in (`by_cases`), an output the case reads before covering holds what the point before left (`before2_W_κ`); so the
    run applies; the invariant hands the body the carried scratch at what the point before left (`PhiS2_pos`; at anything at the first point, `PhiS2_zero`), the other scratch buffers and the generator register at some state, and takes the carried scratch back at this point's contents (`PhiS2_succ`, by `scoverK_κ_N`); the core owes nothing throughout. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0]
  rw [show (dat2 V c).owesAt () t.succ = (dat2 V c).owesAt () t.castSucc from rfl]
  rw [show (dat2 V c).Φ t.succ = PhiS2 V c (t.val + 1) t.isLt from rfl, PhiS2_succ]
  have hN : t.val < 16 := lt_of_lt_of_eq t.isLt (show cfg2.N = 16 from N_2)
  by_cases h0 : t.val % 16 = 0
  · by_cases h1 : 1 ≤ t.val
    · exfalso; omega
    · by_cases h2 : t.val % 16 = 15
      · exfalso; omega
      · rw [show (dat2 V c).leavesExact 0 t = owns (c : Thread nD τ) (ms2_0 t) fullShare ((dat2 V c).after 0 t) from by
      unfold Dat.leavesExact; rw [liveAt2_0 t], after2_0]
        rw [Dat.leavesExact_idle (dat2 V c) 1 t (idleAt2_1_A t ((hcond2_0 t).mpr h0) (fun h => h1 ((hcond2_1 t).mp h)) (fun h => h2 ((hcond2_2 t).mp h))) (noFlush2_1_A t ((hcond2_0 t).mpr h0) (fun h => h1 ((hcond2_1 t).mp h)) (fun h => h2 ((hcond2_2 t).mp h)))]
        rw [Dat.leavesExact_idle (dat2 V c) 2 t (idleAt2_2_A t ((hcond2_0 t).mpr h0) (fun h => h1 ((hcond2_1 t).mp h)) (fun h => h2 ((hcond2_2 t).mp h))) (noFlush2_2_A t ((hcond2_0 t).mpr h0) (fun h => h1 ((hcond2_1 t).mp h)) (fun h => h2 ((hcond2_2 t).mp h)))]
        by_cases hz : t.val = 0
        · rw [PhiS2_castSucc V c t, PhiS2_zero V c _ _ hz, PhiJ2]
          rw [outsAt2_A V c t h0 h1 h2]
          unfold sout2_A_0; (try dsimp only)
          iintro ⟨⟨⟨HS0, HR⟩, Hg⟩, Ho, ⟨%d0, H0⟩, ⟨%d1, H1⟩, ⟨%d2, H2⟩⟩
          iapply ((kernelRun2_A c (grid2.coords t) _ _ _ _ _ _ _ _ ((hcond2_0 t).mpr h0) (fun h => h1 ((hcond2_1 t).mp h)) (fun h => h2 ((hcond2_2 t).mp h)) (iblk2 V c 0 t)).2.2.2 _ _ Set.univ _)
          isplitl [H0]; · iexact H0
          isplitl [H1]; · iexact H1
          isplitl [H2]; · iexact H2
          isplitl [HS0]; · iexact HS0
          iintro ⟨H0, H1, H2, ⟨%es0, HS0⟩⟩
          isplitl [HS0 HR Hg]
          · isplitl [HS0 HR]
            · isplitl [HS0]
              · unfold owns; iexists _; isplitr
                swap; · iexact HS0
                ipureintro; exact View.read_writes_of_cover _ _ _ _ _ (scover2_A_0 c _ _ _ _ _ _ _ _ _ _ _ _ _)
              iexact HR
            iexact Hg
          isplitl [Ho]; · iexact Ho
          isplitl [H0]; · iexact H0
          isplitl [H1]; · iexists _; iexact H1
          iexists _; iexact H2
        · exfalso; have hN : t.val < 16 := lt_of_lt_of_eq t.isLt (show cfg2.N = 16 from N_2); omega
  · by_cases h1 : 1 ≤ t.val
    · by_cases h2 : t.val % 16 = 15
      · rw [show (dat2 V c).leavesExact 0 t = owns (c : Thread nD τ) (ms2_0 t) fullShare ((dat2 V c).after 0 t) from by
      unfold Dat.leavesExact; rw [liveAt2_0 t], after2_0]
        rw [show (dat2 V c).leavesExact 1 t = owns (c : Thread nD τ) (ms2_1 t) fullShare ((dat2 V c).after 1 t) from by
      unfold Dat.leavesExact; rw [liveAt2_1_C t (fun h => h0 ((hcond2_0 t).mp h)) ((hcond2_1 t).mpr h1) ((hcond2_2 t).mpr h2)], after2_1]
        rw [show (dat2 V c).leavesExact 2 t = owns (c : Thread nD τ) (ms2_2 t) fullShare ((dat2 V c).after 2 t) from by
      unfold Dat.leavesExact; rw [liveAt2_2_C t (fun h => h0 ((hcond2_0 t).mp h)) ((hcond2_1 t).mpr h1) ((hcond2_2 t).mpr h2)], after2_2]
        by_cases hz : t.val = 0
        · exfalso; have hN : t.val < 16 := lt_of_lt_of_eq t.isLt (show cfg2.N = 16 from N_2); omega
        · rw [PhiS2_castSucc V c t, PhiS2_pos V c _ _ hz]
          rw [outsAt2_C V c t h0 h1 h2]
          unfold out2_C_1 out2_C_2 sout2_C_0; (try dsimp only)
          iintro ⟨⟨⟨HS0, HR⟩, Hg⟩, Ho, ⟨%d0, H0⟩, ⟨%d1, H1⟩, ⟨%d2, H2⟩⟩
          iapply ((kernelRun2_C c (grid2.coords t) _ _ _ _ _ _ _ _ (fun h => h0 ((hcond2_0 t).mp h)) ((hcond2_1 t).mpr h1) ((hcond2_2 t).mpr h2) (iblk2 V c 0 t) _).2.2.2 Set.univ _)
          isplitl [H0]; · iexact H0
          isplitl [H1]; · iexists _; iexact H1
          isplitl [H2]; · iexists _; iexact H2
          isplitl [HS0]; · iexact HS0
          iintro ⟨H0, ⟨%e1, H1⟩, ⟨%e2, H2⟩, ⟨%es0, HS0⟩⟩
          isplitl [HS0 HR Hg]
          · isplitl [HS0 HR]
            · isplitl [HS0]
              · unfold owns; iexists _; isplitr
                swap; · iexact HS0
                ipureintro; exact View.read_writes_of_cover _ _ _ _ _ (scover2_C_0 c _ _ _ _ _ _ _ _ _ _ _ _ _ _)
              iexact HR
            iexact Hg
          isplitl [Ho]; · iexact Ho
          isplitl [H0]; · iexact H0
          isplitl [H1]
          · unfold owns; iexists _; isplitr
            swap; · iexact H1
            ipureintro; exact View.read_writes_of_cover _ _ _ _ _ (cover2_C_1 c _ _ _ _ _ _ _ _ _ _ _ _ _ _)
          unfold owns; iexists _; isplitr
          swap; · iexact H2
          ipureintro; exact View.read_writes_of_cover _ _ _ _ _ (cover2_C_2 c _ _ _ _ _ _ _ _ _ _ _ _ _ _)
      · rw [show (dat2 V c).leavesExact 0 t = owns (c : Thread nD τ) (ms2_0 t) fullShare ((dat2 V c).after 0 t) from by
      unfold Dat.leavesExact; rw [liveAt2_0 t], after2_0]
        rw [Dat.leavesExact_idle (dat2 V c) 1 t (idleAt2_1_B t (fun h => h0 ((hcond2_0 t).mp h)) ((hcond2_1 t).mpr h1) (fun h => h2 ((hcond2_2 t).mp h))) (noFlush2_1_B t (fun h => h0 ((hcond2_0 t).mp h)) ((hcond2_1 t).mpr h1) (fun h => h2 ((hcond2_2 t).mp h)))]
        rw [Dat.leavesExact_idle (dat2 V c) 2 t (idleAt2_2_B t (fun h => h0 ((hcond2_0 t).mp h)) ((hcond2_1 t).mpr h1) (fun h => h2 ((hcond2_2 t).mp h))) (noFlush2_2_B t (fun h => h0 ((hcond2_0 t).mp h)) ((hcond2_1 t).mpr h1) (fun h => h2 ((hcond2_2 t).mp h)))]
        by_cases hz : t.val = 0
        · exfalso; have hN : t.val < 16 := lt_of_lt_of_eq t.isLt (show cfg2.N = 16 from N_2); omega
        · rw [PhiS2_castSucc V c t, PhiS2_pos V c _ _ hz]
          rw [outsAt2_B V c t h0 h1 h2]
          unfold sout2_B_0; (try dsimp only)
          iintro ⟨⟨⟨HS0, HR⟩, Hg⟩, Ho, ⟨%d0, H0⟩, ⟨%d1, H1⟩, ⟨%d2, H2⟩⟩
          iapply ((kernelRun2_B c (grid2.coords t) _ _ _ _ _ _ _ _ (fun h => h0 ((hcond2_0 t).mp h)) ((hcond2_1 t).mpr h1) (fun h => h2 ((hcond2_2 t).mp h)) (iblk2 V c 0 t) _).2.2.2 _ _ Set.univ _)
          isplitl [H0]; · iexact H0
          isplitl [H1]; · iexact H1
          isplitl [H2]; · iexact H2
          isplitl [HS0]; · iexact HS0
          iintro ⟨H0, H1, H2, ⟨%es0, HS0⟩⟩
          isplitl [HS0 HR Hg]
          · isplitl [HS0 HR]
            · isplitl [HS0]
              · unfold owns; iexists _; isplitr
                swap; · iexact HS0
                ipureintro; exact View.read_writes_of_cover _ _ _ _ _ (scover2_B_0 c _ _ _ _ _ _ _ _ _ _ _ _ _ _)
              iexact HR
            iexact Hg
          isplitl [Ho]; · iexact Ho
          isplitl [H0]; · iexact H0
          isplitl [H1]; · iexists _; iexact H1
          iexists _; iexact H2
    · exfalso; omega

/-- The body table's row at point `t`'s slots is the body as `bodyAt2` spells it. -/
theorem defs₀_row2 (t : Fin cfg2.N) :
    defs₀ (F := F) .tc cfg2.body (cfg2.bodyArgs t (cfg2.slots t)) = bodyAt2 t := by
  unfold defs₀; rw [Defs.onTc_tc]

/-- The library's body obligation, at every point: the body's triple restated . -/
theorem body_obligation2 (c : Dev nD) : BodyObligation (dat2 (F := F) V c) (defs₀ (F := F)) Variants.none () Set.univ := fun t => by
  rw [bigSep_W2, bigSep_W2, defs₀_row2]
  exact triple_restated (sound_body2 V c t) rfl .rfl fun _ => .rfl

/-- Before the first point the invariant is `PhiJ2`. -/
theorem hin2 (c : Dev nD) : (PhiJ2 c : sProp 𝕄) ⊢ (dat2 V c).Φ 0 := by
  rw [show (dat2 V c).Φ 0 = PhiS2 V c 0 (Nat.zero_le _) from rfl, PhiS2_zero V c 0 _ rfl]

/-- After the last point the scratch's named contents are forgotten. -/
theorem hout2 (c : Dev nD) : (dat2 V c).Φ (Fin.last cfg2.N) ⊢ (PhiJ2 c : sProp 𝕄) := by
  rw [show (dat2 V c).Φ (Fin.last cfg2.N) = PhiS2 V c cfg2.N (le_refl _) from rfl,
    PhiS2_pos V c _ _ (by have : cfg2.N = 16 := N_2; omega)]
  unfold PhiJ2
  iintro ⟨⟨HS0, HR⟩, Hg⟩
  isplitl [HS0 HR]
  · isplitl [HS0]
    · iexists _; iexact HS0
    iexact HR
  iexact Hg

end Cert.KernelIdeal.Hand

end
-- ==== Proof.IDgrad.lean ====
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the call is entered
variable (V : (c : Dev nD) → (b : Ref sig .tc) → Buf (Elt F) ((c : Thread nD τ).loc b))

/-! # REGION 3 of @main: custom_call 3, `cc3_dgrad` (pipeline 3), at the entry contents `V` -/

/-! ## The windows' blocks -/

/-- Window `w`'s block at point `t`, read off its array as the region finds it (`V`). -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)
/-- Input window 4's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before3_4_of {c : Dev nD} (dat : Dat τ (Elt F) Unit ℕ (UR sig nD τ) ℕ cfg3 c) (hA : dat.A 4 = V c (Pipeline.arrRef spec3 4))
    (hafter : ∀ t, dat.after 4 t = iblk3 V c 4 t) (t : Fin cfg3.N) (d) : dat.before 4 t d = iblk3 V c 4 t :=
  (dat.before_in_eq_fetched 4 rfl (fun _ => rfl) (fun _ _ _ => rfl) (fun t => by rw [hafter]; unfold Dat.blockOf iblk3; rw [hA]; try rfl) t d).trans
    (by unfold Dat.fetched Dat.blockOf iblk3; rw [hA]; try rfl)

/-! ## The body's accesses -/

abbrev r3_0 : Rect S1x512x3200 := Rect.unit (s := S1x512x3200) ![0, 0, 0] S1x512x3200.size inb_S1x512x3200_S1x512x3200_0_0_0
abbrev r3_1 : Rect S1x1 := Rect.unit (s := S1x1) ![0, 0] S1x1.size inb_S1x1_S1x1_0_0
abbrev r3_2 : Rect S2048x3200 := Rect.unit (s := S2048x3200) ![0, 0] S2048x3200.size inb_S2048x3200_S2048x3200_0_0
abbrev r3_3 : Rect S1x512x2048 := Rect.unit (s := S1x512x2048) ![0, 0, 0] S1x512x2048.size inb_S1x512x2048_S1x512x2048_0_0_0

/-! ## What the body leaves in each output window's buffer -/

/-- Window 5's staging buffer after the body, from the input windows' blocks: its 1 store as pieces, LAST
    FIRST . -/
def out3_5 (x0 : Vec F S1x1 .f32) (x1 : Vec F S1x1 .f32) (x2 : Vec F S1x1 .f32) (x3 : Vec F S1x512x3200 .bf16) (x4 : Vec F S2048x3200 .fp8e4m3) : Vec F S1x512x2048 .bf16 :=
  View.canon [⟨r3_3, k3_pay3 (View.ld x3 r3_0) (View.ld x0 r3_1) (View.ld x4 r3_2) (View.ld x1 r3_1) (View.ld x2 r3_1)⟩]

/-- Its stores tile the buffer (checked by evaluation), so they cover it. -/
theorem cover3_5 (p0 : Vec F S1x512x2048 .bf16) (y : S1x512x2048.Idx) :
    ∃ pc ∈ ([⟨r3_3, p0⟩] : List (View.Piece (Elt F) S1x512x2048 .bf16)), y ∈ pc.1.set :=
  View.cover_of_tiled [⟨r3_3, p0⟩] S1x512x2048.size (by rfl) y

/-- Window 6's staging buffer after the body, from the input windows' blocks: its 1 store as pieces, LAST
    FIRST . -/
def out3_6 (x0 : Vec F S1x1 .f32) (x1 : Vec F S1x1 .f32) (x2 : Vec F S1x1 .f32) (x3 : Vec F S1x512x3200 .bf16) (x4 : Vec F S2048x3200 .fp8e4m3) : Vec F S1x512x3200 .fp8e5m2 :=
  View.canon [⟨r3_0, k3_pay2 (View.ld x3 r3_0) (View.ld x0 r3_1)⟩]

/-- Its stores tile the buffer (checked by evaluation), so they cover it. -/
theorem cover3_6 (p0 : Vec F S1x512x3200 .fp8e5m2) (y : S1x512x3200.Idx) :
    ∃ pc ∈ ([⟨r3_0, p0⟩] : List (View.Piece (Elt F) S1x512x3200 .fp8e5m2)), y ∈ pc.1.set :=
  View.cover_of_tiled [⟨r3_0, p0⟩] S1x512x3200.size (by rfl) y

/-! ## The body's triple -/

set_option maxHeartbeats 1000000 in
/-- The kernel body on whole staging memrefs, the inputs' at read contents `xW` and the outputs' at anything, runs to
    the continuation holding the inputs' as they were and each output's at `out3_W` of the inputs': the printed functions
    are their skeletons (`Gen.*_eq_skeleton`), which `sl_exec` runs , through every part call. -/
theorem sound_kernel3 (c : Dev nD) (E : Set ℕ) (i : grid3.Coords) (arg2 : Memref sig .tc .vmem S1x1 .f32) (harg2 : arg2.IsWhole) (arg3 : Memref sig .tc .vmem S1x1 .f32) (harg3 : arg3.IsWhole) (arg4 : Memref sig .tc .vmem S1x1 .f32) (harg4 : arg4.IsWhole) (arg5 : Memref sig .tc .vmem S1x512x3200 .bf16) (harg5 : arg5.IsWhole) (arg6 : Memref sig .tc .vmem S2048x3200 .fp8e4m3) (harg6 : arg6.IsWhole) (arg7 : Memref sig .tc .vmem S1x512x2048 .bf16) (harg7 : arg7.IsWhole) (arg8 : Memref sig .tc .vmem S1x512x3200 .fp8e5m2) (harg8 : arg8.IsWhole)
    (x0 : Vec F S1x1 .f32) (x1 : Vec F S1x1 .f32) (x2 : Vec F S1x1 .f32) (x3 : Vec F S1x512x3200 .bf16) (x4 : Vec F S2048x3200 .fp8e4m3) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ (∃ d, owns (c : Thread nD τ) arg8 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare (out3_5 x0 x1 x2 x3 x4) ∗ owns (c : Thread nD τ) arg8 fullShare (out3_6 x0 x1 x2 x3 x4)) -∗ K ⟨⟩))
      ⊢ wp frame (wpE (defs₀ (F := F)) Variants.none c none) E (cc3_dgrad i arg2 harg2 arg3 harg3 arg4 harg4 arg5 harg5 arg6 harg6 arg7 harg7 arg8 harg8) K := by
  simp only [cc3_dgrad_eq_skeleton]; unfold cc3_dgrad_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    exact View.read_writes_eq_canon _ _ _ (cover3_5 _)
  iexists _; isplitr
  swap; · iexact H6
  ipureintro
  exact View.read_writes_eq_canon _ _ _ (cover3_6 _)

/-! ## The pipeline's proof data -/

/-- The proof data of pipeline 3 on core `c`: the arrays as the region finds them (`V`); after the body at
    point `t` each input's buffer at its block and each output's at `out3_W` of the input blocks; the invariant the
    class's ; nothing owed;
    full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => out3_5 (iblk3 V c 0 t) (iblk3 V c 1 t) (iblk3 V c 2 t) (iblk3 V c 3 t) (iblk3 V c 4 t)
    | ⟨6, _⟩ => out3_6 (iblk3 V c 0 t) (iblk3 V c 1 t) (iblk3 V c 2 t) (iblk3 V c 3 t) (iblk3 V c 4 t)
  Φ _ := Pipeline.ΦA spec3 c
  q _ := fullShare
  owed _ := 0

/-- The proof data's arrays are the region-entry contents, by projecting the definition (`dsimp`): a region record cites
    this for its arrays rather than have Lean unfold `V`, the fold through @main up to the region's entry. -/
theorem A_eq3 (c : Dev nD) (w : Fin cfg3.W) : (dat3 V c).A w = V c (Pipeline.arrRef spec3 w) := by
  dsimp only [dat3]

/-- What the body leaves, window by window (the proof data's `match` reduced by `dsimp`, never `rfl`: Lib/Pipeline.lean `Dat`). -/
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = iblk3 V c 4 t := by dsimp only [dat3]
theorem after3_5 (c : Dev nD) (t : Fin cfg3.N) : (dat3 V c).after 5 t = out3_5 (iblk3 V c 0 t) (iblk3 V c 1 t) (iblk3 V c 2 t) (iblk3 V c 3 t) (iblk3 V c 4 t) := by dsimp only [dat3]
theorem after3_6 (c : Dev nD) (t : Fin cfg3.N) : (dat3 V c).after 6 t = out3_6 (iblk3 V c 0 t) (iblk3 V c 1 t) (iblk3 V c 2 t) (iblk3 V c 3 t) (iblk3 V c 4 t) := by dsimp only [dat3]

/-- Each input's current staging buffer holds its block at every point, fetched there or not (`beforeK_W_of`). -/
theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d
theorem before3_4 (c : Dev nD) (t : Fin cfg3.N) (d) : (dat3 V c).before 4 t d = iblk3 V c 4 t :=
  before3_4_of V (dat3 V c) (A_eq3 V c 4) (after3_4 V c) t d

/-! ## The body obligation, at a generic point -/

/-- What the body is called with at point `t` , -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d))
    ∗ (∃ d, owns (c : Thread nD τ) (st3_5 t) fullShare ((dat3 V c).before 5 t d))
    ∗ (∃ d, owns (c : Thread nD τ) (st3_6 t) fullShare ((dat3 V c).before 6 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t)
    ∗ owns (c : Thread nD τ) (st3_5 t) fullShare ((dat3 V c).after 5 t)
    ∗ owns (c : Thread nD τ) (st3_6 t) fullShare ((dat3 V c).after 6 t))

/-- The body at any point: the inputs' memrefs hold their blocks (`before3_W`), so `sound_kernel3` applies; the invariant and
    the core's `owes` pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3, before3_4]
  rw [show (dat3 V c).Φ t.succ = (dat3 V c).Φ t.castSucc from rfl,
    show (dat3 V c).owesAt () t.succ = (dat3 V c).owesAt () t.castSucc from rfl,
    after3_0, after3_1, after3_2, after3_3, after3_4, after3_5, after3_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel3 c Set.univ (grid3.coords t) _ _ _ _ _ _ _ _ _ _ _ _ _ _ (iblk3 V c 0 t) (iblk3 V c 1 t) (iblk3 V c 2 t) (iblk3 V c 3 t) (iblk3 V c 4 t) _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The body table's row at point `t`'s slots is the body as `bodyAt3` spells it. -/
theorem defs₀_row3 (t : Fin cfg3.N) :
    defs₀ (F := F) .tc cfg3.body (cfg3.bodyArgs t (cfg3.slots t)) = bodyAt3 t := by
  unfold defs₀; rw [Defs.onTc_tc]

/-- The library's body obligation, at every point: the body's triple restated . -/
theorem body_obligation3 (c : Dev nD) : BodyObligation (dat3 (F := F) V c) (defs₀ (F := F)) Variants.none () Set.univ := fun t => by
  rw [bigSep_W3, bigSep_W3, defs₀_row3]
  exact triple_restated (sound_body3 V c t) rfl .rfl fun _ => .rfl

end Cert.KernelIdeal.Hand

end
-- ==== Proof.IWhole.lean ====
module

public import proofs.«01_k».proof.Proof.IAmaxW
public import proofs.«01_k».proof.Proof.IQuantW
public import proofs.«01_k».proof.Proof.IAmaxDy
public import proofs.«01_k».proof.Proof.IDgrad

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! # THE RUN: @main's segments from the launch to the return  -/

/-- @main's argument arrays, as TensorCore references: what the frame claim reads back. -/
abbrev argRefs : List (Ref sig .tc) := [main_arg0, main_arg1]

/-! ## The host stretches: none allocates a buffer, and each lists the references its operations write, in order,
    so that a reference absent from the list keeps its contents across the stretch  -/

/-- No operation of `hostOps2` allocates a buffer. -/
theorem hostOps2_fresh : (hostOps2 : List (HloOp τ sig (Elt F))).Forall fun op => op.fresh = ∅ := by
  simp only [List.Forall]; repeat' constructor
/-- The reference each operation of `hostOps2` writes, in order. -/
abbrev hostOps2_W : List (Ref sig .tc) := [main_v2]
theorem hostOps2_writes : (hostOps2 : List (HloOp τ sig (Elt F))).Forall fun op => op.writes ⊆ (hostOps2_W.map (Proc.devRef (τ := τ) .tc)).toFinset :=
  StableHlo.forall_writes_sub_of_map rfl
/-- `hostOps2` writes none of the argument arrays (checked: each argument against each reference it writes). -/
theorem hostOps2_args : ∀ a ∈ argRefs, a ∉ hostOps2_W := ListAll.forall_mem_of_all_decide (by decide +kernel)

/-- No operation of `hostOps4` allocates a buffer. -/
theorem hostOps4_fresh : (hostOps4 : List (HloOp τ sig (Elt F))).Forall fun op => op.fresh = ∅ := by
  simp only [List.Forall]; repeat' constructor
/-- The reference each operation of `hostOps4` writes, in order. -/
abbrev hostOps4_W : List (Ref sig .tc) := [main_v5, main_v6]
theorem hostOps4_writes : (hostOps4 : List (HloOp τ sig (Elt F))).Forall fun op => op.writes ⊆ (hostOps4_W.map (Proc.devRef (τ := τ) .tc)).toFinset :=
  StableHlo.forall_writes_sub_of_map rfl
/-- `hostOps4` writes none of the argument arrays (checked: each argument against each reference it writes). -/
theorem hostOps4_args : ∀ a ∈ argRefs, a ∉ hostOps4_W := ListAll.forall_mem_of_all_decide (by decide +kernel)

/-! ## The buffer contents at each segment boundary: a fold through @main, and what each item leaves unchanged -/

/-- Core `c`'s buffers at launch (region 0's entry). -/
abbrev W0 : Dev nD → Valuation τ sig (Elt F) := fun c b => (s₀ m ρ).mem ((c : Dev nD), b)
theorem W0_args (c : Dev nD) : ∀ a ∈ argRefs, W0 m ρ c (Proc.devRef .tc a) = m ((c : Thread nD τ).loc a) := fun _ _ => rfl
/-- The same read at the TensorCore's references (what region 0's proof data take). -/
abbrev V0 : (c : Dev nD) → (b : Ref sig .tc) → Buf (Elt F) ((c : Thread nD τ).loc b) := fun c b => W0 m ρ c b
/-- At region 0's exit: its arrays at what the pipeline leaves (the inputs as entered, each output's write-backs
    folded: `Dat.arrAt … N`), every other buffer as entered  (region 1's entry). -/
def W1 (c : Dev nD) : Valuation τ sig (Elt F) :=
  Pipeline.withArrays spec0 c (W0 m ρ c) fun w => (dat0 (V0 m ρ) c).arrAt w cfg0.N
theorem W1_arr (c : Dev nD) (w : Fin cfg0.W) :
    W1 m ρ c (Proc.devRef .tc (Pipeline.arrRef spec0 w)) = (dat0 (V0 m ρ) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m ρ c (Proc.devRef .tc b) = W0 m ρ c (Proc.devRef .tc b) := by
  unfold W1; exact Pipeline.withArrays_of_ne spec0 c _ _ b hb
/-- A reference that is none of region 0's OUTPUT arrays keeps its entry contents across it: an input window's
    array is never written back (`Dat.arrAt_in`, `A_eq0`); any other buffer is left as is. -/
theorem W1_of (c : Dev nD) (r : Ref sig .tc) (h : ∀ w : Fin cfg0.W, Pipeline.arrRef spec0 w = r → (cfg0.win w).isOut = false) :
    W1 m ρ c (Proc.devRef .tc r) = W0 m ρ c (Proc.devRef .tc r) := by
  by_cases hw : ∃ w : Fin cfg0.W, Pipeline.arrRef spec0 w = r
  · obtain ⟨w, rfl⟩ := hw
    exact (W1_arr m ρ c w).trans (((dat0 (V0 m ρ) c).arrAt_in w (h w rfl) _).trans (A_eq0 (V0 m ρ) c w))
  · exact W1_of_ne m ρ c r fun w e => hw ⟨w, e⟩
/-- Every argument among region 0's arrays is an input window's (checked: each argument against each window). -/
theorem argsIn0 : ∀ a ∈ argRefs, ∀ w : Fin cfg0.W, Pipeline.arrRef spec0 w = a → (cfg0.win w).isOut = false :=
  ListAll.forall_mem_of_all_decide (by decide +kernel)
theorem W1_args (c : Dev nD) : ∀ a ∈ argRefs, W1 m ρ c (Proc.devRef .tc a) = m ((c : Thread nD τ).loc a) :=
  fun a ha => (W1_of m ρ c a (argsIn0 a ha)).trans (W0_args m ρ c a ha)
/-- The same read at the TensorCore's references (region 0's exit contents). -/
abbrev V1 : (c : Dev nD) → (b : Ref sig .tc) → Buf (Elt F) ((c : Thread nD τ).loc b) := fun c b => W1 m ρ c b
/-- At region 0's exit each of its arrays holds what the pipeline leaves (`hF0`) and every other buffer what it
    held at entry (`hrest0`): the two hypotheses of Lib/Pipeline/RegionsLoop.lean `unscopedBufs_of_arrays`. -/
theorem hF0 (c : Dev nD) (w : Fin cfg0.W) : (dat0 (V0 m ρ) c).arrAt w cfg0.N = V1 m ρ c (Pipeline.arrRef spec0 w) :=
  (W1_arr m ρ c w).symm
theorem hrest0 (c : Dev nD) : ∀ b, b ∉ Finset.univ.image (Pipeline.arrRef spec0) → V1 m ρ c b = V0 m ρ c b :=
  fun b hb => W1_of_ne m ρ c b fun w e => hb (Finset.mem_image.mpr ⟨w, Finset.mem_univ _, e⟩)

/-- At region 1's exit: its arrays at what the pipeline leaves (the inputs as entered, each output's write-backs
    folded: `Dat.arrAt … N`), every other buffer as entered . -/
def W2 (c : Dev nD) : Valuation τ sig (Elt F) :=
  Pipeline.withArrays spec1 c (W1 m ρ c) fun w => (dat1 (V1 m ρ) c).arrAt w cfg1.N
theorem W2_arr (c : Dev nD) (w : Fin cfg1.W) :
    W2 m ρ c (Proc.devRef .tc (Pipeline.arrRef spec1 w)) = (dat1 (V1 m ρ) c).arrAt w cfg1.N := by
  unfold W2; exact Pipeline.withArrays_arr spec1 launch1.win.arr_inj c _ _ w
theorem W2_of_ne (c : Dev nD) (b : Ref sig .tc) (hb : ∀ w, Pipeline.arrRef spec1 w ≠ b) :
    W2 m ρ c (Proc.devRef .tc b) = W1 m ρ c (Proc.devRef .tc b) := by
  unfold W2; exact Pipeline.withArrays_of_ne spec1 c _ _ b hb
/-- A reference that is none of region 1's OUTPUT arrays keeps its entry contents across it: an input window's
    array is never written back (`Dat.arrAt_in`, `A_eq1`); any other buffer is left as is. -/
theorem W2_of (c : Dev nD) (r : Ref sig .tc) (h : ∀ w : Fin cfg1.W, Pipeline.arrRef spec1 w = r → (cfg1.win w).isOut = false) :
    W2 m ρ c (Proc.devRef .tc r) = W1 m ρ c (Proc.devRef .tc r) := by
  by_cases hw : ∃ w : Fin cfg1.W, Pipeline.arrRef spec1 w = r
  · obtain ⟨w, rfl⟩ := hw
    exact (W2_arr m ρ c w).trans (((dat1 (V1 m ρ) c).arrAt_in w (h w rfl) _).trans (A_eq1 (V1 m ρ) c w))
  · exact W2_of_ne m ρ c r fun w e => hw ⟨w, e⟩
/-- Every argument among region 1's arrays is an input window's (checked: each argument against each window). -/
theorem argsIn1 : ∀ a ∈ argRefs, ∀ w : Fin cfg1.W, Pipeline.arrRef spec1 w = a → (cfg1.win w).isOut = false :=
  ListAll.forall_mem_of_all_decide (by decide +kernel)
theorem W2_args (c : Dev nD) : ∀ a ∈ argRefs, W2 m ρ c (Proc.devRef .tc a) = m ((c : Thread nD τ).loc a) :=
  fun a ha => (W2_of m ρ c a (argsIn1 a ha)).trans (W1_args m ρ c a ha)
/-- The same read at the TensorCore's references (region 1's exit contents). -/
abbrev V2 : (c : Dev nD) → (b : Ref sig .tc) → Buf (Elt F) ((c : Thread nD τ).loc b) := fun c b => W2 m ρ c b
/-- At region 1's exit each of its arrays holds what the pipeline leaves (`hF1`) and every other buffer what it
    held at entry (`hrest1`): the two hypotheses of Lib/Pipeline/RegionsLoop.lean `unscopedBufs_of_arrays`. -/
theorem hF1 (c : Dev nD) (w : Fin cfg1.W) : (dat1 (V1 m ρ) c).arrAt w cfg1.N = V2 m ρ c (Pipeline.arrRef spec1 w) :=
  (W2_arr m ρ c w).symm
theorem hrest1 (c : Dev nD) : ∀ b, b ∉ Finset.univ.image (Pipeline.arrRef spec1) → V2 m ρ c b = V1 m ρ c b :=
  fun b hb => W2_of_ne m ρ c b fun w e => hb (Finset.mem_image.mpr ⟨w, Finset.mem_univ _, e⟩)

/-- After `hostOps2` (region 2's entry). -/
abbrev W3 : Dev nD → Valuation τ sig (Elt F) := fun c => StableHlo.after hostOps2 (W2 m ρ c)
/-- A reference `hostOps2` does not write keeps its contents across it. -/
theorem W3_of (c : Dev nD) (r : Ref sig .tc) (h : r ∉ hostOps2_W) : W3 m ρ c (Proc.devRef .tc r) = W2 m ρ c (Proc.devRef .tc r) :=
  StableHlo.after_of_writes_sub hostOps2 _ hostOps2_writes h
theorem W3_args (c : Dev nD) : ∀ a ∈ argRefs, W3 m ρ c (Proc.devRef .tc a) = m ((c : Thread nD τ).loc a) :=
  fun a ha => (W3_of m ρ c a (hostOps2_args a ha)).trans (W2_args m ρ c a ha)
/-- The same read at the TensorCore's references (what region 2's proof data take). -/
abbrev V3 : (c : Dev nD) → (b : Ref sig .tc) → Buf (Elt F) ((c : Thread nD τ).loc b) := fun c b => W3 m ρ c b
/-- At region 2's exit: its arrays at what the pipeline leaves (the inputs as entered, each output's write-backs
    folded: `Dat.arrAt … N`), every other buffer as entered  (region 3's entry). -/
def W4 (c : Dev nD) : Valuation τ sig (Elt F) :=
  Pipeline.withArrays spec2 c (W3 m ρ c) fun w => (dat2 (V3 m ρ) c).arrAt w cfg2.N
theorem W4_arr (c : Dev nD) (w : Fin cfg2.W) :
    W4 m ρ c (Proc.devRef .tc (Pipeline.arrRef spec2 w)) = (dat2 (V3 m ρ) c).arrAt w cfg2.N := by
  unfold W4; exact Pipeline.withArrays_arr spec2 launch2.win.arr_inj c _ _ w
theorem W4_of_ne (c : Dev nD) (b : Ref sig .tc) (hb : ∀ w, Pipeline.arrRef spec2 w ≠ b) :
    W4 m ρ c (Proc.devRef .tc b) = W3 m ρ c (Proc.devRef .tc b) := by
  unfold W4; exact Pipeline.withArrays_of_ne spec2 c _ _ b hb
/-- A reference that is none of region 2's OUTPUT arrays keeps its entry contents across it: an input window's
    array is never written back (`Dat.arrAt_in`, `A_eq2`); any other buffer is left as is. -/
theorem W4_of (c : Dev nD) (r : Ref sig .tc) (h : ∀ w : Fin cfg2.W, Pipeline.arrRef spec2 w = r → (cfg2.win w).isOut = false) :
    W4 m ρ c (Proc.devRef .tc r) = W3 m ρ c (Proc.devRef .tc r) := by
  by_cases hw : ∃ w : Fin cfg2.W, Pipeline.arrRef spec2 w = r
  · obtain ⟨w, rfl⟩ := hw
    exact (W4_arr m ρ c w).trans (((dat2 (V3 m ρ) c).arrAt_in w (h w rfl) _).trans (A_eq2 (V3 m ρ) c w))
  · exact W4_of_ne m ρ c r fun w e => hw ⟨w, e⟩
/-- Every argument among region 2's arrays is an input window's (checked: each argument against each window). -/
theorem argsIn2 : ∀ a ∈ argRefs, ∀ w : Fin cfg2.W, Pipeline.arrRef spec2 w = a → (cfg2.win w).isOut = false :=
  ListAll.forall_mem_of_all_decide (by decide +kernel)
theorem W4_args (c : Dev nD) : ∀ a ∈ argRefs, W4 m ρ c (Proc.devRef .tc a) = m ((c : Thread nD τ).loc a) :=
  fun a ha => (W4_of m ρ c a (argsIn2 a ha)).trans (W3_args m ρ c a ha)
/-- The same read at the TensorCore's references (region 2's exit contents). -/
abbrev V4 : (c : Dev nD) → (b : Ref sig .tc) → Buf (Elt F) ((c : Thread nD τ).loc b) := fun c b => W4 m ρ c b
/-- At region 2's exit each of its arrays holds what the pipeline leaves (`hF2`) and every other buffer what it
    held at entry (`hrest2`): the two hypotheses of Lib/Pipeline/RegionsLoop.lean `unscopedBufs_of_arrays`. -/
theorem hF2 (c : Dev nD) (w : Fin cfg2.W) : (dat2 (V3 m ρ) c).arrAt w cfg2.N = V4 m ρ c (Pipeline.arrRef spec2 w) :=
  (W4_arr m ρ c w).symm
theorem hrest2 (c : Dev nD) : ∀ b, b ∉ Finset.univ.image (Pipeline.arrRef spec2) → V4 m ρ c b = V3 m ρ c b :=
  fun b hb => W4_of_ne m ρ c b fun w e => hb (Finset.mem_image.mpr ⟨w, Finset.mem_univ _, e⟩)

/-- At region 3's exit: its arrays at what the pipeline leaves (the inputs as entered, each output's write-backs
    folded: `Dat.arrAt … N`), every other buffer as entered . -/
def W5 (c : Dev nD) : Valuation τ sig (Elt F) :=
  Pipeline.withArrays spec3 c (W4 m ρ c) fun w => (dat3 (V4 m ρ) c).arrAt w cfg3.N
theorem W5_arr (c : Dev nD) (w : Fin cfg3.W) :
    W5 m ρ c (Proc.devRef .tc (Pipeline.arrRef spec3 w)) = (dat3 (V4 m ρ) c).arrAt w cfg3.N := by
  unfold W5; exact Pipeline.withArrays_arr spec3 launch3.win.arr_inj c _ _ w
theorem W5_of_ne (c : Dev nD) (b : Ref sig .tc) (hb : ∀ w, Pipeline.arrRef spec3 w ≠ b) :
    W5 m ρ c (Proc.devRef .tc b) = W4 m ρ c (Proc.devRef .tc b) := by
  unfold W5; exact Pipeline.withArrays_of_ne spec3 c _ _ b hb
/-- A reference that is none of region 3's OUTPUT arrays keeps its entry contents across it: an input window's
    array is never written back (`Dat.arrAt_in`, `A_eq3`); any other buffer is left as is. -/
theorem W5_of (c : Dev nD) (r : Ref sig .tc) (h : ∀ w : Fin cfg3.W, Pipeline.arrRef spec3 w = r → (cfg3.win w).isOut = false) :
    W5 m ρ c (Proc.devRef .tc r) = W4 m ρ c (Proc.devRef .tc r) := by
  by_cases hw : ∃ w : Fin cfg3.W, Pipeline.arrRef spec3 w = r
  · obtain ⟨w, rfl⟩ := hw
    exact (W5_arr m ρ c w).trans (((dat3 (V4 m ρ) c).arrAt_in w (h w rfl) _).trans (A_eq3 (V4 m ρ) c w))
  · exact W5_of_ne m ρ c r fun w e => hw ⟨w, e⟩
/-- Every argument among region 3's arrays is an input window's (checked: each argument against each window). -/
theorem argsIn3 : ∀ a ∈ argRefs, ∀ w : Fin cfg3.W, Pipeline.arrRef spec3 w = a → (cfg3.win w).isOut = false :=
  ListAll.forall_mem_of_all_decide (by decide +kernel)
theorem W5_args (c : Dev nD) : ∀ a ∈ argRefs, W5 m ρ c (Proc.devRef .tc a) = m ((c : Thread nD τ).loc a) :=
  fun a ha => (W5_of m ρ c a (argsIn3 a ha)).trans (W4_args m ρ c a ha)
/-- The same read at the TensorCore's references (region 3's exit contents). -/
abbrev V5 : (c : Dev nD) → (b : Ref sig .tc) → Buf (Elt F) ((c : Thread nD τ).loc b) := fun c b => W5 m ρ c b
/-- At region 3's exit each of its arrays holds what the pipeline leaves (`hF3`) and every other buffer what it
    held at entry (`hrest3`): the two hypotheses of Lib/Pipeline/RegionsLoop.lean `unscopedBufs_of_arrays`. -/
theorem hF3 (c : Dev nD) (w : Fin cfg3.W) : (dat3 (V4 m ρ) c).arrAt w cfg3.N = V5 m ρ c (Pipeline.arrRef spec3 w) :=
  (W5_arr m ρ c w).symm
theorem hrest3 (c : Dev nD) : ∀ b, b ∉ Finset.univ.image (Pipeline.arrRef spec3) → V5 m ρ c b = V4 m ρ c b :=
  fun b hb => W5_of_ne m ρ c b fun w e => hb (Finset.mem_image.mpr ⟨w, Finset.mem_univ _, e⟩)

/-- After `hostOps4`. -/
abbrev W6 : Dev nD → Valuation τ sig (Elt F) := fun c => StableHlo.after hostOps4 (W5 m ρ c)
/-- A reference `hostOps4` does not write keeps its contents across it. -/
theorem W6_of (c : Dev nD) (r : Ref sig .tc) (h : r ∉ hostOps4_W) : W6 m ρ c (Proc.devRef .tc r) = W5 m ρ c (Proc.devRef .tc r) :=
  StableHlo.after_of_writes_sub hostOps4 _ hostOps4_writes h
theorem W6_args (c : Dev nD) : ∀ a ∈ argRefs, W6 m ρ c (Proc.devRef .tc a) = m ((c : Thread nD τ).loc a) :=
  fun a ha => (W6_of m ρ c a (hostOps4_args a ha)).trans (W5_args m ρ c a ha)

/-! ### The arguments end as launched: no host stretch writes one and no region may change one (a region reads it
    through an input window or bypasses it) -/

theorem W6_main_arg0 (c : Dev nD) : W6 m ρ c (Proc.devRef .tc main_arg0) = m ((c : Thread nD τ).loc main_arg0) :=
  W6_args m ρ c main_arg0 (by decide)
theorem W6_main_arg1 (c : Dev nD) : W6 m ρ c (Proc.devRef .tc main_arg1) = m ((c : Thread nD τ).loc main_arg1) :=
  W6_args m ρ c main_arg1 (by decide)

/-! ## The proof data family and the thread state -/

/-- The prefetched tables' admissible contents: no pipeline has a table. -/
abbrev adm : (p : Fin 4) → (pcfgs (F := F) p).Adm := fun p => (cfgs p).toPCfg_adm
/-- Every pipeline's proof data, each at its region's entry contents — a literal `match`, so that the kit's
    `Pipeline.pin pcfgs adm p` at a numeral reduces to the printed configuration. -/
def pdats : (p : Fin 4) → (c : Dev nD) → Dat τ (Elt F) Unit ℕ (UR sig nD τ) ℕ (Pipeline.pin (pcfgs (F := F)) adm p) c
  | ⟨0, _⟩ => fun c => dat0 (V0 m ρ) c
  | ⟨1, _⟩ => fun c => dat1 (V1 m ρ) c
  | ⟨2, _⟩ => fun c => dat2 (V3 m ρ) c
  | ⟨3, _⟩ => fun c => dat3 (V4 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state (the class-A
    invariant takes it in and gives it back) and its `owes`, at nothing. -/
abbrev R (c : Dev nD) : sProp 𝕄 := iprop((∃ r, prngReg c r) ∗ ∃ W, owes (c : Thread nD τ) (0 : CellTallies nD τ sig Unit) W)
/-- A host stretch as a segment: `HostSeg.ofOps` over the unscoped references from the contents `W`, `R` riding along
    (its `post` is then those references at `StableHlo.after ops (W c)`: the next boundary's contents by name). -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes` (the kit's chain ends at it BESIDE the core owing nothing): every unscoped
    buffer at the last boundary's contents `W6`, the generator register at some state. -/
abbrev Tₙ (c : Dev nD) : sProp 𝕄 := iprop(StableHlo.held (c : Thread nD τ) (Pipeline.ucRefs τ sig) (W6 m ρ c) ∗ ∃ r, prngReg c r)

/-! ## The regions as segments -/

-- `iapply` of a library lemma stated over `pin pcs a p` unifies with the pinned configuration only when unification may
-- unfold plain definitions in a metavariable's type
set_option backward.isDefEq.respectTransparency.types false in
/-- REGION 0 (custom_call 0) over the thread state: entered from every unscoped buffer at `W0`, left at `W1`
    (what the next segment is entered from). Its arrays split out of the unscoped buffers
    (`arrays_of_unscopedBufs`) and put back at the exit contents (`unscopedBufs_of_arrays`); the generator register into the
    class invariant `ΦA` and out; nothing owed; no semaphore of the kernel's own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V0 m ρ) c).loose
  hwaits := Pipeline.hwaits_of_owed_zero _ _ _ _ L lv 0 fun _ _ => rfl
  pre c := iprop(StableHlo.held (c : Thread nD τ) (Pipeline.ucRefs τ sig) (W0 m ρ c) ∗ R c)
  post c := iprop(StableHlo.held (c : Thread nD τ) (Pipeline.ucRefs τ sig) (W1 m ρ c) ∗ R c)
  X c := iprop(∃ r, prngReg c r)
  Y c := iprop(∃ r, prngReg c r)
  Z c := Pipeline.unscopedRest (Ix := Unit) (Name := ℕ) (U := UR sig nD τ) (Lvl := ℕ) spec0 c (V0 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V0 m ρ c) (A_eq0 (V0 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ ((PhiJ0_of c).trans (hin0 (V0 m ρ) c))
    unfold Pipeline.ΦA
    iintro ⟨Hp, -, Hr⟩
    isplitl [Hr]; · iexact Hr
    iexact Hp
  hout c := by
    rw [Pipeline.ownSems0_none]
    refine .trans ((hout0 (V0 m ρ) c).trans (PhiJ0_to c)) ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V0 m ρ c) (V1 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- `iapply` of a library lemma stated over `pin pcs a p` unifies with the pinned configuration only when unification may
-- unfold plain definitions in a metavariable's type
set_option backward.isDefEq.respectTransparency.types false in
/-- REGION 1 (custom_call 1) over the thread state: entered from every unscoped buffer at `W1`, left at `W2`
    (what the next segment is entered from). Its arrays split out of the unscoped buffers
    (`arrays_of_unscopedBufs`) and put back at the exit contents (`unscopedBufs_of_arrays`); the generator register into the
    class invariant `ΦA` and out; nothing owed; no semaphore of the kernel's own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V1 m ρ) c).loose
  hwaits := Pipeline.hwaits_of_owed_zero _ _ _ _ L lv 1 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec1 c (V1 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V1 m ρ c) (A_eq1 (V1 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V1 m ρ c) (V2 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- `iapply` of a library lemma stated over `pin pcs a p` unifies with the pinned configuration only when unification may
-- unfold plain definitions in a metavariable's type
set_option backward.isDefEq.respectTransparency.types false in
/-- REGION 2 (custom_call 2) over the thread state: entered from every unscoped buffer at `W3`, left at `W4`
    (what the next segment is entered from). Its arrays split out of the unscoped buffers
    (`arrays_of_unscopedBufs`) and put back at the exit contents (`unscopedBufs_of_arrays`); the generator register into the
    class invariant `ΦA` and out; nothing owed; no semaphore of the kernel's own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V3 m ρ) c).loose
  hwaits := Pipeline.hwaits_of_owed_zero _ _ _ _ L lv 2 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec2 c (V3 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V3 m ρ c) (A_eq2 (V3 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ ((PhiJ2_of c).trans (hin2 (V3 m ρ) c))
    unfold Pipeline.ΦA
    iintro ⟨Hp, -, Hr⟩
    isplitl [Hr]; · iexact Hr
    iexact Hp
  hout c := by
    rw [Pipeline.ownSems0_none]
    refine .trans ((hout2 (V3 m ρ) c).trans (PhiJ2_to c)) ?_
    unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V3 m ρ c) (V4 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- `iapply` of a library lemma stated over `pin pcs a p` unifies with the pinned configuration only when unification may
-- unfold plain definitions in a metavariable's type
set_option backward.isDefEq.respectTransparency.types false in
/-- REGION 3 (custom_call 3) over the thread state: entered from every unscoped buffer at `W4`, left at `W5`
    (what the next segment is entered from). Its arrays split out of the unscoped buffers
    (`arrays_of_unscopedBufs`) and put back at the exit contents (`unscopedBufs_of_arrays`); the generator register into the
    class invariant `ΦA` and out; nothing owed; no semaphore of the kernel's own. -/
def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (body_obligation3 (V4 m ρ) c).loose
  hwaits := Pipeline.hwaits_of_owed_zero _ _ _ _ L lv 3 fun _ _ => rfl
  pre c := iprop(StableHlo.held (c : Thread nD τ) (Pipeline.ucRefs τ sig) (W4 m ρ c) ∗ R c)
  post c := iprop(StableHlo.held (c : Thread nD τ) (Pipeline.ucRefs τ sig) (W5 m ρ c) ∗ R c)
  X c := iprop(∃ r, prngReg c r)
  Y c := iprop(∃ r, prngReg c r)
  Z c := Pipeline.unscopedRest (Ix := Unit) (Name := ℕ) (U := UR sig nD τ) (Lvl := ℕ) spec3 c (V4 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (V4 m ρ c) (A_eq3 (V4 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m ρ 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (V4 m ρ c) (V5 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

/-- @main's 6 segments in order: a host segment per stretch from its boundary's contents, a region per pallas_call. -/
abbrev segs : List (Pipeline.Seg (pcfgs (F := F)) adm (pdats m ρ) () defs₀ 𝒱₀ L lv) :=
  [ .region (reg0 m ρ),
    .region (reg1 m ρ),
    .host (hseg hostOps2 hostOps2_sub hostOps2_fresh (W2 m ρ)),
    .region (reg2 m ρ),
    .region (reg3 m ρ),
    .host (hseg hostOps4 hostOps4_sub hostOps4_fresh (W5 m ρ)) ]
/-- @main IS the run of the segments: `Gen.main_chain`, then the segments' run against that chain by the kernel's
    definitional check (`chain_rfl`). -/
theorem main_run (c : Dev nD) : main (F := F) c = Pipeline.Seg.run (segs m ρ) := (main_chain c).trans (by chain_rfl)

/-- The TensorCore has no unscoped semaphore. -/
theorem no_unscoped : ∀ sm : SemLoc sig, sm.isScoped .tc = true := by decide

-- `θ_run_regions_kit_sems`'s implicit arguments are found by unifying its conclusion with this one, which takes unfolding
-- plain definitions in a metavariable's type
set_option backward.isDefEq.respectTransparency.types false in
/-- THE RUN: from any memory with zero counters every weakly fair execution of @main terminates, nothing faulting; every
    final state holds every unscoped buffer at the last boundary's contents `W6`, and every counter at zero. -/
theorem run : θ_run defs (onTc (τ := τ) (main (F := F))) ⟨m, fun _ => 0, ρ⟩ (fun r => (∀ c : Dev nD,
      ∀ b ∈ Pipeline.ucRefs τ sig, r.2.mem (((c : Thread nD τ)).1, b) = W6 m ρ c b) ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h hz => ⟨h, funext fun g => hz g (.inr (no_unscoped g.2))⟩)

/-- The frame: the argument arrays end as launched, and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  (θ_run defs _ _).mono (fun r h => ⟨fun c =>
    ⟨(h.1 c _ (mem_uc main_arg0 (by decide))).trans (W6_main_arg0 m ρ c),
     (h.1 c _ (mem_uc main_arg1 (by decide))).trans (W6_main_arg1 m ρ c)⟩, h.2⟩) (run m ρ)

end Cert.KernelIdeal.Hand

end
-- ==== Proof.Amax.lean ====
module

public import Idealize.ShloMosaic.PureOps.Ideal
public import Idealize.ShloMosaic.PureOps.Reduce
public import Idealize.ShloMosaic.PureOps.Vector
public import Idealize.ShloMosaic.PureOps.ShapeOps

@[expose] public section

noncomputable section

/-! Maxima at extended reals, described by their upper bounds: a bound of the maximum is a bound of every element.
No index is ever computed. -/

namespace Cert.Amax

open Idealize.ShloMosaic

variable {s t : Shape}

instance : Std.Commutative (fun x y : EReal => max x y) := ⟨max_comm⟩
instance : Std.Associative (fun x y : EReal => max x y) := ⟨max_assoc⟩
instance {φ : FTy} : Std.Commutative (FloatOps.maximumf (F := Ideal) (φ := φ)) := ⟨fun x y => max_comm (α := EReal) x y⟩
instance {φ : FTy} : Std.Associative (FloatOps.maximumf (F := Ideal) (φ := φ)) := ⟨fun x y z => max_assoc (α := EReal) x y z⟩

/-- A fold of maxima is at most `B` exactly when its start and every element are. -/
theorem fold_le {ι : Type} {φ : FTy} (S : Finset ι) (b : Ideal φ) (f : ι → Ideal φ) (B : EReal) :
    @LE.le EReal _ (S.fold (FloatOps.maximumf (F := Ideal) (φ := φ)) b f) B
      ↔ @LE.le EReal _ b B ∧ ∀ i ∈ S, @LE.le EReal _ (f i) B := by
  classical
  induction S using Finset.induction_on with
  | empty => simp
  | insert a S ha ih =>
    rw [Finset.fold_insert ha]
    have e : @LE.le EReal _ (FloatOps.maximumf (f a) (S.fold (FloatOps.maximumf (F := Ideal) (φ := φ)) b f)) B
        ↔ @LE.le EReal _ (f a) B ∧ @LE.le EReal _ (S.fold (FloatOps.maximumf (F := Ideal) (φ := φ)) b f) B :=
      max_le_iff (α := EReal)
    rw [e, ih]
    simp only [Finset.mem_insert, forall_eq_or_imp]
    tauto

/-- The f32 word of minus infinity. -/
theorem ninf32 : Ideal.ofBits .f32 0xFF800000#32 = (⊥ : EReal) := by
  simp [Ideal.ofBits, Ideal.ieee]

/-- The bf16 word of minus infinity. -/
theorem ninf16 : Ideal.ofBits .bf16 0xFF80#16 = (⊥ : EReal) := by
  simp [Ideal.ofBits, Ideal.ieee]

/-- Every entry of a maximum along axes is at most `B` exactly when every element is. -/
theorem multiReduction_le {φ : FTy} {axes : List (Fin s.rank)} (x : FVec Ideal s φ) (acc : BitVec φ.bits)
    (h : s.Reduces axes t) (hφ : FKind.Formats φ) (hacc : acc = FKind.maximumf.neutral φ hφ)
    (hbot : Ideal.ofBits φ acc = (⊥ : EReal)) (B : EReal) :
    (∀ j, @LE.le EReal _ (multiReduction .maximumf axes t x acc h hφ hacc j) B) ↔ ∀ i, @LE.le EReal _ (x i) B := by
  constructor
  · intro H i
    have := H (h.drop i)
    rw [multiReduction_maximumf_eq_fold, fold_le] at this
    exact this.2 i (by simp)
  · intro H j
    rw [multiReduction_maximumf_eq_fold, fold_le]
    refine ⟨?_, fun i _ => H i⟩
    exact le_of_eq_of_le hbot bot_le

/-- The host's maximum over all axes. -/
theorem hostReduce_le {φ : FTy} {u : Shape} {axes : List (Fin s.rank)} (x : FVec Ideal s φ) (init : u.Idx → Ideal φ)
    (h : s.ReducesTo axes t) (hu : 0 < u.numel) (hbot : ∀ i, init i = (⊥ : EReal)) (B : EReal) :
    (∀ j, @LE.le EReal _ (Host.reduce (FloatOps.maximumf (F := Ideal) (φ := φ)) x init h hu j) B)
      ↔ ∀ i, @LE.le EReal _ (x i) B := by
  constructor
  · intro H i
    have := H (h.drop i)
    rw [Host.reduce_eq_fold, fold_le] at this
    exact this.2 i (by simp)
  · intro H j
    rw [Host.reduce_eq_fold, fold_le]
    refine ⟨?_, fun i _ => H i⟩
    exact le_of_eq_of_le (hbot _) bot_le

/-- A reshape has the same elements. -/
theorem shapeCast_all {α : Type} (x : s.Idx → α) (h : s.ShapeCasts t) (P : α → Prop) :
    (∀ j, P (shapeCast t x h j)) ↔ ∀ i, P (x i) :=
  ⟨fun H i => by simpa only [shapeCast, Equiv.apply_symm_apply] using H ((Shape.reshapeEquiv h).symm i), fun H j => H _⟩

/-- `a` is the greatest of the elements of `x`, described by its upper bounds. -/
def IsMax {ι : Type} (x : ι → EReal) (a : EReal) : Prop := ∀ B : EReal, a ≤ B ↔ ∀ i, x i ≤ B

/-- A greatest element is unique. -/
theorem IsMax.unique {ι : Type} {x : ι → EReal} {a b : EReal} (ha : IsMax x a) (hb : IsMax x b) : a = b :=
  le_antisymm ((ha b).mpr ((hb b).mp le_rfl)) ((hb a).mpr ((ha a).mp le_rfl))

/-- The absolute value, as a maximum. -/
abbrev mag (x : EReal) : EReal := max x (-x)

/-- The greatest absolute value over a nonempty array is not negative. -/
theorem IsMax.nonneg {ι : Type} {x : ι → EReal} {a : EReal} (i : ι) (ha : IsMax (fun i => max (x i) (-(x i))) a) : 0 ≤ a := by
  refine le_trans ?_ ((ha a).mp le_rfl i)
  rcases le_total 0 (x i) with h | h
  · exact le_max_of_le_left h
  · exact le_max_of_le_right (EReal.neg_nonneg.mpr h)

end Cert.Amax

end
-- ==== Proof.Scale.lean ====
module

public import Idealize.ShloMosaic.PureOps.Ideal
public import Idealize.ShloMosaic.PureOps.Vector

@[expose] public section

noncomputable section

/-! The power-of-two scale of a tensor, at extended reals: the kernel's integer form and the reference's form
with logarithm and power, and why they agree. -/

namespace Cert.Scale

open Idealize.ShloMosaic

/-- `2^n` in the range of binary32: zero below the normal numbers, infinite above them. -/
def ldexp1 (n : ℤ) : EReal := if n ≤ -127 then 0 else if 128 ≤ n then ⊤ else (((2 : ℝ) ^ n : ℝ) : EReal)

/-- The fields of the word `k <<< 23`: sign zero, exponent `k`, significand zero. -/
theorem fields : ∀ k : Fin 256,
    ((IntOp.shli .vector (BitVec.ofNat 32 k.val) 23#32).extractLsb' (8 + 23) 1 == 1#1) = false
    ∧ ((IntOp.shli .vector (BitVec.ofNat 32 k.val) 23#32).extractLsb' 23 8).toNat = k.val
    ∧ ((IntOp.shli .vector (BitVec.ofNat 32 k.val) 23#32).extractLsb' 0 23).toNat = 0 := by
  decide +kernel

/-- An exponent word with a zero significand, as a number. -/
theorem ieee_of_fields {w : BitVec 32} {k : ℕ} (hneg : (w.extractLsb' (8 + 23) 1 == 1#1) = false)
    (hex : (w.extractLsb' 23 8).toNat = k) (hfr : (w.extractLsb' 0 23).toNat = 0) (hk : k ≤ 255) :
    Ideal.ieee 8 23 w = ldexp1 ((k : ℤ) - 127) := by
  unfold Ideal.ieee ldexp1
  rw [hneg, hex, hfr]
  by_cases h255 : k = 255
  · subst h255; simp
  · rw [if_neg (show ¬ k = 2 ^ 8 - 1 from h255)]
    by_cases h0 : k = 0
    · subst h0; simp
    · rw [if_neg h0, if_neg (show ¬ ((k : ℤ) - 127 ≤ -127) by omega), if_neg (show ¬ (128 ≤ (k : ℤ) - 127) by omega)]
      have e : ((k : ℤ) - (2 ^ (8 - 1) - 1) - ((23 : ℕ) : ℤ)) = ((k : ℤ) - 127) - 23 := by norm_num
      rw [e, zpow_sub₀ (by norm_num : (2 : ℝ) ≠ 0)]
      have e2 : (2 : ℝ) ^ (23 : ℤ) = 8388608 := by norm_num
      have e3 : (((2 ^ 23 + 0 : ℕ)) : ℝ) = 8388608 := by norm_num
      rw [e2, e3]
      congr 1
      simp only [Bool.false_eq_true, if_false]
      ring

/-- The word of the biased exponent `k`, read as a binary32 number, is `2^(k - 127)` in range. -/
theorem ofBits_shift (k : ℕ) (hk : k ≤ 255) :
    Ideal.ofBits .f32 (IntOp.shli .vector (BitVec.ofNat 32 k) 23#32) = ldexp1 ((k : ℤ) - 127) := by
  obtain ⟨h1, h2, h3⟩ := fields ⟨k, by omega⟩
  exact ieee_of_fields h1 h2 h3 hk

/-- The word of zero. -/
theorem ofBits_zero : Ideal.ofBits .f32 0#32 = 0 := by
  simp [Ideal.ofBits, Ideal.ieee]

/-- The word of infinity. -/
theorem ofBits_inf : Ideal.ofBits .f32 0x7F800000#32 = ⊤ := by
  simp [Ideal.ofBits, Ideal.ieee]

/-- The word of the least normal number. -/
theorem ofBits_min : Ideal.ofBits .f32 0x00800000#32 = ldexp1 (-126) := by
  have := ofBits_shift 1 (by omega)
  have e : IntOp.shli .vector (BitVec.ofNat 32 1) 23#32 = 0x00800000#32 := by decide
  rw [e] at this
  rw [this]; norm_num

/-- `2^n` in range never falls when `n` grows. -/
theorem ldexp1_mono {a b : ℤ} (h : a ≤ b) : ldexp1 a ≤ ldexp1 b := by
  unfold ldexp1
  by_cases h1 : a ≤ -127
  · rw [if_pos h1]
    split_ifs
    · exact le_rfl
    · exact le_top
    · exact_mod_cast (by positivity : (0 : ℝ) ≤ (2 : ℝ) ^ b)
  · rw [if_neg h1]
    have h2 : ¬ b ≤ -127 := by omega
    rw [if_neg h2]
    by_cases h3 : 128 ≤ b
    · rw [if_pos h3]; exact le_top
    · rw [if_neg h3, if_neg (by omega)]
      have := zpow_le_zpow_right₀ (by norm_num : (1 : ℝ) ≤ 2) h
      exact_mod_cast this

/-- The greatest `k ≤ 255` whose power `2^(k - 127)` is at most `t`: the biased exponent of `t`. -/
def IsBiased (t : EReal) (b : ℕ) : Prop :=
  b ≤ 255 ∧ ldexp1 ((b : ℤ) - 127) ≤ t ∧ ∀ k : ℕ, k ≤ 255 → ldexp1 ((k : ℤ) - 127) ≤ t → k ≤ b

/-- The exponent the kernel takes from the biased exponent. -/
def expo (b : ℕ) (a : EReal) : ℤ := if a = 0 then 0 else if b = 0 ∨ b = 255 then 0 else (b : ℤ) - 126

/-- The reference's exponent of `t`: `⌊log₂ t⌋ + 1`, with zero, subnormal and infinite `t` sent to 0. -/
def refExpo (t a : EReal) : EReal :=
  if a = 0 then 0
  else if t < ldexp1 (-126) ∨ ⊤ ≤ t then 0
  else Ideal.liftRound Int.floor (Ideal.div (Ideal.log t) (Ideal.log ((2 : ℝ) : EReal))) + 1

/-- The reference's `2^n`. -/
def refPow (n : EReal) : EReal :=
  if n < ((-126 : ℝ) : EReal) then 0 else if ((127 : ℝ) : EReal) < n then ⊤ else Ideal.pow ((2 : ℝ) : EReal) n

/-- At an integer the reference's `2^n` is the power of two of f32's range. -/
theorem refPow_int (n : ℤ) : refPow (((n : ℝ)) : EReal) = ldexp1 n := by
  unfold refPow ldexp1
  have h1 : ((((n : ℝ)) : EReal) < ((-126 : ℝ) : EReal)) ↔ n ≤ -127 := by
    rw [EReal.coe_lt_coe_iff]
    constructor
    · intro h
      have : n < -126 := by exact_mod_cast h
      omega
    · intro h
      have : n < -126 := by omega
      exact_mod_cast this
  have h2 : (((127 : ℝ) : EReal) < (((n : ℝ)) : EReal)) ↔ 128 ≤ n := by
    rw [EReal.coe_lt_coe_iff]
    constructor
    · intro h
      have : (127 : ℤ) < n := by exact_mod_cast h
      omega
    · intro h
      have : (127 : ℤ) < n := by omega
      exact_mod_cast this
  simp only [h1, h2]
  split_ifs
  · rfl
  · rfl
  · rw [Ideal.pow_coe_coe]
    congr 1
    exact Real.rpow_intCast 2 n

/-- The kernel's scale and inverse are the reference's. -/
theorem scale_eq (t a : EReal) (b : ℕ) (hb : IsBiased t b) :
    ldexp1 (expo b a) = refPow (refExpo t a) ∧ ldexp1 (-(expo b a)) = refPow (-(refExpo t a)) := by
  have key : ∀ n : ℤ, refExpo t a = (((n : ℝ)) : EReal) → ldexp1 (expo b a) = ldexp1 n →
      ldexp1 (-(expo b a)) = ldexp1 (-n) →
      ldexp1 (expo b a) = refPow (refExpo t a) ∧ ldexp1 (-(expo b a)) = refPow (-(refExpo t a)) := by
    intro n h1 h2 h3
    rw [h1, refPow_int]
    refine ⟨h2, h3.trans ?_⟩
    rw [← refPow_int (-n), ← EReal.coe_neg]
    push_cast
    rfl
  by_cases ha : a = 0
  · have e0 : expo b a = 0 := by simp [expo, ha]
    refine key 0 (by simp [refExpo, ha]) ?_ ?_ <;> rw [e0]
  obtain ⟨hb1, hb2, hb3⟩ := hb
  by_cases ht : t < ldexp1 (-126)
  · -- a zero or subnormal `t`
    have hb0 : b = 0 := by
      by_contra h
      have : ldexp1 (-126) ≤ ldexp1 ((b : ℤ) - 127) := ldexp1_mono (by omega)
      exact absurd (lt_of_lt_of_le ht this) (not_lt.mpr hb2)
    have e0 : expo b a = 0 := by simp [expo, ha, hb0]
    refine key 0 (by simp [refExpo, ha, ht]) ?_ ?_ <;> rw [e0]
  by_cases htop : t = ⊤
  · have hb0 : b = 255 := by
      have := hb3 255 le_rfl (by rw [htop]; exact le_top)
      omega
    have e0 : expo b a = 0 := by simp [expo, ha, hb0]
    refine key 0 (by simp [refExpo, ha, htop]) ?_ ?_ <;> rw [e0]
  have ht' : ldexp1 (-126) ≤ t := not_lt.mp ht
  -- a real `t` of at least `2^-126`
  obtain ⟨r, rfl⟩ : ∃ r : ℝ, t = (r : EReal) := by
    induction t with
    | bot =>
      exfalso
      have : ldexp1 (-126) = (((2 : ℝ) ^ (-126 : ℤ) : ℝ) : EReal) := by norm_num [ldexp1]
      rw [this] at ht'
      exact absurd ht' (not_le.mpr (EReal.bot_lt_coe _))
    | top => exact absurd rfl htop
    | coe x => exact ⟨x, rfl⟩
  have hmid : ∀ n : ℤ, -126 ≤ n → n ≤ 127 → ldexp1 n = (((2 : ℝ) ^ n : ℝ) : EReal) := by
    intro n h1 h2
    rw [ldexp1, if_neg (by omega), if_neg (by omega)]
  have hr : (2 : ℝ) ^ (-126 : ℤ) ≤ r := by
    rw [hmid _ (by omega) (by omega)] at ht'
    exact_mod_cast ht'
  have hrpos : 0 < r := lt_of_lt_of_le (by positivity) hr
  have hbge : 1 ≤ b := hb3 1 (by omega) (by simpa using ht')
  have hble : b ≤ 254 := by
    by_contra h
    have hb0 : b = 255 := by omega
    subst hb0
    have : ldexp1 (((255 : ℕ) : ℤ) - 127) = ⊤ := by norm_num [ldexp1]
    rw [this] at hb2
    exact absurd hb2 (not_le.mpr (EReal.coe_lt_top r))
  have elow : (2 : ℝ) ^ ((b : ℤ) - 127) ≤ r := by
    rw [hmid _ (by omega) (by omega)] at hb2
    exact_mod_cast hb2
  set n : ℤ := ⌊Real.log r / Real.log 2⌋ + 1 with hn
  have hfl : ∀ z : ℤ, (z ≤ ⌊Real.log r / Real.log 2⌋ ↔ (2 : ℝ) ^ z ≤ r) := by
    intro z
    rw [Int.le_floor, le_div_iff₀ (Real.log_pos (by norm_num)), ← Real.log_zpow,
      Real.log_le_log_iff (by positivity) hrpos]
  have hexp : expo b a = (b : ℤ) - 126 := by
    rw [expo, if_neg ha, if_neg (by omega)]
  have hlow : (b : ℤ) - 127 ≤ n - 1 := by
    have := (hfl ((b : ℤ) - 127)).mpr elow
    omega
  have hhigh : b < 254 → n - 1 ≤ (b : ℤ) - 127 := by
    intro hlt
    by_contra h
    have h1 : (2 : ℝ) ^ ((b : ℤ) - 126) ≤ r := (hfl _).mp (by omega)
    have h2 := hb3 (b + 1) (by omega) (by
      rw [hmid _ (by push_cast; omega) (by push_cast; omega)]
      have e : (((b + 1 : ℕ) : ℤ) - 127) = (b : ℤ) - 126 := by push_cast; ring
      rw [e]
      exact_mod_cast h1)
    omega
  refine key n ?_ ?_ ?_
  · rw [refExpo, if_neg ha, if_neg (not_or.mpr ⟨ht, not_le.mpr (EReal.coe_lt_top r)⟩), Ideal.log_coe, Ideal.log_coe,
      if_neg (not_le.mpr hrpos), if_neg (by norm_num), Ideal.div_coe (Real.log_pos (by norm_num)).ne', ← EReal.coe_mul,
      Ideal.liftRound_coe, mul_one_div, hn]
    push_cast
    rfl
  · rw [hexp]
    by_cases h : b < 254
    · have := hhigh h
      congr 1
      omega
    · rw [ldexp1, ldexp1, if_neg (by omega), if_pos (by omega), if_neg (by omega), if_pos (by omega)]
  · rw [hexp]
    by_cases h : b < 254
    · have := hhigh h
      congr 1
      omega
    · rw [ldexp1, ldexp1, if_pos (by omega), if_pos (by omega)]

end Cert.Scale

end
-- ==== Proof.ScaleWord.lean ====
module

public import proofs.«01_k».proof.Proof.Scale
public import Idealize.ShloMosaic.PureOps.Reduce

@[expose] public section

noncomputable section

/-! The kernel's 32-bit words of the scale: the biased exponent as a maximum over the powers of two that are at most
`t`, the exponent, and the word of `2^e`. -/

namespace Cert.Scale

open Idealize.ShloMosaic

/-- The signed maximum of two small words. -/
theorem maxsi_small (x y : ℕ) (hx : x ≤ 255) (hy : y ≤ 255) :
    IntOp.maxsi (BitVec.ofNat 32 x) (BitVec.ofNat 32 y) = BitVec.ofNat 32 (max x y) := by
  have tx : (BitVec.ofNat 32 x).toInt = x := by
    rw [BitVec.toInt_eq_toNat_of_lt (by simp only [BitVec.toNat_ofNat]; omega), BitVec.toNat_ofNat, Nat.mod_eq_of_lt (by omega)]
  have ty : (BitVec.ofNat 32 y).toInt = y := by
    rw [BitVec.toInt_eq_toNat_of_lt (by simp only [BitVec.toNat_ofNat]; omega), BitVec.toNat_ofNat, Nat.mod_eq_of_lt (by omega)]
  unfold IntOp.maxsi
  rw [BitVec.slt, tx, ty]
  by_cases h : y < x
  · rw [if_pos (by simpa using h), max_eq_left (by omega)]
  · rw [if_neg (by simpa using h), max_eq_right (by omega)]

/-- The least word is below every small word. -/
theorem maxsi_min : ∀ x : Fin 256, IntOp.maxsi (BitVec.ofNat 32 x.val) 0x80000000#32 = BitVec.ofNat 32 x.val := by
  decide +kernel

/-- The signed maximum of small words over a nonempty set is the word of the greatest. -/
theorem fold_maxsi {ι : Type} (S : Finset ι) (g : ι → ℕ) (hg : ∀ i, g i ≤ 255) :
    (S.Nonempty → S.fold IKind.maxsi.op (0x80000000#32) (fun i => BitVec.ofNat 32 (g i)) = BitVec.ofNat 32 (S.sup g))
    ∧ (¬S.Nonempty → S.fold IKind.maxsi.op (0x80000000#32) (fun i => BitVec.ofNat 32 (g i)) = 0x80000000#32) := by
  classical
  induction S using Finset.induction_on with
  | empty => exact ⟨fun h => absurd h (by simp), fun _ => by simp⟩
  | insert a S ha ih =>
    refine ⟨fun _ => ?_, fun h => absurd (Finset.insert_nonempty a S) h⟩
    rw [Finset.fold_insert ha, Finset.sup_insert]
    by_cases hS : S.Nonempty
    · rw [ih.1 hS]
      exact maxsi_small _ _ (hg a) (Finset.sup_le fun i _ => hg i)
    · rw [ih.2 hS, Finset.not_nonempty_iff_eq_empty.mp hS]
      have hb : g a < 256 := by have := hg a; omega
      rw [Finset.sup_empty, sup_of_le_left (by simp)]
      exact maxsi_min ⟨g a, hb⟩

/-- The word a lane offers to the maximum: its number where its power of two is at most `t`, else zero. -/
def lane (t : EReal) (k : ℕ) : BitVec 32 :=
  Scalar.select (Ideal.cmp .oge t (Ideal.ofBits .f32 (IntOp.shli .vector (BitVec.ofNat 32 k) 23#32))) (BitVec.ofNat 32 k) 0#32

/-- The maximum over the lanes is the biased exponent of `t`. -/
theorem biased_of_fold {ι : Type} (S : Finset ι) (f : ι → ℕ) (hf : ∀ i, f i ≤ 255)
    (hs : ∀ k, k ≤ 255 → ∃ i ∈ S, f i = k) (t : EReal) (ht : 0 ≤ t) :
    ∃ b, IsBiased t b ∧ S.fold IKind.maxsi.op (0x80000000#32) (fun i => lane t (f i)) = BitVec.ofNat 32 b := by
  classical
  have hl : ∀ i, lane t (f i) = BitVec.ofNat 32 (if ldexp1 ((f i : ℤ) - 127) ≤ t then f i else 0) := by
    intro i
    unfold lane
    rw [ofBits_shift _ (hf i)]
    unfold Scalar.select Ideal.cmp
    by_cases h : ldexp1 ((f i : ℤ) - 127) ≤ t
    · simp [h]
    · simp [h]
  have hne : S.Nonempty := by
    obtain ⟨i, hi, _⟩ := hs 0 (by omega)
    exact ⟨i, hi⟩
  refine ⟨S.sup fun i => if ldexp1 ((f i : ℤ) - 127) ≤ t then f i else 0, ⟨?_, ?_, ?_⟩, ?_⟩
  · refine Finset.sup_le fun i _ => ?_
    split_ifs
    · exact hf i
    · omega
  · obtain ⟨i, hi, e⟩ := Finset.exists_mem_eq_sup S hne (fun i => if ldexp1 ((f i : ℤ) - 127) ≤ t then f i else 0)
    rw [e]
    by_cases h : ldexp1 ((f i : ℤ) - 127) ≤ t
    · simpa only [if_pos h] using h
    · simp only [if_neg h]
      have e0 : ldexp1 (((0 : ℕ) : ℤ) - 127) = 0 := by norm_num [ldexp1]
      rw [e0]; exact ht
  · intro k hk h
    obtain ⟨i, hi, rfl⟩ := hs k hk
    have := Finset.le_sup (f := fun i => if ldexp1 ((f i : ℤ) - 127) ≤ t then f i else 0) hi
    simpa only [if_pos h] using this
  · simp only [hl]
    exact (fold_maxsi S _ (fun i => by split_ifs; exact hf i; omega)).1 hne

/-- The word of the exponent, from the word of the biased exponent. -/
def wExpo (b : BitVec 32) (a : EReal) : BitVec 32 :=
  Scalar.select (Ideal.cmp .oeq a (Ideal.ofBits .f32 0#32)) 0#32
    (Scalar.select (IntOp.ori (IntOp.cmpi .eq b 0#32) (IntOp.cmpi .eq b 255#32)) 0#32 (IntOp.subi b 126#32))

/-- The word of `2^n`, from the word of `n + 127`. -/
def wPow (n : BitVec 32) : BitVec 32 :=
  Scalar.select (IntOp.cmpi .sle n 0#32) 0#32
    (Scalar.select (IntOp.cmpi .sge n 255#32) 2139095040#32 (IntOp.shli .vector n 23#32))

/-- The exponent's word, from each biased exponent. -/
theorem wExpo_words : ∀ b : Fin 256,
    Scalar.select (IntOp.ori (IntOp.cmpi .eq (BitVec.ofNat 32 b.val) 0#32) (IntOp.cmpi .eq (BitVec.ofNat 32 b.val) 255#32)) 0#32
        (IntOp.subi (BitVec.ofNat 32 b.val) 126#32)
      = BitVec.ofInt 32 (if b.val = 0 ∨ b.val = 255 then 0 else (b.val : ℤ) - 126) := by
  decide +kernel

/-- The exponent's word holds the exponent. -/
theorem wExpo_eq (b : ℕ) (hb : b ≤ 255) (a : EReal) : wExpo (BitVec.ofNat 32 b) a = BitVec.ofInt 32 (expo b a) := by
  unfold wExpo
  have h := wExpo_words ⟨b, by omega⟩
  simp only at h
  rw [h, ofBits_zero]
  unfold Scalar.select Ideal.cmp expo
  by_cases ha : a = 0
  · simp [ha]
  · simp [ha]

/-- The fields of the word of `2^n` for `n` from -256 to 256 (`x = n + 256`). -/
theorem wPow_fields : ∀ x : Fin 513,
    ((wPow (IntOp.addi (BitVec.ofInt 32 ((x.val : ℤ) - 256)) 127#32)).extractLsb' (8 + 23) 1 == 1#1) = false
    ∧ ((wPow (IntOp.addi (BitVec.ofInt 32 ((x.val : ℤ) - 256)) 127#32)).extractLsb' 23 8).toNat = min (x.val - 129) 255
    ∧ ((wPow (IntOp.addi (BitVec.ofInt 32 ((x.val : ℤ) - 256)) 127#32)).extractLsb' 0 23).toNat = 0 := by
  decide +kernel

/-- The word of `2^n`, read as a binary32 number. -/
theorem ofBits_wPow (n : ℤ) (h1 : -256 ≤ n) (h2 : n ≤ 256) :
    Ideal.ofBits .f32 (wPow (IntOp.addi (BitVec.ofInt 32 n) 127#32)) = ldexp1 n := by
  obtain ⟨x, rfl⟩ : ∃ x : ℕ, n = (x : ℤ) - 256 := ⟨(n + 256).toNat, by omega⟩
  obtain ⟨f1, f2, f3⟩ := wPow_fields ⟨x, by omega⟩
  refine (ieee_of_fields f1 f2 f3 (by omega)).trans ?_
  show ldexp1 (((min (x - 129) 255 : ℕ) : ℤ) - 127) = _
  by_cases h : x ≤ 129
  · rw [ldexp1, if_pos (by omega), ldexp1, if_pos (by omega)]
  · by_cases h' : x - 129 ≤ 255
    · congr 1
      omega
    · rw [ldexp1, if_neg (by omega), if_pos (by omega), ldexp1, if_neg (by omega), if_pos (by omega)]

/-- The negated word holds the negated number. -/
theorem wNeg (n : ℤ) : IntOp.subi 0#32 (BitVec.ofInt 32 n) = BitVec.ofInt 32 (-n) := by
  unfold IntOp.subi
  rw [BitVec.ofInt_neg]
  simp

/-- The exponent fits a word with room to spare. -/
theorem expo_bounds (b : ℕ) (hb : b ≤ 255) (a : EReal) : -256 ≤ expo b a ∧ expo b a ≤ 256 := by
  unfold expo
  split_ifs <;> omega

/-- The kernel's scale and inverse words, read as numbers, are the reference's scale and inverse. -/
theorem words_eq {ι : Type} (S : Finset ι) (f : ι → ℕ) (hf : ∀ i, f i ≤ 255)
    (hs : ∀ k, k ≤ 255 → ∃ i ∈ S, f i = k) (t a : EReal) (ht : 0 ≤ t) (e : BitVec 32)
    (he : e = wExpo (S.fold IKind.maxsi.op (0x80000000#32) (fun i => lane t (f i))) a) :
    Ideal.ofBits .f32 (wPow (IntOp.addi e 127#32)) = refPow (refExpo t a)
    ∧ Ideal.ofBits .f32 (wPow (IntOp.addi (IntOp.subi 0#32 e) 127#32)) = refPow (-(refExpo t a)) := by
  obtain ⟨b, hb, h⟩ := biased_of_fold S f hf hs t ht
  rw [h, wExpo_eq b hb.1] at he
  obtain ⟨l, u⟩ := expo_bounds b hb.1 a
  obtain ⟨h1, h2⟩ := scale_eq t a b hb
  rw [he, wNeg, ofBits_wPow _ l u, ofBits_wPow _ (by omega) (by omega)]
  exact ⟨h1, h2⟩

end Cert.Scale

end
-- ==== Proof.IScaleRead.lean ====
module

public import proofs.«01_k».proof.Proof.Gen.KernelIdeal.Skeleton
public import proofs.«01_k».proof.Proof.Amax
public import proofs.«01_k».proof.Proof.ScaleWord
public import Idealize.ShloMosaic.Lib.Pipeline.Value

@[expose] public section

set_option maxRecDepth 16384

noncomputable section

/-! How the two amax kernels turn a greatest absolute value into a power of two and its inverse. -/

namespace Cert.KernelIdeal.Hand

open Cert.KernelIdeal.Gen
open Idealize.ShloMosaic Idealize.ShloMosaic.TcCoe Idealize.ShloMosaic.Tactic
open Idealize.ShloMosaic.Pipeline (Dat)

/-- The zero offsets. -/
theorem hz2 : (![0,0] : Fin 2 → Nat) = fun _ => 0 := funext fun a => by fin_cases a <;> rfl

/-- A shape of one element has one index. -/
theorem s1_eq (a b : S1.Idx) : a = b := by
  funext d
  have : d = 0 := Subsingleton.elim (α := Fin 1) _ _
  subst this
  exact Subsingleton.elim (α := Fin 1) _ _

/-- One extracted element is at most `B` exactly when the only element is. -/
theorem extract_le (y : Vec Ideal S1 .f32) (B : EReal) :
    @LE.le EReal _ (extractAt ![0, 0, 0] (shapeCast S1x1x1 y shapeCasts_S1_S1x1x1) inpos_S1x1x1_p0_0_0) B ↔ ∀ j, @LE.le EReal _ (y j) B := by
  constructor
  · intro h j
    unfold extractAt shapeCast at h
    rw [s1_eq j]
    exact h
  · intro h
    exact h _

/-- The lanes' words: a lane's own number where the number is at least the lane's power of two, otherwise zero. -/
def lanes (t : FVec Ideal S1x1 .f32) : IVec S1x256 32 :=
  select (cmpf (F := Ideal) (φ := .f32) .oge (broadcastTo S1x256 t broadcasts_S1x1_S1x256) (bitcastToFloat .f32 (shli (iota .tc S1x256 32 [1] iota_S1x256_d1_w32) (broadcast S1x256 23#32))))
    (iota .tc S1x256 32 [1] iota_S1x256_d1_w32) (broadcast S1x256 0#32)

/-- One lane's word. -/
theorem lanes_apply (a : EReal) (i : S1x256.Idx) : lanes (broadcast S1x1 (a : Ideal .f32)) i = Cert.Scale.lane a (i 1).val := by
  have e : (iota .tc S1x256 32 [1] iota_S1x256_d1_w32) i = BitVec.ofNat 32 (i 1).val := by
    show BitVec.ofNat 32 ([(1 : Fin 2)].foldl (fun n a => n * S1x256.size a + (i a).val) 0) = _
    simp
  show Scalar.select (Ideal.cmp .oge a (Ideal.ofBits .f32 (IntOp.shli .vector ((iota .tc S1x256 32 [1] iota_S1x256_d1_w32) i) 23#32))) ((iota .tc S1x256 32 [1] iota_S1x256_d1_w32) i) 0#32 = _
  rw [e]; rfl

/-- The maximum over the lanes is a fold over all of them. -/
theorem lanes_max (a : EReal) (j : S1.Idx) :
    multiReductionI .maxsi [1] S1 (lanes (broadcast S1x1 (a : Ideal .f32))) 2147483648#32 reduces_S1x256_S1 rfl j
      = (Finset.univ : Finset S1x256.Idx).fold IKind.maxsi.op (0x80000000#32) (fun i => Cert.Scale.lane a (i 1).val) := by
  refine (multiReductionI_eq_fold _ _ _ _ _ _).trans ?_
  rw [Finset.filter_true_of_mem (fun i _ => s1_eq _ _)]
  exact congrArg (fun f => Finset.fold IKind.maxsi.op (0x80000000#32) f Finset.univ) (funext (lanes_apply a))

/-- Every number up to 255 is a lane. -/
theorem lanes_all (k : ℕ) (hk : k ≤ 255) : ∃ i ∈ (Finset.univ : Finset S1x256.Idx), (i 1).val = k := by
  refine ⟨fun a => match a with
    | ⟨0, _⟩ => ⟨0, by show 0 < 1; omega⟩
    | ⟨1, _⟩ => ⟨k, by show k < 256; omega⟩, Finset.mem_univ _, rfl⟩

/-- A lane is at most 255. -/
theorem lanes_lt (i : S1x256.Idx) : (i 1).val ≤ 255 := by
  have : (i 1).val < 256 := (i 1).isLt
  omega

/-- The exponent's word, elementwise. -/
theorem wExpo_apply (w : IVec S1x1 32) (a : Ideal .f32) (j : S1x1.Idx) :
    select (cmpf (F := Ideal) (φ := .f32) .oeq (broadcast S1x1 a) (broadcast S1x1 (Scalar.ofBits .f32 0x00000000#32))) (broadcast S1x1 0#32)
      (select (ori (cmpi .eq w (broadcast S1x1 0#32)) (cmpi .eq w (broadcast S1x1 255#32))) (broadcast S1x1 0#32) (subi w (broadcast S1x1 126#32))) j
    = Cert.Scale.wExpo (w j) a := rfl

/-- A product of two broadcast scalars. -/
theorem mulf_broadcast (a b : Ideal .f32) :
    mulf (F := Ideal) (φ := .f32) (broadcast S1x1 a) (broadcast S1x1 b) = broadcast S1x1 (@HMul.hMul EReal EReal EReal _ a b : Ideal .f32) := rfl

end Cert.KernelIdeal.Hand

end
-- ==== Proof.IAmaxWPay.lean ====
module

public import proofs.«01_k».proof.Proof.IScaleRead

@[expose] public section

set_option maxRecDepth 16384

noncomputable section

/-! The arithmetic of the amax kernel: maxima, the scale and its inverse. -/

namespace Cert.KernelIdeal.Hand

open Cert.KernelIdeal.Gen
open Idealize.ShloMosaic Idealize.ShloMosaic.TcCoe Idealize.ShloMosaic.Tactic
open Idealize.ShloMosaic.Pipeline (Dat)

/-- The greatest element of the scratch. -/
def amax0 (x : Vec Ideal S8x3200 .f32) : EReal :=
  extractAt ![0, 0, 0] (shapeCast S1x1x1 (multiReduction (F := Ideal) .maximumf [1, 2] S1 (shapeCast S1x8x3200 x shapeCasts_S8x3200_S1x8x3200) 0xFF800000#32 reduces_S1x8x3200_S1 (.inl rfl) rfl) shapeCasts_S1_S1x1x1) inpos_S1x1x1_p0_0_0

/-- It is the greatest of them. -/
theorem amax0_isMax (x : Vec Ideal S8x3200 .f32) : Cert.Amax.IsMax (fun i => (x i : EReal)) (amax0 x) := by
  intro B
  have h1 := Cert.Amax.multiReduction_le (φ := .f32) (shapeCast S1x8x3200 x shapeCasts_S8x3200_S1x8x3200) 0xFF800000#32 reduces_S1x8x3200_S1 (.inl rfl) rfl Cert.Amax.ninf32 B
  have h2 := Cert.Amax.shapeCast_all x shapeCasts_S8x3200_S1x8x3200 (fun y : Ideal .f32 => @LE.le EReal _ y B)
  exact (extract_le _ B).trans (h1.trans h2)

/-- The block's row maxima are at most `B` exactly when every absolute value in the block is. -/
theorem pay1_le0 (x : Vec Ideal S256x3200 .f32) (B : EReal) :
    (∀ j, @LE.le EReal _ (k0_pay1 x j) B) ↔ ∀ i, max (α := EReal) (x i) (-(x i : EReal)) ≤ B := by
  have h1 := Cert.Amax.multiReduction_le (φ := .f32) (shapeCast S32x8x3200 (absf x) shapeCasts_S256x3200_S32x8x3200) 0xFF800000#32 reduces_S32x8x3200_S8x3200 (.inl rfl) rfl Cert.Amax.ninf32 B
  have h2 := Cert.Amax.shapeCast_all (absf x) shapeCasts_S256x3200_S32x8x3200 (fun y : Ideal .f32 => @LE.le EReal _ y B)
  exact h1.trans h2

/-- What the first point stores in the scratch. -/
theorem pay2_le0 (x : Vec Ideal S256x3200 .f32) (B : EReal) :
    (∀ j, @LE.le EReal _ (k0_pay2 x j) B) ↔ ∀ i, max (α := EReal) (x i) (-(x i : EReal)) ≤ B :=
  (Cert.Amax.shapeCast_all (k0_pay1 x) shapeCasts_S8x3200_S8x3200 (fun y : Ideal .f32 => @LE.le EReal _ y B)).trans (pay1_le0 x B)

/-- What a later point stores in the scratch. -/
theorem pay3_le0 (x : Vec Ideal S256x3200 .f32) (s : Vec Ideal S8x3200 .f32) (B : EReal) :
    (∀ j, @LE.le EReal _ (k0_pay3 x s j) B) ↔ (∀ j, @LE.le EReal _ (s j) B) ∧ ∀ i, max (α := EReal) (x i) (-(x i : EReal)) ≤ B := by
  refine (Cert.Amax.shapeCast_all (maximumf s (k0_pay1 x)) shapeCasts_S8x3200_S8x3200 (fun y : Ideal .f32 => @LE.le EReal _ y B)).trans ?_
  rw [← pay1_le0, ← forall_and]
  exact forall_congr' fun j => max_le_iff (α := EReal)

/-- The step the amax is divided by, as a product. -/
def recip0 : EReal := Ideal.ofBits .f32 0x3B124925#32

/-- The exponent's word, from the scratch. -/
theorem pay6_0 (x : Vec Ideal S8x3200 .f32) (j : S1x1.Idx) :
    k0_pay6 x j = Cert.Scale.wExpo ((Finset.univ : Finset S1x256.Idx).fold IKind.maxsi.op (0x80000000#32)
      (fun i => Cert.Scale.lane (amax0 x * recip0) (i 1).val)) (amax0 x) := by
  have e : mulf (F := Ideal) (φ := .f32) (broadcast S1x1 (amax0 x)) (broadcast S1x1 (Scalar.ofBits .f32 0x3B124925#32)) = broadcast S1x1 (amax0 x * recip0) := mulf_broadcast _ _
  refine (wExpo_apply (shapeCast S1x1 (multiReductionI .maxsi [1] S1 (lanes (mulf (F := Ideal) (φ := .f32) (broadcast S1x1 (amax0 x)) (broadcast S1x1 (Scalar.ofBits .f32 0x3B124925#32)))) 2147483648#32 reduces_S1x256_S1 rfl) shapeCasts_S1_S1x1) (amax0 x) j).trans ?_
  rw [e]
  exact congrArg (fun w => Cert.Scale.wExpo w (amax0 x)) (lanes_max (amax0 x * recip0) (Shape.reshapeEquiv shapeCasts_S1_S1x1 j))

/-- It is not negative. -/
theorem recip0_nonneg : 0 ≤ recip0 := by
  simp [recip0, Ideal.ofBits, Ideal.ieee]
  norm_cast
  positivity

/-- The scale and its inverse, from the scratch. -/
theorem pow0 (x : Vec Ideal S8x3200 .f32) (hx : 0 ≤ amax0 x) (j : S1x1.Idx) :
    k0_pay4 (F := Ideal) (k0_pay8 x) (k0_pay9 x) 0#32 j = Cert.Scale.refPow (Cert.Scale.refExpo (amax0 x * recip0) (amax0 x))
    ∧ k0_pay5 (F := Ideal) (k0_pay6 x) j = Cert.Scale.refPow (-(Cert.Scale.refExpo (amax0 x * recip0) (amax0 x))) := by
  have h := Cert.Scale.words_eq Finset.univ (fun i : S1x256.Idx => (i 1).val) lanes_lt lanes_all (amax0 x * recip0) (amax0 x)
    (mul_nonneg hx recip0_nonneg) (k0_pay6 x j) (pay6_0 x j)
  exact h

end Cert.KernelIdeal.Hand

end
-- ==== Proof.IAmaxWValue.lean ====
module

public import proofs.«01_k».proof.Proof.IAmaxW
public import proofs.«01_k».proof.Proof.IAmaxWPay

@[expose] public section

set_option maxRecDepth 16384

noncomputable section

/-! What the amax kernel leaves in its two outputs. -/

namespace Cert.KernelIdeal.Hand

open Cert.KernelIdeal.Gen
open Idealize.ShloMosaic Idealize.ShloMosaic.TcCoe Idealize.ShloMosaic.Tactic
open Idealize.ShloMosaic.Pipeline (Dat)

section Run
variable {F : FTy → Type} [FloatOps F] (c : Dev nD) (i : grid0.Coords) (arg1 : Memref sig .tc .vmem S256x3200 .f32) (harg1 : arg1.IsWhole) (arg2 : Memref sig .tc .vmem S1x1 .f32) (harg2 : arg2.IsWhole) (arg3 : Memref sig .tc .vmem S1x1 .f32) (harg3 : arg3.IsWhole) (arg4 : Memref sig .tc .vmem S8x3200 .f32) (harg4 : arg4.IsWhole)

/-- A load of the whole block reads it. -/
theorem rd1_0 (x0 : Vec F S256x3200 .f32) : View.readAt (Elt F) arg1.view (Rect.unit ![0, 0] ![256, 3200] inb_S256x3200_S256x3200_0_0).toLoadRect (harg1.unread x0) = x0 := by
  rw [View.readAt_eq_ld, harg1.read_unread]
  exact View.ld_unit_zero hz2 _ _
/-- A load of the whole scratch reads it. -/
theorem rd4_0 (x0 : Vec F S8x3200 .f32) : View.readAt (Elt F) arg4.view (Rect.unit ![0, 0] ![8, 3200] inb_S8x3200_S8x3200_0_0).toLoadRect (harg4.unread x0) = x0 := by
  rw [View.readAt_eq_ld, harg4.read_unread]
  exact View.ld_unit_zero hz2 _ _

/-- The scratch after the first point. -/
theorem sA0 (hc0 : cond0_0 i) (hc1 : ¬cond0_1 i) (hc2 : ¬cond0_2 i) (x0 : Vec F S256x3200 .f32) :
    sout0_A_0 c i arg1 harg1 arg2 harg2 arg3 harg3 arg4 harg4 hc0 hc1 hc2 x0 = k0_pay2 x0 := by
  unfold sout0_A_0
  rw [View.read_writes_junk_eq_canon]
  simp only [kernelRun0_A]
  refine (View.canon_unit_zero hz2 _ _).trans ?_
  rw [rd1_0]
/-- The scratch after a middle point. -/
theorem sB0 (hc0 : ¬cond0_0 i) (hc1 : cond0_1 i) (hc2 : ¬cond0_2 i) (x0 : Vec F S256x3200 .f32) (xs0 : Vec F S8x3200 .f32) :
    sout0_B_0 c i arg1 harg1 arg2 harg2 arg3 harg3 arg4 harg4 hc0 hc1 hc2 x0 xs0 = k0_pay3 x0 xs0 := by
  unfold sout0_B_0
  rw [View.read_writes_junk_eq_canon]
  simp only [kernelRun0_B]
  refine (View.canon_unit_zero hz2 _ _).trans ?_
  rw [rd1_0, rd4_0]
/-- The scratch as the last point reads it back. -/
theorem vC0 (x0 : Vec F S256x3200 .f32) (xs0 : Vec F S8x3200 .f32) :
    kernelRun0_C.sl.v13 c arg1 harg1 arg4 harg4 x0 xs0 = k0_pay3 x0 xs0 := by
  unfold kernelRun0_C.sl.v13 kernelRun0_C.sl.HS0_1
  refine (View.readCov_unit_zero _ hz2 _ _).trans ?_
  rw [rd1_0, rd4_0]
/-- The scale the last point writes. -/
theorem o1C0 (hc0 : ¬cond0_0 i) (hc1 : cond0_1 i) (hc2 : cond0_2 i) (x0 : Vec F S256x3200 .f32) (xs0 : Vec F S8x3200 .f32) :
    out0_C_1 c i arg1 harg1 arg2 harg2 arg3 harg3 arg4 harg4 hc0 hc1 hc2 x0 xs0 = k0_pay4 (k0_pay8 (k0_pay3 x0 xs0)) (k0_pay9 (k0_pay3 x0 xs0)) 0#32 := by
  unfold out0_C_1
  rw [View.read_writes_junk_eq_canon]
  simp only [kernelRun0_C, kernelRun0_C.sl.r_1, kernelRun0_C.sl.r_2]
  refine (View.canon_unit_zero hz2 _ _).trans ?_
  rw [vC0]
/-- The inverse the last point writes. -/
theorem o2C0 (hc0 : ¬cond0_0 i) (hc1 : cond0_1 i) (hc2 : cond0_2 i) (x0 : Vec F S256x3200 .f32) (xs0 : Vec F S8x3200 .f32) :
    out0_C_2 c i arg1 harg1 arg2 harg2 arg3 harg3 arg4 harg4 hc0 hc1 hc2 x0 xs0 = k0_pay5 (k0_pay6 (k0_pay3 x0 xs0)) := by
  unfold out0_C_2
  rw [View.read_writes_junk_eq_canon]
  simp only [kernelRun0_C, kernelRun0_C.sl.r]
  refine (View.canon_unit_zero hz2 _ _).trans ?_
  rw [vC0]
/-- The scratch after the last point. -/
theorem sC0 (hc0 : ¬cond0_0 i) (hc1 : cond0_1 i) (hc2 : cond0_2 i) (x0 : Vec F S256x3200 .f32) (xs0 : Vec F S8x3200 .f32) :
    sout0_C_0 c i arg1 harg1 arg2 harg2 arg3 harg3 arg4 harg4 hc0 hc1 hc2 x0 xs0 = k0_pay3 x0 xs0 := by
  unfold sout0_C_0
  rw [View.read_writes_junk_eq_canon]
  simp only [kernelRun0_C, kernelRun0_C.sl.HS0_1]
  refine (View.canon_unit_zero hz2 _ _).trans ?_
  rw [rd1_0, rd4_0]
end Run

variable (V : (c : Dev nD) → (b : Ref sig .tc) → Buf (Elt Ideal) ((c : Thread nD τ).loc b))

/-- The scratch after point `n` is at most `B` exactly when every absolute value in the blocks up to it is. -/
theorem scratch_le0 (c : Dev nD) (B : EReal) : ∀ (n : ℕ) (hn : n < cfg0.N),
    (∀ j : S8x3200.Idx, @LE.le EReal _ ((outsAt0 V c n hn).2.2 j) B)
      ↔ ∀ t : Fin cfg0.N, t.val ≤ n → ∀ i : S256x3200.Idx, Cert.Amax.mag (iblk0 V c 0 t i) ≤ B
  | 0, hn => by
    rw [outsAt0_A V c ⟨0, hn⟩ rfl (by show ¬1 ≤ 0; omega) (by show ¬0 % 8 = 7; omega)]
    dsimp only
    rw [sA0]
    refine (pay2_le0 _ B).trans ⟨fun h t ht => ?_, fun h => h ⟨0, hn⟩ le_rfl⟩
    obtain rfl : t = ⟨0, hn⟩ := Fin.ext (Nat.le_zero.mp ht)
    exact h
  | n + 1, hn => by
    have hN : n + 1 < 8 := lt_of_lt_of_eq hn N_0
    have ih := scratch_le0 c B n (by omega)
    have key : (∀ j : S8x3200.Idx, @LE.le EReal _ ((outsAt0 V c (n + 1) hn).2.2 j) B)
        ↔ (∀ j : S8x3200.Idx, @LE.le EReal _ ((outsAt0 V c n (by omega)).2.2 j) B)
          ∧ ∀ i : S256x3200.Idx, Cert.Amax.mag (iblk0 V c 0 ⟨n + 1, hn⟩ i) ≤ B := by
      by_cases h7 : (n + 1) % 8 = 7
      · rw [outsAt0_C V c ⟨n + 1, hn⟩ (by show ¬(n + 1) % 8 = 0; omega) (by show 1 ≤ n + 1; omega) h7]
        dsimp only
        rw [sC0]
        exact pay3_le0 _ _ B
      · rw [outsAt0_B V c ⟨n + 1, hn⟩ (by show ¬(n + 1) % 8 = 0; omega) (by show 1 ≤ n + 1; omega) h7]
        dsimp only
        rw [sB0]
        exact pay3_le0 _ _ B
    rw [key, ih]
    constructor
    · rintro ⟨h1, h2⟩ t ht
      by_cases e : t.val ≤ n
      · exact h1 t e
      · obtain rfl : t = ⟨n + 1, hn⟩ := Fin.ext (by show t.val = n + 1; omega)
        exact h2
    · intro h
      exact ⟨fun t ht => h t (by omega), h ⟨n + 1, hn⟩ le_rfl⟩

/-- The last point. -/
abbrev last0 : Fin cfg0.N := ⟨7, by show 7 < grid0.N; rw [N_0]; omega⟩

/-- The block indices of the input. -/
theorem index0_0 : ∀ t : Fin cfg0.N, win0_0.index t (0 : Fin 2) = t.val ∧ win0_0.index t (1 : Fin 2) = 0 :=
  (by decide +kernel : ∀ t : Fin grid0.N, _)

/-- An index of the input is in point `t`'s block iff each coordinate is in the block's range. -/
theorem mem_blk0_0 (t : Fin cfg0.N) (i : S2048x3200.Idx) :
    i ∈ ((cfg0.win 0).blk t).view.set ↔ ∀ a : Fin 2, win0_0.index t a * S256x3200.size a ≤ (i a).val ∧ (i a).val < win0_0.index t a * S256x3200.size a + S256x3200.size a := by
  show i ∈ ((View.whole main_arg1).slice (win0_0.rect t)).set ↔ _
  rw [View.set_slice_whole, Rect.mem_set_unit]
  exact Iff.rfl

/-- The input's blocks cover it. -/
theorem blocks_all0 (c : Dev nD) (P : EReal → Prop) :
    (∀ t : Fin cfg0.N, ∀ i : S256x3200.Idx, P (iblk0 V c 0 t i)) ↔ ∀ i : S2048x3200.Idx, P (V c main_arg1 i) := by
  constructor
  · intro h i
    have h0 : (i 0).val < 2048 := (i 0).isLt
    have h1 : (i 1).val < 3200 := (i 1).isLt
    let t : Fin cfg0.N := ⟨(i 0).val / 256, by show _ < grid0.N; rw [N_0]; omega⟩
    have hm : i ∈ ((cfg0.win 0).blk t).view.set := by
      rw [mem_blk0_0]
      obtain ⟨e0, e1⟩ := index0_0 t
      have e0' : win0_0.index t (0 : Fin 2) = (i 0).val / 256 := e0
      intro a
      match a with
      | ⟨0, _⟩ => show win0_0.index t (0 : Fin 2) * 256 ≤ (i 0).val ∧ (i 0).val < win0_0.index t (0 : Fin 2) * 256 + 256; omega
      | ⟨1, _⟩ => show win0_0.index t (1 : Fin 2) * 3200 ≤ (i 1).val ∧ (i 1).val < win0_0.index t (1 : Fin 2) * 3200 + 3200; omega
    obtain ⟨y, hy⟩ := View.exists_emb_of_mem_set _ hm
    have := h t y
    rw [← hy]
    exact this
  · intro h t i
    exact h _

/-- The scratch as the last point leaves it. -/
def sfin0 (c : Dev nD) : Vec Ideal S8x3200 .f32 :=
  k0_pay3 (iblk0 V c 0 last0) (outsAt0 V c 6 (by show 6 < grid0.N; rw [N_0]; omega)).2.2

/-- The scale and its inverse after the last point. -/
theorem outs_last0 (c : Dev nD) (h : 7 < cfg0.N) :
    outsAt0 V c 7 h = (k0_pay4 (F := Ideal) (k0_pay8 (sfin0 V c)) (k0_pay9 (sfin0 V c)) 0#32, k0_pay5 (F := Ideal) (k0_pay6 (sfin0 V c)), sfin0 V c) := by
  refine (outsAt0_C V c last0 (by show ¬7 % 8 = 0; omega) (by show 1 ≤ 7; omega) rfl).trans ?_
  rw [o1C0, o2C0, sC0]
  rfl

/-- The greatest absolute value of the input. -/
def top0 (c : Dev nD) : EReal := amax0 (sfin0 V c)

/-- It is the greatest of them. -/
theorem top0_isMax (c : Dev nD) :
    Cert.Amax.IsMax (fun i : S2048x3200.Idx => Cert.Amax.mag (V c main_arg1 i)) (top0 V c) := by
  intro B
  have h7 : 7 < cfg0.N := last0.isLt
  have h := scratch_le0 V c B 7 h7
  rw [outs_last0] at h
  refine (amax0_isMax (sfin0 V c) B).trans (h.trans ?_)
  refine Iff.trans ⟨fun h t => h t (by have : t.val < 8 := lt_of_lt_of_eq t.isLt N_0; omega), fun h t _ => h t⟩ (blocks_all0 V c (fun x => max x (-x) ≤ B))

/-- The scale. -/
def scale0 (c : Dev nD) : EReal := Cert.Scale.refPow (Cert.Scale.refExpo (top0 V c * recip0) (top0 V c))
/-- The inverse of the scale. -/
def inv0 (c : Dev nD) : EReal := Cert.Scale.refPow (-(Cert.Scale.refExpo (top0 V c * recip0) (top0 V c)))

/-- It is not negative. -/
theorem top0_nonneg (c : Dev nD) : 0 ≤ top0 V c :=
  Cert.Amax.IsMax.nonneg (fun a => match a with
    | ⟨0, _⟩ => ⟨0, by show 0 < 2048; omega⟩
    | ⟨1, _⟩ => ⟨0, by show 0 < 3200; omega⟩ : S2048x3200.Idx) (top0_isMax V c)

/-- The block index of output 1 is zero. -/
theorem index0_1 : ∀ t : Fin cfg0.N, win0_1.index t (0 : Fin 2) = 0 ∧ win0_1.index t (1 : Fin 2) = 0 :=
  (by decide +kernel : ∀ t : Fin grid0.N, _)

/-- The array of output 1 after the region: the scale. -/
theorem final0_1 (c : Dev nD) : (dat0 V c).arrAt 1 cfg0.N = (fun _ => scale0 V c : Buf (Elt Ideal) ((c : Thread nD τ).loc main_v0_0)) := by
  refine (dat0 V c).arrAt_eq_of_cover 1 _ (fun t hf => ?_) (fun i => ?_)
  · have hm : t.val % 8 = 7 := (flush0_1 t).mp hf
    have hN : t.val < 8 := lt_of_lt_of_eq t.isLt N_0
    obtain rfl : t = last0 := Fin.ext (by show t.val = 7; omega)
    show (cfg0.win 1).cut (grid0.coords last0) ((dat0 V c).after 1 last0) = _
    rw [after0_1]
    show (cfg0.win 1).cut (grid0.coords last0) ((outsAt0 V c 7 last0.isLt).1) = _
    have h : (outsAt0 V c 7 last0.isLt).1 = fun _ : S1x1.Idx => scale0 V c := by
      rw [outs_last0]
      exact funext fun j => (pow0 (sfin0 V c) (top0_nonneg V c) j).1
    rw [h]
    generalize scale0 V c = z
    rfl
  · refine ⟨last0, (flush0_1 last0).mpr rfl, ?_⟩
    show i ∈ ((View.whole main_v0_0).slice (win0_1.rect last0)).set
    rw [View.set_slice_whole, Rect.mem_set_unit]
    obtain ⟨e0, e1⟩ := index0_1 last0
    intro a
    match a with
    | ⟨0, _⟩ =>
      have h0 : (i 0).val < 1 := (i 0).isLt
      show win0_1.index last0 (0 : Fin 2) * 1 ≤ (i 0).val ∧ (i 0).val < win0_1.index last0 (0 : Fin 2) * 1 + 1
      omega
    | ⟨1, _⟩ =>
      have h1 : (i 1).val < 1 := (i 1).isLt
      show win0_1.index last0 (1 : Fin 2) * 1 ≤ (i 1).val ∧ (i 1).val < win0_1.index last0 (1 : Fin 2) * 1 + 1
      omega

/-- The block index of output 2 is zero. -/
theorem index0_2 : ∀ t : Fin cfg0.N, win0_2.index t (0 : Fin 2) = 0 ∧ win0_2.index t (1 : Fin 2) = 0 :=
  (by decide +kernel : ∀ t : Fin grid0.N, _)

/-- The array of output 2 after the region: its inverse. -/
theorem final0_2 (c : Dev nD) : (dat0 V c).arrAt 2 cfg0.N = (fun _ => inv0 V c : Buf (Elt Ideal) ((c : Thread nD τ).loc main_v0_1)) := by
  refine (dat0 V c).arrAt_eq_of_cover 2 _ (fun t hf => ?_) (fun i => ?_)
  · have hm : t.val % 8 = 7 := (flush0_2 t).mp hf
    have hN : t.val < 8 := lt_of_lt_of_eq t.isLt N_0
    obtain rfl : t = last0 := Fin.ext (by show t.val = 7; omega)
    show (cfg0.win 2).cut (grid0.coords last0) ((dat0 V c).after 2 last0) = _
    rw [after0_2]
    show (cfg0.win 2).cut (grid0.coords last0) ((outsAt0 V c 7 last0.isLt).2.1) = _
    have h : (outsAt0 V c 7 last0.isLt).2.1 = fun _ : S1x1.Idx => inv0 V c := by
      rw [outs_last0]
      exact funext fun j => (pow0 (sfin0 V c) (top0_nonneg V c) j).2
    rw [h]
    generalize inv0 V c = z
    rfl
  · refine ⟨last0, (flush0_2 last0).mpr rfl, ?_⟩
    show i ∈ ((View.whole main_v0_1).slice (win0_2.rect last0)).set
    rw [View.set_slice_whole, Rect.mem_set_unit]
    obtain ⟨e0, e1⟩ := index0_2 last0
    intro a
    match a with
    | ⟨0, _⟩ =>
      have h0 : (i 0).val < 1 := (i 0).isLt
      show win0_2.index last0 (0 : Fin 2) * 1 ≤ (i 0).val ∧ (i 0).val < win0_2.index last0 (0 : Fin 2) * 1 + 1
      omega
    | ⟨1, _⟩ =>
      have h1 : (i 1).val < 1 := (i 1).isLt
      show win0_2.index last0 (1 : Fin 2) * 1 ≤ (i 1).val ∧ (i 1).val < win0_2.index last0 (1 : Fin 2) * 1 + 1
      omega

end Cert.KernelIdeal.Hand

end
-- ==== Proof.Spec.lean ====
module

public import proofs.«01_k».proof.Proof.Amax
public import proofs.«01_k».proof.Proof.Scale
public import Idealize.ShloMosaic.Lib.ValueLayout
public import Idealize.ShloMosaic.Lib.MatmulPlain

@[expose] public section

noncomputable section

/-! The three arrays of the gradient, as functions of the arguments and the scales. -/

namespace Cert.Spec

open Idealize.ShloMosaic

/-- The scale of an array whose largest magnitude is `a`, `r` being the word of one over the format's largest value. -/
def scaleOf (a : EReal) (r : BitVec 32) : EReal := Cert.Scale.refPow (Cert.Scale.refExpo (a * Ideal.ofBits .f32 r) a)

/-- The inverse of that scale. -/
def invOf (a : EReal) (r : BitVec 32) : EReal := Cert.Scale.refPow (-(Cert.Scale.refExpo (a * Ideal.ofBits .f32 r) a))

/-- An e5m2 code: the scaled gradient, clipped to the format's range. -/
def codeDy (x inv : EReal) : EReal := min (Ideal.ofBits .f32 0x47600000#32) (max (Ideal.ofBits .f32 0xC7600000#32) (x * inv))

/-- An e4m3 code: the scaled weight, clipped to the format's range. -/
def codeW (x inv : EReal) : EReal := min (Ideal.ofBits .f32 0x43E00000#32) (max (Ideal.ofBits .f32 0xC3E00000#32) (x * inv))

/-- The gradient at the layer's input: the product of the two code arrays over the outputs, times the scale `s`. -/
def dx (dy : (⟨3, ![8, 2048, 3200]⟩ : Shape).Idx → EReal) (w : (⟨2, ![2048, 3200]⟩ : Shape).Idx → EReal) (s : EReal)
    (i : (⟨3, ![8, 2048, 2048]⟩ : Shape).Idx) : EReal :=
  (Ideal.ofBits .f32 0x00000000#32 + ∑ k : Fin 3200, dy (ValueIdx.ix3 (i 0) (i 1) k) * w (ValueIdx.ix2 (i 2) k)) * s

end Cert.Spec

end
-- ==== Proof.IQuantWValue.lean ====
module

public import proofs.«01_k».proof.Proof.IQuantW
public import proofs.«01_k».proof.Proof.IScaleRead
public import proofs.«01_k».proof.Proof.Spec

@[expose] public section

set_option maxRecDepth 16384

noncomputable section

/-! What the weight quantiser leaves in its output. -/

namespace Cert.KernelIdeal.Hand

open Cert.KernelIdeal.Gen
open Idealize.ShloMosaic Idealize.ShloMosaic.TcCoe Idealize.ShloMosaic.Tactic
open Idealize.ShloMosaic.Pipeline (Dat)
open Cert.Spec

/-- The block's code, elementwise. -/
theorem k1_pay1_apply (x : Vec Ideal S256x3200 .f32) (z : EReal) (j : S256x3200.Idx) :
    k1_pay1 (F := Ideal) x (fun _ => z) j = codeW (x j) z := rfl

variable (V : (c : Dev nD) → (b : Ref sig .tc) → Buf (Elt Ideal) ((c : Thread nD τ).loc b))

/-- The block indices of the weight and of the codes agree. -/
theorem index1 : ∀ t : Fin cfg1.N, win1_1.index t (0 : Fin 2) = t.val ∧ win1_1.index t (1 : Fin 2) = 0
    ∧ win1_2.index t (0 : Fin 2) = t.val ∧ win1_2.index t (1 : Fin 2) = 0 :=
  (by decide +kernel : ∀ t : Fin grid1.N, _)

/-- The codes after the region, from the inverse of the scale the region finds. -/
theorem final1_2 (c : Dev nD) (z : EReal) (hz : V c main_v0_1 = (fun _ => z : Buf (Elt Ideal) ((c : Thread nD τ).loc main_v0_1))) :
    (dat1 V c).arrAt 2 cfg1.N = (fun i => codeW (V c main_arg1 i) z : Buf (Elt Ideal) ((c : Thread nD τ).loc main_v1)) := by
  refine (dat1 V c).arrAt_eq_of_cover 2 _ (fun t hf => ?_) (fun i => ?_)
  · show (cfg1.win 2).cut (grid1.coords t) ((dat1 V c).after 2 t) = _
    rw [after1_2]
    have h0 : iblk1 V c 0 t = fun _ : S1x1.Idx => z := by
      show ((cfg1.win 0).blk t).view.read (Elt Ideal) (V c main_v0_1) = _
      rw [hz]; rfl
    rw [h0]
    unfold out1_2
    have e : View.canon [(⟨r1_0, k1_pay1 (F := Ideal) (View.ld (iblk1 V c 1 t) r1_0) (View.ld (fun _ : S1x1.Idx => z) r1_1)⟩ : View.Piece (Elt Ideal) S256x3200 .fp8e4m3)]
        = fun j => codeW (iblk1 V c 1 t j) z := by
      refine (View.canon_unit_zero hz2 _ _).trans ?_
      have e1 : View.ld (Val := Elt Ideal) (e' := .f32) (iblk1 V c 1 t : S256x3200.Idx → Elt Ideal .f32) r1_0 = iblk1 V c 1 t := View.ld_unit_zero hz2 _ _
      rw [e1]
      exact funext fun j => k1_pay1_apply _ z j
    refine (congrArg ((cfg1.win 2).cut (grid1.coords t)) e).trans ?_
    funext y
    obtain ⟨e0, e1, e2, e3⟩ := index1 t
    have hb : ((cfg1.win 1).blk t).view.emb y = ((cfg1.win 2).blk t).view.emb y := by
      funext a; apply Fin.ext
      match a with
      | ⟨0, _⟩ => show win1_1.index t (0 : Fin 2) * 256 + 1 * (y 0).val = win1_2.index t (0 : Fin 2) * 256 + 1 * (y 0).val; rw [e0, e2]
      | ⟨1, _⟩ => show win1_1.index t (1 : Fin 2) * 3200 + 1 * (y 1).val = win1_2.index t (1 : Fin 2) * 3200 + 1 * (y 1).val; rw [e1, e3]
    show codeW (V c main_arg1 (((cfg1.win 1).blk t).view.emb y)) z = codeW (V c main_arg1 (((cfg1.win 2).blk t).view.emb y)) z
    rw [hb]
  · have h0 : (i 0).val < 2048 := (i 0).isLt
    have h1 : (i 1).val < 3200 := (i 1).isLt
    let t : Fin cfg1.N := ⟨(i 0).val / 256, by show _ < grid1.N; rw [N_1]; omega⟩
    refine ⟨t, flush1_2 t, ?_⟩
    show i ∈ ((View.whole main_v1).slice (win1_2.rect t)).set
    rw [View.set_slice_whole, Rect.mem_set_unit]
    obtain ⟨-, -, e0, e1⟩ := index1 t
    have e0' : win1_2.index t (0 : Fin 2) = (i 0).val / 256 := e0
    intro a
    match a with
    | ⟨0, _⟩ => show win1_2.index t (0 : Fin 2) * 256 ≤ (i 0).val ∧ (i 0).val < win1_2.index t (0 : Fin 2) * 256 + 256; omega
    | ⟨1, _⟩ => show win1_2.index t (1 : Fin 2) * 3200 ≤ (i 1).val ∧ (i 1).val < win1_2.index t (1 : Fin 2) * 3200 + 3200; omega

end Cert.KernelIdeal.Hand

end
-- ==== Proof.IAmaxDyPay.lean ====
module

public import proofs.«01_k».proof.Proof.IScaleRead

@[expose] public section

set_option maxRecDepth 16384

noncomputable section

/-! The arithmetic of the amax kernel: maxima, the scale and its inverse. -/

namespace Cert.KernelIdeal.Hand

open Cert.KernelIdeal.Gen
open Idealize.ShloMosaic Idealize.ShloMosaic.TcCoe Idealize.ShloMosaic.Tactic
open Idealize.ShloMosaic.Pipeline (Dat)

/-- The greatest element of the scratch. -/
def amax2 (x : Vec Ideal S16x3200 .bf16) : EReal :=
  extractAt ![0, 0, 0] (shapeCast S1x1x1 (multiReduction (F := Ideal) .maximumf [1, 2] S1 (shapeCast S1x16x3200 (extf (F := Ideal) .f32 x bitsLt_bf16_f32) shapeCasts_S16x3200_S1x16x3200) 0xFF800000#32 reduces_S1x16x3200_S1 (.inl rfl) rfl) shapeCasts_S1_S1x1x1) inpos_S1x1x1_p0_0_0

/-- It is the greatest of them. -/
theorem amax2_isMax (x : Vec Ideal S16x3200 .bf16) : Cert.Amax.IsMax (fun i => (x i : EReal)) (amax2 x) := by
  intro B
  have h1 := Cert.Amax.multiReduction_le (φ := .f32) (shapeCast S1x16x3200 (extf (F := Ideal) .f32 x bitsLt_bf16_f32) shapeCasts_S16x3200_S1x16x3200) 0xFF800000#32 reduces_S1x16x3200_S1 (.inl rfl) rfl Cert.Amax.ninf32 B
  have h2 := Cert.Amax.shapeCast_all (extf (F := Ideal) .f32 x bitsLt_bf16_f32) shapeCasts_S16x3200_S1x16x3200 (fun y : Ideal .f32 => @LE.le EReal _ y B)
  exact (extract_le _ B).trans (h1.trans h2)

/-- The block's row maxima are at most `B` exactly when every absolute value in the block is. -/
theorem pay1_le2 (x : Vec Ideal S1024x3200 .bf16) (B : EReal) :
    (∀ j, @LE.le EReal _ (k2_pay1 x j) B) ↔ ∀ i, max (α := EReal) (x i) (-(x i : EReal)) ≤ B := by
  have h1 := Cert.Amax.multiReduction_le (φ := .bf16) (shapeCast S64x16x3200 (absf (shapeCast S1024x3200 x shapeCasts_S1024x3200_S1024x3200)) shapeCasts_S1024x3200_S64x16x3200) 0xFF80#16 reduces_S64x16x3200_S16x3200 (.inr rfl) rfl Cert.Amax.ninf16 B
  have h2 := Cert.Amax.shapeCast_all (absf (shapeCast S1024x3200 x shapeCasts_S1024x3200_S1024x3200)) shapeCasts_S1024x3200_S64x16x3200 (fun y : Ideal .bf16 => @LE.le EReal _ y B)
  have h3 := Cert.Amax.shapeCast_all x shapeCasts_S1024x3200_S1024x3200 (fun y : Ideal .bf16 => max (α := EReal) y (-(y : EReal)) ≤ B)
  exact h1.trans (h2.trans h3)

/-- What the first point stores in the scratch. -/
theorem pay2_le2 (x : Vec Ideal S1024x3200 .bf16) (B : EReal) :
    (∀ j, @LE.le EReal _ (k2_pay2 x j) B) ↔ ∀ i, max (α := EReal) (x i) (-(x i : EReal)) ≤ B :=
  (Cert.Amax.shapeCast_all (k2_pay1 x) shapeCasts_S16x3200_S16x3200 (fun y : Ideal .bf16 => @LE.le EReal _ y B)).trans (pay1_le2 x B)

/-- What a later point stores in the scratch. -/
theorem pay3_le2 (x : Vec Ideal S1024x3200 .bf16) (s : Vec Ideal S16x3200 .bf16) (B : EReal) :
    (∀ j, @LE.le EReal _ (k2_pay3 x s j) B) ↔ (∀ j, @LE.le EReal _ (s j) B) ∧ ∀ i, max (α := EReal) (x i) (-(x i : EReal)) ≤ B := by
  refine (Cert.Amax.shapeCast_all (maximumf s (k2_pay1 x)) shapeCasts_S16x3200_S16x3200 (fun y : Ideal .bf16 => @LE.le EReal _ y B)).trans ?_
  rw [← pay1_le2, ← forall_and]
  exact forall_congr' fun j => max_le_iff (α := EReal)

/-- The step the amax is divided by, as a product. -/
def recip2 : EReal := Ideal.ofBits .f32 0x37924925#32

/-- The exponent's word, from the scratch. -/
theorem pay6_2 (x : Vec Ideal S16x3200 .bf16) (j : S1x1.Idx) :
    k2_pay6 x j = Cert.Scale.wExpo ((Finset.univ : Finset S1x256.Idx).fold IKind.maxsi.op (0x80000000#32)
      (fun i => Cert.Scale.lane (amax2 x * recip2) (i 1).val)) (amax2 x) := by
  have e : mulf (F := Ideal) (φ := .f32) (broadcast S1x1 (amax2 x)) (broadcast S1x1 (Scalar.ofBits .f32 0x37924925#32)) = broadcast S1x1 (amax2 x * recip2) := mulf_broadcast _ _
  refine (wExpo_apply (shapeCast S1x1 (multiReductionI .maxsi [1] S1 (lanes (mulf (F := Ideal) (φ := .f32) (broadcast S1x1 (amax2 x)) (broadcast S1x1 (Scalar.ofBits .f32 0x37924925#32)))) 2147483648#32 reduces_S1x256_S1 rfl) shapeCasts_S1_S1x1) (amax2 x) j).trans ?_
  rw [e]
  exact congrArg (fun w => Cert.Scale.wExpo w (amax2 x)) (lanes_max (amax2 x * recip2) (Shape.reshapeEquiv shapeCasts_S1_S1x1 j))

/-- It is not negative. -/
theorem recip2_nonneg : 0 ≤ recip2 := by
  simp [recip2, Ideal.ofBits, Ideal.ieee]
  norm_cast
  positivity

/-- The scale and its inverse, from the scratch. -/
theorem pow2 (x : Vec Ideal S16x3200 .bf16) (hx : 0 ≤ amax2 x) (j : S1x1.Idx) :
    k2_pay4 (F := Ideal) (k2_pay8 x) (k2_pay9 x) j = Cert.Scale.refPow (Cert.Scale.refExpo (amax2 x * recip2) (amax2 x))
    ∧ k2_pay5 (F := Ideal) (k2_pay6 x) j = Cert.Scale.refPow (-(Cert.Scale.refExpo (amax2 x * recip2) (amax2 x))) := by
  have h := Cert.Scale.words_eq Finset.univ (fun i : S1x256.Idx => (i 1).val) lanes_lt lanes_all (amax2 x * recip2) (amax2 x)
    (mul_nonneg hx recip2_nonneg) (k2_pay6 x j) (pay6_2 x j)
  exact h

end Cert.KernelIdeal.Hand

end
-- ==== Proof.IAmaxDyValue.lean ====
module

public import proofs.«01_k».proof.Proof.IAmaxDy
public import proofs.«01_k».proof.Proof.IAmaxDyPay

@[expose] public section

set_option maxRecDepth 16384

noncomputable section

/-! What the amax kernel leaves in its two outputs. -/

namespace Cert.KernelIdeal.Hand

open Cert.KernelIdeal.Gen
open Idealize.ShloMosaic Idealize.ShloMosaic.TcCoe Idealize.ShloMosaic.Tactic
open Idealize.ShloMosaic.Pipeline (Dat)

section Run
variable {F : FTy → Type} [FloatOps F] (c : Dev nD) (i : grid2.Coords) (arg1 : Memref sig .tc .vmem S1024x3200 .bf16) (harg1 : arg1.IsWhole) (arg2 : Memref sig .tc .vmem S1x1 .f32) (harg2 : arg2.IsWhole) (arg3 : Memref sig .tc .vmem S1x1 .f32) (harg3 : arg3.IsWhole) (arg4 : Memref sig .tc .vmem S16x3200 .bf16) (harg4 : arg4.IsWhole)

/-- A load of the whole block reads it. -/
theorem rd1_2 (x0 : Vec F S1024x3200 .bf16) : View.readAt (Elt F) arg1.view (Rect.unit ![0, 0] ![1024, 3200] inb_S1024x3200_S1024x3200_0_0).toLoadRect (harg1.unread x0) = x0 := by
  rw [View.readAt_eq_ld, harg1.read_unread]
  exact View.ld_unit_zero hz2 _ _
/-- A load of the whole scratch reads it. -/
theorem rd4_2 (x0 : Vec F S16x3200 .bf16) : View.readAt (Elt F) arg4.view (Rect.unit ![0, 0] ![16, 3200] inb_S16x3200_S16x3200_0_0).toLoadRect (harg4.unread x0) = x0 := by
  rw [View.readAt_eq_ld, harg4.read_unread]
  exact View.ld_unit_zero hz2 _ _

/-- The scratch after the first point. -/
theorem sA2 (hc0 : cond2_0 i) (hc1 : ¬cond2_1 i) (hc2 : ¬cond2_2 i) (x0 : Vec F S1024x3200 .bf16) :
    sout2_A_0 c i arg1 harg1 arg2 harg2 arg3 harg3 arg4 harg4 hc0 hc1 hc2 x0 = k2_pay2 x0 := by
  unfold sout2_A_0
  rw [View.read_writes_junk_eq_canon]
  simp only [kernelRun2_A]
  refine (View.canon_unit_zero hz2 _ _).trans ?_
  rw [rd1_2]
/-- The scratch after a middle point. -/
theorem sB2 (hc0 : ¬cond2_0 i) (hc1 : cond2_1 i) (hc2 : ¬cond2_2 i) (x0 : Vec F S1024x3200 .bf16) (xs0 : Vec F S16x3200 .bf16) :
    sout2_B_0 c i arg1 harg1 arg2 harg2 arg3 harg3 arg4 harg4 hc0 hc1 hc2 x0 xs0 = k2_pay3 x0 xs0 := by
  unfold sout2_B_0
  rw [View.read_writes_junk_eq_canon]
  simp only [kernelRun2_B]
  refine (View.canon_unit_zero hz2 _ _).trans ?_
  rw [rd1_2, rd4_2]
/-- The scratch as the last point reads it back. -/
theorem vC2 (x0 : Vec F S1024x3200 .bf16) (xs0 : Vec F S16x3200 .bf16) :
    kernelRun2_C.sl.v14 c arg1 harg1 arg4 harg4 x0 xs0 = k2_pay3 x0 xs0 := by
  unfold kernelRun2_C.sl.v14 kernelRun2_C.sl.HS0_1
  refine (View.readCov_unit_zero _ hz2 _ _).trans ?_
  rw [rd1_2, rd4_2]
/-- The scale the last point writes. -/
theorem o1C2 (hc0 : ¬cond2_0 i) (hc1 : cond2_1 i) (hc2 : cond2_2 i) (x0 : Vec F S1024x3200 .bf16) (xs0 : Vec F S16x3200 .bf16) :
    out2_C_1 c i arg1 harg1 arg2 harg2 arg3 harg3 arg4 harg4 hc0 hc1 hc2 x0 xs0 = k2_pay4 (k2_pay8 (k2_pay3 x0 xs0)) (k2_pay9 (k2_pay3 x0 xs0)) := by
  unfold out2_C_1
  rw [View.read_writes_junk_eq_canon]
  simp only [kernelRun2_C, kernelRun2_C.sl.r_1, kernelRun2_C.sl.r_2]
  refine (View.canon_unit_zero hz2 _ _).trans ?_
  rw [vC2]
/-- The inverse the last point writes. -/
theorem o2C2 (hc0 : ¬cond2_0 i) (hc1 : cond2_1 i) (hc2 : cond2_2 i) (x0 : Vec F S1024x3200 .bf16) (xs0 : Vec F S16x3200 .bf16) :
    out2_C_2 c i arg1 harg1 arg2 harg2 arg3 harg3 arg4 harg4 hc0 hc1 hc2 x0 xs0 = k2_pay5 (k2_pay6 (k2_pay3 x0 xs0)) := by
  unfold out2_C_2
  rw [View.read_writes_junk_eq_canon]
  simp only [kernelRun2_C, kernelRun2_C.sl.r]
  refine (View.canon_unit_zero hz2 _ _).trans ?_
  rw [vC2]
/-- The scratch after the last point. -/
theorem sC2 (hc0 : ¬cond2_0 i) (hc1 : cond2_1 i) (hc2 : cond2_2 i) (x0 : Vec F S1024x3200 .bf16) (xs0 : Vec F S16x3200 .bf16) :
    sout2_C_0 c i arg1 harg1 arg2 harg2 arg3 harg3 arg4 harg4 hc0 hc1 hc2 x0 xs0 = k2_pay3 x0 xs0 := by
  unfold sout2_C_0
  rw [View.read_writes_junk_eq_canon]
  simp only [kernelRun2_C, kernelRun2_C.sl.HS0_1]
  refine (View.canon_unit_zero hz2 _ _).trans ?_
  rw [rd1_2, rd4_2]
end Run

variable (V : (c : Dev nD) → (b : Ref sig .tc) → Buf (Elt Ideal) ((c : Thread nD τ).loc b))

/-- The scratch after point `n` is at most `B` exactly when every absolute value in the blocks up to it is. -/
theorem scratch_le2 (c : Dev nD) (B : EReal) : ∀ (n : ℕ) (hn : n < cfg2.N),
    (∀ j : S16x3200.Idx, @LE.le EReal _ ((outsAt2 V c n hn).2.2 j) B)
      ↔ ∀ t : Fin cfg2.N, t.val ≤ n → ∀ i : S1024x3200.Idx, Cert.Amax.mag (iblk2 V c 0 t i) ≤ B
  | 0, hn => by
    rw [outsAt2_A V c ⟨0, hn⟩ rfl (by show ¬1 ≤ 0; omega) (by show ¬0 % 16 = 15; omega)]
    dsimp only
    rw [sA2]
    refine (pay2_le2 _ B).trans ⟨fun h t ht => ?_, fun h => h ⟨0, hn⟩ le_rfl⟩
    obtain rfl : t = ⟨0, hn⟩ := Fin.ext (Nat.le_zero.mp ht)
    exact h
  | n + 1, hn => by
    have hN : n + 1 < 16 := lt_of_lt_of_eq hn N_2
    have ih := scratch_le2 c B n (by omega)
    have key : (∀ j : S16x3200.Idx, @LE.le EReal _ ((outsAt2 V c (n + 1) hn).2.2 j) B)
        ↔ (∀ j : S16x3200.Idx, @LE.le EReal _ ((outsAt2 V c n (by omega)).2.2 j) B)
          ∧ ∀ i : S1024x3200.Idx, Cert.Amax.mag (iblk2 V c 0 ⟨n + 1, hn⟩ i) ≤ B := by
      by_cases h7 : (n + 1) % 16 = 15
      · rw [outsAt2_C V c ⟨n + 1, hn⟩ (by show ¬(n + 1) % 16 = 0; omega) (by show 1 ≤ n + 1; omega) h7]
        dsimp only
        rw [sC2]
        exact pay3_le2 _ _ B
      · rw [outsAt2_B V c ⟨n + 1, hn⟩ (by show ¬(n + 1) % 16 = 0; omega) (by show 1 ≤ n + 1; omega) h7]
        dsimp only
        rw [sB2]
        exact pay3_le2 _ _ B
    rw [key, ih]
    constructor
    · rintro ⟨h1, h2⟩ t ht
      by_cases e : t.val ≤ n
      · exact h1 t e
      · obtain rfl : t = ⟨n + 1, hn⟩ := Fin.ext (by show t.val = n + 1; omega)
        exact h2
    · intro h
      exact ⟨fun t ht => h t (by omega), h ⟨n + 1, hn⟩ le_rfl⟩

/-- The last point. -/
abbrev last2 : Fin cfg2.N := ⟨15, by show 15 < grid2.N; rw [N_2]; omega⟩

/-- The block indices of the input. -/
theorem index2_0 : ∀ t : Fin cfg2.N, win2_0.index t (0 : Fin 2) = t.val ∧ win2_0.index t (1 : Fin 2) = 0 :=
  (by decide +kernel : ∀ t : Fin grid2.N, _)

/-- An index of the input is in point `t`'s block iff each coordinate is in the block's range. -/
theorem mem_blk2_0 (t : Fin cfg2.N) (i : S16384x3200.Idx) :
    i ∈ ((cfg2.win 0).blk t).view.set ↔ ∀ a : Fin 2, win2_0.index t a * S1024x3200.size a ≤ (i a).val ∧ (i a).val < win2_0.index t a * S1024x3200.size a + S1024x3200.size a := by
  show i ∈ ((View.whole main_v2).slice (win2_0.rect t)).set ↔ _
  rw [View.set_slice_whole, Rect.mem_set_unit]
  exact Iff.rfl

/-- The input's blocks cover it. -/
theorem blocks_all2 (c : Dev nD) (P : EReal → Prop) :
    (∀ t : Fin cfg2.N, ∀ i : S1024x3200.Idx, P (iblk2 V c 0 t i)) ↔ ∀ i : S16384x3200.Idx, P (V c main_v2 i) := by
  constructor
  · intro h i
    have h0 : (i 0).val < 16384 := (i 0).isLt
    have h1 : (i 1).val < 3200 := (i 1).isLt
    let t : Fin cfg2.N := ⟨(i 0).val / 1024, by show _ < grid2.N; rw [N_2]; omega⟩
    have hm : i ∈ ((cfg2.win 0).blk t).view.set := by
      rw [mem_blk2_0]
      obtain ⟨e0, e1⟩ := index2_0 t
      have e0' : win2_0.index t (0 : Fin 2) = (i 0).val / 1024 := e0
      intro a
      match a with
      | ⟨0, _⟩ => show win2_0.index t (0 : Fin 2) * 1024 ≤ (i 0).val ∧ (i 0).val < win2_0.index t (0 : Fin 2) * 1024 + 1024; omega
      | ⟨1, _⟩ => show win2_0.index t (1 : Fin 2) * 3200 ≤ (i 1).val ∧ (i 1).val < win2_0.index t (1 : Fin 2) * 3200 + 3200; omega
    obtain ⟨y, hy⟩ := View.exists_emb_of_mem_set _ hm
    have := h t y
    rw [← hy]
    exact this
  · intro h t i
    exact h _

/-- The scratch as the last point leaves it. -/
def sfin2 (c : Dev nD) : Vec Ideal S16x3200 .bf16 :=
  k2_pay3 (iblk2 V c 0 last2) (outsAt2 V c 14 (by show 14 < grid2.N; rw [N_2]; omega)).2.2

/-- The scale and its inverse after the last point. -/
theorem outs_last2 (c : Dev nD) (h : 15 < cfg2.N) :
    outsAt2 V c 15 h = (k2_pay4 (F := Ideal) (k2_pay8 (sfin2 V c)) (k2_pay9 (sfin2 V c)), k2_pay5 (F := Ideal) (k2_pay6 (sfin2 V c)), sfin2 V c) := by
  refine (outsAt2_C V c last2 (by show ¬15 % 16 = 0; omega) (by show 1 ≤ 15; omega) rfl).trans ?_
  rw [o1C2, o2C2, sC2]
  rfl

/-- The greatest absolute value of the input. -/
def top2 (c : Dev nD) : EReal := amax2 (sfin2 V c)

/-- It is the greatest of them. -/
theorem top2_isMax (c : Dev nD) :
    Cert.Amax.IsMax (fun i : S16384x3200.Idx => Cert.Amax.mag (V c main_v2 i)) (top2 V c) := by
  intro B
  have h7 : 15 < cfg2.N := last2.isLt
  have h := scratch_le2 V c B 15 h7
  rw [outs_last2] at h
  refine (amax2_isMax (sfin2 V c) B).trans (h.trans ?_)
  refine Iff.trans ⟨fun h t => h t (by have : t.val < 16 := lt_of_lt_of_eq t.isLt N_2; omega), fun h t _ => h t⟩ (blocks_all2 V c (fun x => max x (-x) ≤ B))

/-- The scale. -/
def scale2 (c : Dev nD) : EReal := Cert.Scale.refPow (Cert.Scale.refExpo (top2 V c * recip2) (top2 V c))
/-- The inverse of the scale. -/
def inv2 (c : Dev nD) : EReal := Cert.Scale.refPow (-(Cert.Scale.refExpo (top2 V c * recip2) (top2 V c)))

/-- It is not negative. -/
theorem top2_nonneg (c : Dev nD) : 0 ≤ top2 V c :=
  Cert.Amax.IsMax.nonneg (fun a => match a with
    | ⟨0, _⟩ => ⟨0, by show 0 < 16384; omega⟩
    | ⟨1, _⟩ => ⟨0, by show 0 < 3200; omega⟩ : S16384x3200.Idx) (top2_isMax V c)

/-- The block index of output 1 is zero. -/
theorem index2_1 : ∀ t : Fin cfg2.N, win2_1.index t (0 : Fin 2) = 0 ∧ win2_1.index t (1 : Fin 2) = 0 :=
  (by decide +kernel : ∀ t : Fin grid2.N, _)

/-- The array of output 1 after the region: the scale. -/
theorem final2_1 (c : Dev nD) : (dat2 V c).arrAt 1 cfg2.N = (fun _ => scale2 V c : Buf (Elt Ideal) ((c : Thread nD τ).loc main_v3_0)) := by
  refine (dat2 V c).arrAt_eq_of_cover 1 _ (fun t hf => ?_) (fun i => ?_)
  · have hm : t.val % 16 = 15 := (flush2_1 t).mp hf
    have hN : t.val < 16 := lt_of_lt_of_eq t.isLt N_2
    obtain rfl : t = last2 := Fin.ext (by show t.val = 15; omega)
    show (cfg2.win 1).cut (grid2.coords last2) ((dat2 V c).after 1 last2) = _
    rw [after2_1]
    show (cfg2.win 1).cut (grid2.coords last2) ((outsAt2 V c 15 last2.isLt).1) = _
    have h : (outsAt2 V c 15 last2.isLt).1 = fun _ : S1x1.Idx => scale2 V c := by
      rw [outs_last2]
      exact funext fun j => (pow2 (sfin2 V c) (top2_nonneg V c) j).1
    rw [h]
    generalize scale2 V c = z
    rfl
  · refine ⟨last2, (flush2_1 last2).mpr rfl, ?_⟩
    show i ∈ ((View.whole main_v3_0).slice (win2_1.rect last2)).set
    rw [View.set_slice_whole, Rect.mem_set_unit]
    obtain ⟨e0, e1⟩ := index2_1 last2
    intro a
    match a with
    | ⟨0, _⟩ =>
      have h0 : (i 0).val < 1 := (i 0).isLt
      show win2_1.index last2 (0 : Fin 2) * 1 ≤ (i 0).val ∧ (i 0).val < win2_1.index last2 (0 : Fin 2) * 1 + 1
      omega
    | ⟨1, _⟩ =>
      have h1 : (i 1).val < 1 := (i 1).isLt
      show win2_1.index last2 (1 : Fin 2) * 1 ≤ (i 1).val ∧ (i 1).val < win2_1.index last2 (1 : Fin 2) * 1 + 1
      omega

/-- The block index of output 2 is zero. -/
theorem index2_2 : ∀ t : Fin cfg2.N, win2_2.index t (0 : Fin 2) = 0 ∧ win2_2.index t (1 : Fin 2) = 0 :=
  (by decide +kernel : ∀ t : Fin grid2.N, _)

/-- The array of output 2 after the region: its inverse. -/
theorem final2_2 (c : Dev nD) : (dat2 V c).arrAt 2 cfg2.N = (fun _ => inv2 V c : Buf (Elt Ideal) ((c : Thread nD τ).loc main_v3_1)) := by
  refine (dat2 V c).arrAt_eq_of_cover 2 _ (fun t hf => ?_) (fun i => ?_)
  · have hm : t.val % 16 = 15 := (flush2_2 t).mp hf
    have hN : t.val < 16 := lt_of_lt_of_eq t.isLt N_2
    obtain rfl : t = last2 := Fin.ext (by show t.val = 15; omega)
    show (cfg2.win 2).cut (grid2.coords last2) ((dat2 V c).after 2 last2) = _
    rw [after2_2]
    show (cfg2.win 2).cut (grid2.coords last2) ((outsAt2 V c 15 last2.isLt).2.1) = _
    have h : (outsAt2 V c 15 last2.isLt).2.1 = fun _ : S1x1.Idx => inv2 V c := by
      rw [outs_last2]
      exact funext fun j => (pow2 (sfin2 V c) (top2_nonneg V c) j).2
    rw [h]
    generalize inv2 V c = z
    rfl
  · refine ⟨last2, (flush2_2 last2).mpr rfl, ?_⟩
    show i ∈ ((View.whole main_v3_1).slice (win2_2.rect last2)).set
    rw [View.set_slice_whole, Rect.mem_set_unit]
    obtain ⟨e0, e1⟩ := index2_2 last2
    intro a
    match a with
    | ⟨0, _⟩ =>
      have h0 : (i 0).val < 1 := (i 0).isLt
      show win2_2.index last2 (0 : Fin 2) * 1 ≤ (i 0).val ∧ (i 0).val < win2_2.index last2 (0 : Fin 2) * 1 + 1
      omega
    | ⟨1, _⟩ =>
      have h1 : (i 1).val < 1 := (i 1).isLt
      show win2_2.index last2 (1 : Fin 2) * 1 ≤ (i 1).val ∧ (i 1).val < win2_2.index last2 (1 : Fin 2) * 1 + 1
      omega

end Cert.KernelIdeal.Hand

end
-- ==== Proof.IDgradValue.lean ====
module

public import proofs.«01_k».proof.Proof.IDgrad
public import proofs.«01_k».proof.Proof.IScaleRead
public import proofs.«01_k».proof.Proof.Spec

@[expose] public section

set_option maxRecDepth 16384

noncomputable section

/-! What the gradient's region leaves in its two outputs. -/

namespace Cert.KernelIdeal.Hand

open Cert.KernelIdeal.Gen
open Idealize.ShloMosaic Idealize.ShloMosaic.TcCoe Idealize.ShloMosaic.Tactic
open Idealize.ShloMosaic.Pipeline (Dat)
open Cert.Spec

/-- The block's codes, elementwise. -/
theorem k3_pay1_apply (x : Vec Ideal S1x512x3200 .bf16) (z : EReal) (r : Fin 512) (k : Fin 3200) :
    k3_pay1 (F := Ideal) x (fun _ => z) (ValueIdx.ix2 r k) = codeDy (x (ValueIdx.ix3 0 r k)) z :=
  congrArg (fun e => codeDy e z) (ValueIdx.shapeCast_1ab_ab_apply x shapeCasts_S1x512x3200_S512x3200 r k)

/-- The block of codes as stored. -/
theorem k3_pay2_apply (x : Vec Ideal S1x512x3200 .bf16) (z : EReal) (u : Fin 1) (r : Fin 512) (k : Fin 3200) :
    k3_pay2 (F := Ideal) x (fun _ => z) (ValueIdx.ix3 u r k) = codeDy (x (ValueIdx.ix3 0 r k)) z :=
  (ValueIdx.shapeCast_ab_1ab_apply (k3_pay1 (F := Ideal) x (fun _ => z)) shapeCasts_S512x3200_S1x512x3200 u r k).trans
    (k3_pay1_apply x z r k)

/-- The product times a scale, at an entry, for any two operands. -/
theorem scaledMatmul_apply (a : FVec Ideal S512x3200 .fp8e5m2) (b : FVec Ideal S2048x3200 .fp8e4m3) (zs ws : EReal) (r : Fin 512) (n : Fin 2048) :
    (truncf .bf16 (mulf (matmul (F := Ideal) dot_S512x3200_S2048x3200_S512x2048_1_1_0_0_n_n none a b (constant S512x2048 .f32 0x00000000#32))
      (broadcastTo S512x2048 (mulf (fun _ => zs : FVec Ideal S1x1 .f32) (fun _ => ws)) broadcasts_S1x1_S512x2048)) bitsLt_bf16_f32 : FVec Ideal S512x2048 .bf16) (ValueIdx.ix2 r n)
      = (Ideal.ofBits .f32 0x00000000#32 + ∑ k : Fin 3200, (a (ValueIdx.ix2 r k) : EReal) * b (ValueIdx.ix2 n k)) * (zs * ws) :=
  congrArg (fun e : EReal => e * (zs * ws))
    (Ideal.matmul_transposedRhs_apply (M := 512) (K := 3200) (N := 2048) none a b (constant (F := Ideal) S512x2048 .f32 0x00000000#32) r n)

/-- The block of the gradient as stored. -/
theorem k3_pay3_apply (x : Vec Ideal S1x512x3200 .bf16) (b : Vec Ideal S2048x3200 .fp8e4m3) (z zs ws : EReal) (u : Fin 1) (r : Fin 512) (n : Fin 2048) :
    k3_pay3 (F := Ideal) x (fun _ => z) b (fun _ => zs) (fun _ => ws) (ValueIdx.ix3 u r n)
      = (Ideal.ofBits .f32 0x00000000#32 + ∑ k : Fin 3200, codeDy (x (ValueIdx.ix3 0 r k)) z * b (ValueIdx.ix2 n k)) * (zs * ws) := by
  unfold k3_pay3
  refine (ValueIdx.shapeCast_ab_1ab_apply _ shapeCasts_S512x2048_S1x512x2048 u r n).trans ?_
  rw [shapeCast_self b]
  refine (scaledMatmul_apply (k3_pay1 (F := Ideal) x (fun _ => z)) b zs ws r n).trans ?_
  simp only [k3_pay1_apply]

variable (V : (c : Dev nD) → (b : Ref sig .tc) → Buf (Elt Ideal) ((c : Thread nD τ).loc b))

/-- The three offsets of a whole access are zero. -/
theorem hz3 : (![0, 0, 0] : Fin 3 → ℕ) = fun _ => 0 := by funext a; fin_cases a <;> rfl

/-- The block indices of the gradient, of the codes and of the result agree; the weight's codes are one block. -/
theorem index3 : ∀ t : Fin cfg3.N,
    (win3_3.index t (0 : Fin 3) = t.val / 4 ∧ win3_3.index t (1 : Fin 3) = t.val % 4 ∧ win3_3.index t (2 : Fin 3) = 0)
    ∧ (win3_5.index t (0 : Fin 3) = t.val / 4 ∧ win3_5.index t (1 : Fin 3) = t.val % 4 ∧ win3_5.index t (2 : Fin 3) = 0)
    ∧ (win3_6.index t (0 : Fin 3) = t.val / 4 ∧ win3_6.index t (1 : Fin 3) = t.val % 4 ∧ win3_6.index t (2 : Fin 3) = 0)
    ∧ (win3_4.index t (0 : Fin 2) = 0 ∧ win3_4.index t (1 : Fin 2) = 0) :=
  (by decide +kernel : ∀ t : Fin grid3.N, _)

/-- A block of the gradient, entry by entry. -/
theorem iblk3_dy (c : Dev nD) (t : Fin cfg3.N) (u : Fin 1) (r : Fin 512) (k : Fin 3200) (i : S8x2048x3200.Idx)
    (h0 : (i 0).val = t.val / 4) (h1 : (i 1).val = t.val % 4 * 512 + r.val) (h2 : (i 2).val = k.val) :
    iblk3 V c 3 t (ValueIdx.ix3 u r k) = V c main_arg0 i := by
  have hu : u.val = 0 := by omega
  obtain ⟨⟨e0, e1, e2⟩, -, -, -⟩ := index3 t
  show V c main_arg0 (((cfg3.win 3).blk t).view.emb (ValueIdx.ix3 u r k)) = V c main_arg0 i
  refine congrArg (V c main_arg0) ?_
  funext a; apply Fin.ext
  match a with
  | ⟨0, _⟩ => show win3_3.index t (0 : Fin 3) * 1 + 1 * u.val = (i 0).val; rw [e0, h0]; omega
  | ⟨1, _⟩ => show win3_3.index t (1 : Fin 3) * 512 + 1 * r.val = (i 1).val; rw [e1, h1]; omega
  | ⟨2, _⟩ => show win3_3.index t (2 : Fin 3) * 3200 + 1 * k.val = (i 2).val; rw [e2, h2]; omega

/-- The weight's codes are read whole. -/
theorem iblk3_w (c : Dev nD) (t : Fin cfg3.N) : iblk3 V c 4 t = V c main_v1 := by
  obtain ⟨-, -, -, e0, e1⟩ := index3 t
  funext y
  show V c main_v1 (((cfg3.win 4).blk t).view.emb y) = V c main_v1 y
  refine congrArg (V c main_v1) ?_
  funext a; apply Fin.ext
  match a with
  | ⟨0, _⟩ => show win3_4.index t (0 : Fin 2) * 2048 + 1 * (y 0).val = (y 0).val; rw [e0]; omega
  | ⟨1, _⟩ => show win3_4.index t (1 : Fin 2) * 3200 + 1 * (y 1).val = (y 1).val; rw [e1]; omega

/-- The codes after the region, from the inverse of the scale the region finds. -/
theorem final3_6 (c : Dev nD) (z : EReal) (hz : V c main_v3_1 = (fun _ => z : Buf (Elt Ideal) ((c : Thread nD τ).loc main_v3_1))) :
    (dat3 V c).arrAt 6 cfg3.N = (fun i => codeDy (V c main_arg0 i) z : Buf (Elt Ideal) ((c : Thread nD τ).loc main_v4_1)) := by
  refine (dat3 V c).arrAt_eq_of_cover 6 _ (fun t hf => ?_) (fun i => ?_)
  · show (cfg3.win 6).cut (grid3.coords t) ((dat3 V c).after 6 t) = _
    rw [after3_6]
    have h0 : iblk3 V c 0 t = fun _ : S1x1.Idx => z := by
      show ((cfg3.win 0).blk t).view.read (Elt Ideal) (V c main_v3_1) = _
      rw [hz]; rfl
    rw [h0]
    unfold out3_6
    have e : View.canon [(⟨r3_0, k3_pay2 (F := Ideal) (View.ld (iblk3 V c 3 t) r3_0) (View.ld (fun _ : S1x1.Idx => z) r3_1)⟩ : View.Piece (Elt Ideal) S1x512x3200 .fp8e5m2)]
        = k3_pay2 (F := Ideal) (iblk3 V c 3 t) (fun _ => z) := by
      refine (View.canon_unit_zero hz3 _ _).trans ?_
      have e1 : View.ld (Val := Elt Ideal) (e' := .bf16) (iblk3 V c 3 t : S1x512x3200.Idx → Elt Ideal .bf16) r3_0 = iblk3 V c 3 t := View.ld_unit_zero hz3 _ _
      rw [e1]
      exact congrArg (k3_pay2 (F := Ideal) (iblk3 V c 3 t)) (View.ld_unit_zero hz2 _ _)
    refine (congrArg ((cfg3.win 6).cut (grid3.coords t)) e).trans ?_
    obtain ⟨-, -, ⟨e0, e1, e2⟩, -⟩ := index3 t
    funext y
    have hy0 : (y 0).val < 1 := (y 0).isLt
    have hy : y = ValueIdx.ix3 (y 0 : Fin 1) (y 1 : Fin 512) (y 2 : Fin 3200) := by
      funext a; match a with | ⟨0, _⟩ => rfl | ⟨1, _⟩ => rfl | ⟨2, _⟩ => rfl
    show k3_pay2 (F := Ideal) (iblk3 V c 3 t) (fun _ => z) y = codeDy (V c main_arg0 (((cfg3.win 6).blk t).view.emb y)) z
    refine (congrArg (k3_pay2 (F := Ideal) (iblk3 V c 3 t) (fun _ => z)) hy).trans ?_
    refine (k3_pay2_apply _ z _ _ _).trans (congrArg (fun e => codeDy e z) ?_)
    refine iblk3_dy V c t _ _ _ _ ?_ ?_ ?_
    · show win3_6.index t (0 : Fin 3) * 1 + 1 * (y 0).val = _; rw [e0]; omega
    · show win3_6.index t (1 : Fin 3) * 512 + 1 * (y 1).val = _; rw [e1]; show _ = t.val % 4 * 512 + (y 1).val; omega
    · show win3_6.index t (2 : Fin 3) * 3200 + 1 * (y 2).val = (y 2).val; rw [e2]; omega
  · have h0 : (i 0).val < 8 := (i 0).isLt
    have h1 : (i 1).val < 2048 := (i 1).isLt
    have h2 : (i 2).val < 3200 := (i 2).isLt
    let t : Fin cfg3.N := ⟨(i 0).val * 4 + (i 1).val / 512, by show _ < grid3.N; rw [N_3]; omega⟩
    refine ⟨t, flush3_6 t, ?_⟩
    show i ∈ ((View.whole main_v4_1).slice (win3_6.rect t)).set
    rw [View.set_slice_whole, Rect.mem_set_unit]
    obtain ⟨-, -, ⟨e0, e1, e2⟩, -⟩ := index3 t
    have e0' : win3_6.index t (0 : Fin 3) = (i 0).val := by rw [e0]; show ((i 0).val * 4 + (i 1).val / 512) / 4 = _; omega
    have e1' : win3_6.index t (1 : Fin 3) = (i 1).val / 512 := by rw [e1]; show ((i 0).val * 4 + (i 1).val / 512) % 4 = _; omega
    intro a
    match a with
    | ⟨0, _⟩ => show win3_6.index t (0 : Fin 3) * 1 ≤ (i 0).val ∧ (i 0).val < win3_6.index t (0 : Fin 3) * 1 + 1; omega
    | ⟨1, _⟩ => show win3_6.index t (1 : Fin 3) * 512 ≤ (i 1).val ∧ (i 1).val < win3_6.index t (1 : Fin 3) * 512 + 512; omega
    | ⟨2, _⟩ => show win3_6.index t (2 : Fin 3) * 3200 ≤ (i 2).val ∧ (i 2).val < win3_6.index t (2 : Fin 3) * 3200 + 3200; omega

/-- The gradient after the region, from the codes' scales and the weight's codes the region finds. -/
theorem final3_5 (c : Dev nD) (z zs ws : EReal) (hz : V c main_v3_1 = (fun _ => z : Buf (Elt Ideal) ((c : Thread nD τ).loc main_v3_1)))
    (hzs : V c main_v3_0 = (fun _ => zs : Buf (Elt Ideal) ((c : Thread nD τ).loc main_v3_0)))
    (hws : V c main_v0_0 = (fun _ => ws : Buf (Elt Ideal) ((c : Thread nD τ).loc main_v0_0))) :
    (dat3 V c).arrAt 5 cfg3.N
      = (dx (fun i => codeDy (V c main_arg0 i) z) (V c main_v1) (zs * ws) : Buf (Elt Ideal) ((c : Thread nD τ).loc main_v4_0)) := by
  refine (dat3 V c).arrAt_eq_of_cover 5 _ (fun t hf => ?_) (fun i => ?_)
  · show (cfg3.win 5).cut (grid3.coords t) ((dat3 V c).after 5 t) = _
    rw [after3_5]
    have h0 : iblk3 V c 0 t = fun _ : S1x1.Idx => z := by
      show ((cfg3.win 0).blk t).view.read (Elt Ideal) (V c main_v3_1) = _
      rw [hz]; rfl
    have h1 : iblk3 V c 1 t = fun _ : S1x1.Idx => zs := by
      show ((cfg3.win 1).blk t).view.read (Elt Ideal) (V c main_v3_0) = _
      rw [hzs]; rfl
    have h2 : iblk3 V c 2 t = fun _ : S1x1.Idx => ws := by
      show ((cfg3.win 2).blk t).view.read (Elt Ideal) (V c main_v0_0) = _
      rw [hws]; rfl
    rw [h0, h1, h2, iblk3_w]
    unfold out3_5
    have e : View.canon [(⟨r3_3, k3_pay3 (F := Ideal) (View.ld (iblk3 V c 3 t) r3_0) (View.ld (fun _ : S1x1.Idx => z) r3_1)
          (View.ld (V c main_v1) r3_2) (View.ld (fun _ : S1x1.Idx => zs) r3_1) (View.ld (fun _ : S1x1.Idx => ws) r3_1)⟩ : View.Piece (Elt Ideal) S1x512x2048 .bf16)]
        = k3_pay3 (F := Ideal) (iblk3 V c 3 t) (fun _ => z) (V c main_v1) (fun _ => zs) (fun _ => ws) := by
      refine (View.canon_unit_zero hz3 _ _).trans ?_
      have e1 : View.ld (Val := Elt Ideal) (e' := .bf16) (iblk3 V c 3 t : S1x512x3200.Idx → Elt Ideal .bf16) r3_0 = iblk3 V c 3 t := View.ld_unit_zero hz3 _ _
      have e2 : View.ld (Val := Elt Ideal) (e' := .fp8e4m3) (V c main_v1 : S2048x3200.Idx → Elt Ideal .fp8e4m3) r3_2 = V c main_v1 := View.ld_unit_zero hz2 _ _
      have e3 : ∀ v : EReal, View.ld (Val := Elt Ideal) (e' := .f32) (fun _ : S1x1.Idx => v) r3_1 = fun _ => v := fun v => View.ld_unit_zero hz2 _ _
      rw [e1, e2]
      exact (congrArg (fun q => k3_pay3 (F := Ideal) (iblk3 V c 3 t) q (V c main_v1) _ _) (e3 z)).trans
        ((congrArg (fun q => k3_pay3 (F := Ideal) (iblk3 V c 3 t) _ (V c main_v1) q _) (e3 zs)).trans
          (congrArg (fun q => k3_pay3 (F := Ideal) (iblk3 V c 3 t) _ (V c main_v1) _ q) (e3 ws)))
    refine (congrArg ((cfg3.win 5).cut (grid3.coords t)) e).trans ?_
    obtain ⟨-, ⟨e0, e1, e2⟩, -, -⟩ := index3 t
    funext y
    have hy0 : (y 0).val < 1 := (y 0).isLt
    have hy : y = ValueIdx.ix3 (y 0 : Fin 1) (y 1 : Fin 512) (y 2 : Fin 2048) := by
      funext a; match a with | ⟨0, _⟩ => rfl | ⟨1, _⟩ => rfl | ⟨2, _⟩ => rfl
    show k3_pay3 (F := Ideal) (iblk3 V c 3 t) (fun _ => z) (V c main_v1) (fun _ => zs) (fun _ => ws) y
      = dx (fun i => codeDy (V c main_arg0 i) z) (V c main_v1) (zs * ws) (((cfg3.win 5).blk t).view.emb y)
    refine (congrArg (k3_pay3 (F := Ideal) (iblk3 V c 3 t) (fun _ => z) (V c main_v1) (fun _ => zs) (fun _ => ws)) hy).trans ?_
    refine (k3_pay3_apply _ _ z zs ws _ _ _).trans ?_
    refine congrArg (fun e : EReal => (Ideal.ofBits .f32 0x00000000#32 + e) * (zs * ws)) (Finset.sum_congr rfl fun k _ => ?_)
    have ha : iblk3 V c 3 t (ValueIdx.ix3 0 (y 1 : Fin 512) k)
        = V c main_arg0 (ValueIdx.ix3 ((((cfg3.win 5).blk t).view.emb y) 0 : Fin 8) ((((cfg3.win 5).blk t).view.emb y) 1 : Fin 2048) k) := by
      refine iblk3_dy V c t _ _ _ _ ?_ ?_ rfl
      · show win3_5.index t (0 : Fin 3) * 1 + 1 * (y 0).val = _; rw [e0]; omega
      · show win3_5.index t (1 : Fin 3) * 512 + 1 * (y 1).val = t.val % 4 * 512 + (y 1).val; rw [e1]; omega
    have hb : (ValueIdx.ix2 (y 2 : Fin 2048) k : S2048x3200.Idx) = ValueIdx.ix2 ((((cfg3.win 5).blk t).view.emb y) 2 : Fin 2048) k := by
      refine congrArg (fun n : Fin 2048 => (ValueIdx.ix2 n k : S2048x3200.Idx)) (Fin.ext ?_)
      show (y 2).val = win3_5.index t (2 : Fin 3) * 2048 + 1 * (y 2).val; rw [e2]; omega
    exact congrArg₂ (fun p q : EReal => p * q) (congrArg (fun e => codeDy e z) ha) (congrArg (V c main_v1) hb)
  · have h0 : (i 0).val < 8 := (i 0).isLt
    have h1 : (i 1).val < 2048 := (i 1).isLt
    have h2 : (i 2).val < 2048 := (i 2).isLt
    let t : Fin cfg3.N := ⟨(i 0).val * 4 + (i 1).val / 512, by show _ < grid3.N; rw [N_3]; omega⟩
    refine ⟨t, flush3_5 t, ?_⟩
    show i ∈ ((View.whole main_v4_0).slice (win3_5.rect t)).set
    rw [View.set_slice_whole, Rect.mem_set_unit]
    obtain ⟨-, ⟨e0, e1, e2⟩, -, -⟩ := index3 t
    have e0' : win3_5.index t (0 : Fin 3) = (i 0).val := by rw [e0]; show ((i 0).val * 4 + (i 1).val / 512) / 4 = _; omega
    have e1' : win3_5.index t (1 : Fin 3) = (i 1).val / 512 := by rw [e1]; show ((i 0).val * 4 + (i 1).val / 512) % 4 = _; omega
    intro a
    match a with
    | ⟨0, _⟩ => show win3_5.index t (0 : Fin 3) * 1 ≤ (i 0).val ∧ (i 0).val < win3_5.index t (0 : Fin 3) * 1 + 1; omega
    | ⟨1, _⟩ => show win3_5.index t (1 : Fin 3) * 512 ≤ (i 1).val ∧ (i 1).val < win3_5.index t (1 : Fin 3) * 512 + 512; omega
    | ⟨2, _⟩ => show win3_5.index t (2 : Fin 3) * 2048 ≤ (i 2).val ∧ (i 2).val < win3_5.index t (2 : Fin 3) * 2048 + 2048; omega

end Cert.KernelIdeal.Hand

end
-- ==== Proof.IValue.lean ====
module

public import proofs.«01_k».proof.Proof.IWhole
public import proofs.«01_k».proof.Proof.IAmaxWValue
public import proofs.«01_k».proof.Proof.IQuantWValue
public import proofs.«01_k».proof.Proof.IAmaxDyValue
public import proofs.«01_k».proof.Proof.IDgradValue
public import Idealize.ShloMosaic.Lib.StableHlo.ReadAt

@[expose] public section

set_option maxRecDepth 16384

noncomputable section

/-! What the kernel's whole run leaves in its five results. -/

namespace Cert.KernelIdeal.Hand

open Cert.KernelIdeal.Gen
open Cert.Spec
open Idealize.ShloMosaic Idealize.ShloMosaic.TcCoe Idealize.ShloMosaic.Tactic
open Idealize.ShloMosaic.Pipeline (Dat)

variable (m : (ℓ : Loc nD τ sig) → Buf (Elt Ideal) ℓ) (ρ : Dev nD → PrngReg)

/-- The weight is as launched when the second region starts. -/
theorem V1_arg1 (c : Dev nD) : V1 m ρ c main_arg1 = m ((c : Thread nD τ).loc main_arg1) := W1_args m ρ c main_arg1 (by decide)
/-- The gradient is as launched when the last region starts. -/
theorem V4_arg0 (c : Dev nD) : V4 m ρ c main_arg0 = m ((c : Thread nD τ).loc main_arg0) := W4_args m ρ c main_arg0 (by decide)

/-- The largest magnitude that the first region finds. -/
theorem top0_eq (c : Dev nD) (b : EReal) (hb : Cert.Amax.IsMax (fun i : S2048x3200.Idx => Cert.Amax.mag (m ((c : Thread nD τ).loc main_arg1) i)) b) :
    top0 (V0 m ρ) c = b :=
  Cert.Amax.IsMax.unique (top0_isMax (V0 m ρ) c) hb

/-- The gradient with its first two axes joined, as the third region finds it. -/
theorem V3_v2 (c : Dev nD) : V3 m ρ c main_v2
    = shapeCast S16384x3200 (m ((c : Thread nD τ).loc main_arg0) : S8x2048x3200.Idx → EReal) shapeCasts_S8x2048x3200_S16384x3200 := by
  show StableHlo.after hostOps2 (W2 m ρ c) (Proc.devRef .tc main_v2) = _
  after_reads_simp
  rw [W2_args m ρ c main_arg0 (by decide)]
  rfl

/-- The largest magnitude that the third region finds. -/
theorem top2_eq (c : Dev nD) (a : EReal) (ha : Cert.Amax.IsMax (fun i : S8x2048x3200.Idx => Cert.Amax.mag (m ((c : Thread nD τ).loc main_arg0) i)) a) :
    top2 (V3 m ρ) c = a := by
  refine Cert.Amax.IsMax.unique (top2_isMax (V3 m ρ) c) ?_
  intro B
  refine (ha B).trans ?_
  rw [V3_v2]
  exact (Cert.Amax.shapeCast_all (m ((c : Thread nD τ).loc main_arg0) : S8x2048x3200.Idx → EReal) shapeCasts_S8x2048x3200_S16384x3200
    (fun e => Cert.Amax.mag e ≤ B)).symm

variable {m ρ}
variable {c : Dev nD} {a b : EReal}
  (ha : Cert.Amax.IsMax (fun i : S8x2048x3200.Idx => Cert.Amax.mag (m ((c : Thread nD τ).loc main_arg0) i)) a)
  (hb : Cert.Amax.IsMax (fun i : S2048x3200.Idx => Cert.Amax.mag (m ((c : Thread nD τ).loc main_arg1) i)) b)

include hb in
/-- The weight's scale after the first region. -/
theorem W1_scale : W1 m ρ c main_v0_0 = (fun _ => scaleOf b 0x3B124925#32 : Buf (Elt Ideal) ((c : Thread nD τ).loc main_v0_0)) := by
  refine (W1_arr m ρ c 1).trans ((final0_1 (V0 m ρ) c).trans ?_)
  unfold scale0
  rw [top0_eq m ρ c b hb]
  rfl

include hb in
/-- The weight's inverse scale after the first region. -/
theorem W1_inv : W1 m ρ c main_v0_1 = (fun _ => invOf b 0x3B124925#32 : Buf (Elt Ideal) ((c : Thread nD τ).loc main_v0_1)) := by
  refine (W1_arr m ρ c 2).trans ((final0_2 (V0 m ρ) c).trans ?_)
  unfold inv0
  rw [top0_eq m ρ c b hb]
  rfl

include hb in
/-- The weight's codes after the second region. -/
theorem W2_codes : W2 m ρ c main_v1
    = (fun i => codeW (m ((c : Thread nD τ).loc main_arg1) i) (invOf b 0x3B124925#32) : Buf (Elt Ideal) ((c : Thread nD τ).loc main_v1)) := by
  refine (W2_arr m ρ c 2).trans ((final1_2 (V1 m ρ) c _ (W1_inv hb)).trans ?_)
  rw [V1_arg1]

include hb in
/-- The weight's codes when the last region starts. -/
theorem W4_codes : W4 m ρ c main_v1
    = (fun i => codeW (m ((c : Thread nD τ).loc main_arg1) i) (invOf b 0x3B124925#32) : Buf (Elt Ideal) ((c : Thread nD τ).loc main_v1)) :=
  (W4_of m ρ c main_v1 (by decide +kernel)).trans ((W3_of m ρ c main_v1 (by decide +kernel)).trans (W2_codes hb))

include hb in
/-- The weight's scale when the last region starts. -/
theorem W4_wscale : W4 m ρ c main_v0_0 = (fun _ => scaleOf b 0x3B124925#32 : Buf (Elt Ideal) ((c : Thread nD τ).loc main_v0_0)) :=
  (W4_of m ρ c main_v0_0 (by decide +kernel)).trans ((W3_of m ρ c main_v0_0 (by decide +kernel)).trans
    ((W2_of m ρ c main_v0_0 (by decide +kernel)).trans (W1_scale hb)))

include ha in
/-- The gradient's scale after the third region. -/
theorem W4_scale : W4 m ρ c main_v3_0 = (fun _ => scaleOf a 0x37924925#32 : Buf (Elt Ideal) ((c : Thread nD τ).loc main_v3_0)) := by
  refine (W4_arr m ρ c 1).trans ((final2_1 (V3 m ρ) c).trans ?_)
  unfold scale2
  rw [top2_eq m ρ c a ha]
  rfl

include ha in
/-- The gradient's inverse scale after the third region. -/
theorem W4_inv : W4 m ρ c main_v3_1 = (fun _ => invOf a 0x37924925#32 : Buf (Elt Ideal) ((c : Thread nD τ).loc main_v3_1)) := by
  refine (W4_arr m ρ c 2).trans ((final2_2 (V3 m ρ) c).trans ?_)
  unfold inv2
  rw [top2_eq m ρ c a ha]
  rfl

include ha hb in
/-- Result 1: the gradient at the layer's input. -/
theorem W6_dx : W6 m ρ c main_v4_0
    = (dx (fun i => codeDy (m ((c : Thread nD τ).loc main_arg0) i) (invOf a 0x37924925#32))
        (fun i => codeW (m ((c : Thread nD τ).loc main_arg1) i) (invOf b 0x3B124925#32))
        (scaleOf a 0x37924925#32 * scaleOf b 0x3B124925#32) : Buf (Elt Ideal) ((c : Thread nD τ).loc main_v4_0)) := by
  refine (W6_of m ρ c main_v4_0 (by decide +kernel)).trans ((W5_arr m ρ c 5).trans
    ((final3_5 (V4 m ρ) c _ _ _ (W4_inv ha) (W4_scale ha) (W4_wscale hb)).trans ?_))
  have e : V4 m ρ c main_v1 = _ := W4_codes (ρ := ρ) hb
  rw [e, V4_arg0]
  rfl

include ha in
/-- Result 2: the gradient's codes. -/
theorem W6_dyCodes : W6 m ρ c main_v4_1
    = (fun i => codeDy (m ((c : Thread nD τ).loc main_arg0) i) (invOf a 0x37924925#32) : Buf (Elt Ideal) ((c : Thread nD τ).loc main_v4_1)) := by
  refine (W6_of m ρ c main_v4_1 (by decide +kernel)).trans ((W5_arr m ρ c 6).trans
    ((final3_6 (V4 m ρ) c _ (W4_inv ha)).trans ?_))
  rw [V4_arg0]

include ha in
/-- Result 3: the gradient's scale. -/
theorem W6_dyScale : W6 m ρ c main_v5 = (fun _ => scaleOf a 0x37924925#32 : Buf (Elt Ideal) ((c : Thread nD τ).loc main_v5)) := by
  show StableHlo.after hostOps4 (W5 m ρ c) (Proc.devRef .tc main_v5) = _
  after_reads_simp
  rw [W5_of m ρ c main_v3_0 (by decide +kernel), W4_scale ha]
  rfl

include hb in
/-- Result 4: the weight's codes. -/
theorem W6_wCodes : W6 m ρ c main_v1
    = (fun i => codeW (m ((c : Thread nD τ).loc main_arg1) i) (invOf b 0x3B124925#32) : Buf (Elt Ideal) ((c : Thread nD τ).loc main_v1)) :=
  (W6_of m ρ c main_v1 (by decide +kernel)).trans ((W5_of m ρ c main_v1 (by decide +kernel)).trans (W4_codes hb))

include hb in
/-- Result 5: the weight's scale. -/
theorem W6_wScale : W6 m ρ c main_v6 = (fun _ => scaleOf b 0x3B124925#32 : Buf (Elt Ideal) ((c : Thread nD τ).loc main_v6)) := by
  show StableHlo.after hostOps4 (W5 m ρ c) (Proc.devRef .tc main_v6) = _
  after_reads_simp
  rw [W5_of m ρ c main_v0_0 (by decide +kernel), W4_wscale hb]
  rfl

end Cert.KernelIdeal.Hand

end
-- ==== Proof.RefScale.lean ====
module

public import proofs.«01_k».proof.Proof.Scale
public import proofs.«01_k».proof.Proof.Amax
public import proofs.«01_k».proof.Proof.Spec
public import proofs.«01_k».proof.Proof.Gen.ReferenceIdeal.Frame
public import Idealize.ShloMosaic.Lib.StableHlo.ReadAt

@[expose] public section

set_option maxRecDepth 16384

noncomputable section

/-! The reference's scales: what the operations before its region leave in the four scalar buffers. -/

namespace Cert.ReferenceIdeal.Hand
open Cert.ReferenceIdeal Cert.ReferenceIdeal.Gen
open Cert.Scale Cert.Amax Cert.Spec
open Idealize.ShloMosaic Idealize.ShloMosaic.TcCoe Idealize.ShloMosaic.Tactic

/-- The exponent as the reference's operations compute it from the largest magnitude `a` and the word `r` of one over the
format's largest value. -/
def opExpo (a : FVec Ideal S_ .f32) (r : BitVec 32) : FVec Ideal S_ .f32 :=
  select (cmpf .oeq a (constant S_ .f32 0x00000000#32)) (constant S_ .f32 0x00000000#32)
    (select (ori (cmpf .olt (mulf a (constant S_ .f32 r)) (constant S_ .f32 0x00800000#32)) (cmpf .oge (mulf a (constant S_ .f32 r)) (constant S_ .f32 0x7F800000#32)))
      (constant S_ .f32 0x00000000#32)
      (addf (Host.floor (Host.divf (Host.log (mulf a (constant S_ .f32 r))) (Host.log (constant S_ .f32 0x40000000#32)))) (constant S_ .f32 0x3F800000#32)))

/-- The power of two as the reference's operations compute it. -/
def opPow (n : FVec Ideal S_ .f32) : FVec Ideal S_ .f32 :=
  select (cmpf .olt n (constant S_ .f32 0xC2FC0000#32)) (constant S_ .f32 0x00000000#32)
    (select (cmpf .ogt n (constant S_ .f32 0x42FE0000#32)) (constant S_ .f32 0x7F800000#32) (Host.powf (constant S_ .f32 0x40000000#32) n))

/-- The word of two. -/
theorem two : Ideal.ofBits .f32 0x40000000#32 = ((2 : ℝ) : EReal) := by
  simp [Ideal.ofBits, Ideal.ieee]
  norm_num
  rw [← EReal.coe_mul]
  norm_num
/-- The word of one. -/
theorem one : Ideal.ofBits .f32 0x3F800000#32 = 1 := by
  simp [Ideal.ofBits, Ideal.ieee]
  rw [← EReal.coe_mul]
  norm_num
/-- The word of the least normal exponent. -/
theorem low : Ideal.ofBits .f32 0xC2FC0000#32 = ((-126 : ℝ) : EReal) := by
  simp [Ideal.ofBits, Ideal.ieee]
  norm_num
  rw [← EReal.coe_mul]
  norm_num
/-- The word of the greatest exponent. -/
theorem high : Ideal.ofBits .f32 0x42FE0000#32 = ((127 : ℝ) : EReal) := by
  simp [Ideal.ofBits, Ideal.ieee]
  norm_num
  rw [← EReal.coe_mul]
  norm_num

/-- A select on one bit made from a decision. -/
theorem select_ofBool {α : Type} (p : Bool) (x y : α) : Scalar.select (BitVec.ofBool p) x y = if p then x else y := by
  cases p <;> rfl

/-- Two bits joined. -/
theorem or_ofBool (p q : Bool) : (BitVec.ofBool p ||| BitVec.ofBool q : BitVec 1) = BitVec.ofBool (p || q) := by
  cases p <;> cases q <;> rfl

/-- The operations' power is the reference's `2^n`. -/
theorem opPow_eq (n : FVec Ideal S_ .f32) (i : S_.Idx) : opPow n i = refPow (n i) := by
  have e : opPow n i = Scalar.select (Ideal.cmp .olt (n i) (Ideal.ofBits .f32 0xC2FC0000#32)) (Ideal.ofBits .f32 0x00000000#32)
    (Scalar.select (Ideal.cmp .ogt (n i) (Ideal.ofBits .f32 0x42FE0000#32)) (Ideal.ofBits .f32 0x7F800000#32)
      (Ideal.pow (Ideal.ofBits .f32 0x40000000#32) (n i))) := rfl
  rw [e, two, low, high, ofBits_zero, ofBits_inf]
  unfold Ideal.cmp refPow
  simp only [select_ofBool, decide_eq_true_eq, gt_iff_lt]

/-- The operations' exponent is the reference's exponent. -/
theorem opExpo_eq (a : FVec Ideal S_ .f32) (r : BitVec 32) (i : S_.Idx) :
    opExpo a r i = refExpo (a i * Ideal.ofBits .f32 r) (a i) := by
  have e : opExpo a r i = Scalar.select (Ideal.cmp .oeq (a i) (Ideal.ofBits .f32 0x00000000#32)) (Ideal.ofBits .f32 0x00000000#32)
    (Scalar.select (Ideal.cmp .olt (a i * Ideal.ofBits .f32 r : EReal) (Ideal.ofBits .f32 0x00800000#32)
        ||| Ideal.cmp .oge (a i * Ideal.ofBits .f32 r : EReal) (Ideal.ofBits .f32 0x7F800000#32)) (Ideal.ofBits .f32 0x00000000#32)
      (Ideal.liftRound Int.floor (Ideal.div (Ideal.log (a i * Ideal.ofBits .f32 r : EReal)) (Ideal.log (Ideal.ofBits .f32 0x40000000#32)))
        + Ideal.ofBits .f32 0x3F800000#32)) := rfl
  rw [e, two, one, ofBits_zero, ofBits_inf, ofBits_min]
  unfold Ideal.cmp refExpo
  simp only [or_ofBool, select_ofBool, decide_eq_true_eq, ge_iff_le, Bool.or_eq_true]

variable (m : (r : Loc nD τ sig) → Buf (Elt Ideal) r)

/-- The largest magnitude of the gradient, as the reference reduces it. -/
def amaxDy (c : Dev nD) : FVec Ideal S_ .f32 :=
  Host.reduce FloatOps.maximumf (Host.absf (extf .f32 (m (c, Proc.tc.devRef main_arg0)) bitsLt_bf16_f32))
    (constant S_ .f32 0xFF800000#32) reducesTo_S8x2048x3200_S_d0_1_2 h_S_

/-- The largest magnitude of the weight, as the reference reduces it. -/
def amaxW (c : Dev nD) : FVec Ideal S_ .f32 :=
  Host.reduce FloatOps.maximumf (Host.absf (m (c, Proc.tc.devRef main_arg1)))
    (constant S_ .f32 0xFF800000#32) reducesTo_S2048x3200_S_d0_1 h_S_

/-- The operations that leave the gradient's scale. -/
theorem V_v19 (c : Dev nD) : V m c main_v19 = opPow (opExpo (amaxDy m c) 0x37924925#32) := by
  unfold V amaxDy
  after_reads_simp
  generalize Host.reduce _ _ _ _ _ = a
  simp -implicitDefEqProofs only [StableHlo.TRef.toBuf, StableHlo.TRef.ofBuf, cast_cast, cast_eq, id]
  rfl

/-- The operations that leave the weight's scale. -/
theorem V_v44 (c : Dev nD) : V m c main_v44 = opPow (opExpo (amaxW m c) 0x3B124925#32) := by
  unfold V amaxW
  after_reads_simp
  generalize Host.reduce _ _ _ _ _ = a
  simp -implicitDefEqProofs only [StableHlo.TRef.toBuf, StableHlo.TRef.ofBuf, cast_cast, cast_eq, id]
  rfl

/-- The one index of a scalar. -/
abbrev i0 : S_.Idx := fun a => a.elim0

/-- The largest magnitude of the gradient. -/
def topDy (c : Dev nD) : EReal := amaxDy m c i0
/-- The largest magnitude of the weight. -/
def topW (c : Dev nD) : EReal := amaxW m c i0

/-- A scalar has one index. -/
theorem S_idx (i : S_.Idx) : i = i0 := funext fun a => a.elim0

/-- It is the greatest of the gradient's magnitudes. -/
theorem topDy_isMax (c : Dev nD) : IsMax (fun i : S8x2048x3200.Idx => mag (m ((c : Thread nD τ).loc main_arg0) i)) (topDy m c) := by
  intro B
  have h := hostReduce_le (φ := .f32) (Host.absf (extf .f32 (m (c, Proc.tc.devRef main_arg0) : FVec Ideal S8x2048x3200 .bf16) bitsLt_bf16_f32))
    (constant (F := Ideal) S_ .f32 0xFF800000#32) reducesTo_S8x2048x3200_S_d0_1_2 h_S_ (fun _ => ninf32) B
  refine Iff.trans ⟨fun H j => ?_, fun H => H i0⟩ h
  rw [S_idx j]; exact H

/-- It is the greatest of the weight's magnitudes. -/
theorem topW_isMax (c : Dev nD) : IsMax (fun i : S2048x3200.Idx => mag (m ((c : Thread nD τ).loc main_arg1) i)) (topW m c) := by
  intro B
  have h := hostReduce_le (φ := .f32) (Host.absf (m (c, Proc.tc.devRef main_arg1) : FVec Ideal S2048x3200 .f32))
    (constant (F := Ideal) S_ .f32 0xFF800000#32) reducesTo_S2048x3200_S_d0_1 h_S_ (fun _ => ninf32) B
  refine Iff.trans ⟨fun H j => ?_, fun H => H i0⟩ h
  rw [S_idx j]; exact H

/-- The operations' scale. -/
theorem opScale_eq (a : FVec Ideal S_ .f32) (r : BitVec 32) : opPow (opExpo a r) = fun _ => scaleOf (a i0) r := by
  funext i
  rw [opPow_eq, opExpo_eq, S_idx i]; rfl

/-- The operations' inverse scale. -/
theorem opInv_eq (a : FVec Ideal S_ .f32) (r : BitVec 32) : opPow (Host.negf (opExpo a r)) = fun _ => invOf (a i0) r := by
  funext i
  rw [opPow_eq, S_idx i]
  show refPow (-(opExpo a r i0)) = _
  rw [opExpo_eq]; rfl

/-- The gradient's scale. -/
theorem V_v19_eq (c : Dev nD) : V m c main_v19 = (fun _ => scaleOf (topDy m c) 0x37924925#32 : Buf (Elt Ideal) ((c : Thread nD τ).loc main_v19)) :=
  (V_v19 m c).trans (opScale_eq _ _)

/-- The gradient's scale, as the region takes it. -/
theorem V_v51 (c : Dev nD) : V m c main_v51 = (fun _ => scaleOf (topDy m c) 0x37924925#32 : Buf (Elt Ideal) ((c : Thread nD τ).loc main_v51)) := by
  have h : V m c main_v51 = shapeCast S1x1x1 (opPow (opExpo (amaxDy m c) 0x37924925#32)) shapeCasts_S_S1x1x1 := by
    unfold V amaxDy
    after_reads_simp
    generalize Host.reduce _ _ _ _ _ = a
    simp -implicitDefEqProofs only [StableHlo.TRef.toBuf, StableHlo.TRef.ofBuf, cast_cast, cast_eq, id]
    rfl
  rw [h, opScale_eq]
  rfl

/-- The gradient's inverse scale, as the region takes it. -/
theorem V_v52 (c : Dev nD) : V m c main_v52 = (fun _ => invOf (topDy m c) 0x37924925#32 : Buf (Elt Ideal) ((c : Thread nD τ).loc main_v52)) := by
  have h : V m c main_v52 = shapeCast S1x1x1 (opPow (Host.negf (opExpo (amaxDy m c) 0x37924925#32))) shapeCasts_S_S1x1x1 := by
    unfold V amaxDy
    after_reads_simp
    generalize Host.reduce _ _ _ _ _ = a
    simp -implicitDefEqProofs only [StableHlo.TRef.toBuf, StableHlo.TRef.ofBuf, cast_cast, cast_eq, id]
    rfl
  rw [h, opInv_eq]
  rfl

/-- The weight's scale. -/
theorem V_v44_eq (c : Dev nD) : V m c main_v44 = (fun _ => scaleOf (topW m c) 0x3B124925#32 : Buf (Elt Ideal) ((c : Thread nD τ).loc main_v44)) :=
  (V_v44 m c).trans (opScale_eq _ _)

/-- The weight's scale, as the region takes it. -/
theorem V_v53 (c : Dev nD) : V m c main_v53 = (fun _ => scaleOf (topW m c) 0x3B124925#32 : Buf (Elt Ideal) ((c : Thread nD τ).loc main_v53)) := by
  have h : V m c main_v53 = shapeCast S1x1 (opPow (opExpo (amaxW m c) 0x3B124925#32)) shapeCasts_S_S1x1 := by
    unfold V amaxW
    after_reads_simp
    generalize Host.reduce _ _ _ _ _ = a
    simp -implicitDefEqProofs only [StableHlo.TRef.toBuf, StableHlo.TRef.ofBuf, cast_cast, cast_eq, id]
    rfl
  rw [h, opScale_eq]
  rfl

/-- The weight's inverse scale, as the region takes it. -/
theorem V_v54 (c : Dev nD) : V m c main_v54 = (fun _ => invOf (topW m c) 0x3B124925#32 : Buf (Elt Ideal) ((c : Thread nD τ).loc main_v54)) := by
  have h : V m c main_v54 = shapeCast S1x1 (opPow (Host.negf (opExpo (amaxW m c) 0x3B124925#32))) shapeCasts_S_S1x1 := by
    unfold V amaxW
    after_reads_simp
    generalize Host.reduce _ _ _ _ _ = a
    simp -implicitDefEqProofs only [StableHlo.TRef.toBuf, StableHlo.TRef.ofBuf, cast_cast, cast_eq, id]
    rfl
  rw [h, opInv_eq]
  rfl

end Cert.ReferenceIdeal.Hand
end
-- ==== Proof.RefValue.lean ====
module

public import proofs.«01_k».proof.Proof.RefScale
public import Idealize.ShloMosaic.Lib.Pipeline.Value
public import Idealize.ShloMosaic.Lib.Pointwise.Contract

@[expose] public section

set_option maxRecDepth 16384

noncomputable section

/-! What the reference's run leaves in its five results. -/

namespace Cert.ReferenceIdeal.Hand

open Cert.ReferenceIdeal Cert.ReferenceIdeal.Gen
open Cert.Spec
open Idealize.ShloMosaic Idealize.ShloMosaic.TcCoe Idealize.ShloMosaic.Tactic
open Idealize.ShloMosaic.Pipeline (Dat)

/-- Both offsets of a whole two-axis access are zero. -/
theorem hz2 : (![0, 0] : Fin 2 → ℕ) = fun _ => 0 := by funext a; fin_cases a <;> rfl
/-- The three offsets of a whole three-axis access are zero. -/
theorem hz3 : (![0, 0, 0] : Fin 3 → ℕ) = fun _ => 0 := by funext a; fin_cases a <;> rfl

/-- The gradient's codes, elementwise. -/
theorem k0_pay1_eq (x : Vec Ideal S8x2048x3200 .bf16) (z : EReal) :
    k0_pay1 (F := Ideal) x (fun _ => z) = fun j => codeDy (x j) z := rfl

/-- The weight's codes, elementwise. -/
theorem k0_pay2_eq (x : Vec Ideal S2048x3200 .f32) (z : EReal) :
    k0_pay2 (F := Ideal) x (fun _ => z) = fun j => codeW (x j) z := rfl

/-- The product over the outputs, at an entry. -/
theorem product_apply (a : FVec Ideal S8x2048x3200 .fp8e5m2) (b : FVec Ideal S2048x3200 .fp8e4m3) (i : S8x2048x2048.Idx) :
    (matmul (F := Ideal) dot_S8x2048x3200_S2048x3200_S8x2048x2048_2_1_01_0_n_n none a b (constant S8x2048x2048 .f32 0x00000000#32) : FVec Ideal S8x2048x2048 .f32) i
      = (Ideal.ofBits .f32 0x00000000#32 + ∑ k : Fin 3200, (a (ValueIdx.ix3 (i 0) (i 1) k) : EReal) * b (ValueIdx.ix2 (i 2) k) : EReal) :=
  Ideal.matmul_apply₁_of (d := dot_S8x2048x3200_S2048x3200_S8x2048x2048_2_1_01_0_n_n) rfl rfl a b (constant (F := Ideal) S8x2048x2048 .f32 0x00000000#32) i
    (fun k => ValueIdx.ix3 (i 0) (i 1) k) (fun k => ValueIdx.ix2 (i 2) k)
    (fun k => by funext a; apply Fin.ext; match a with | ⟨0, _⟩ => rfl | ⟨1, _⟩ => rfl | ⟨2, _⟩ => rfl)
    (fun k => by funext a; apply Fin.ext; match a with | ⟨0, _⟩ => rfl | ⟨1, _⟩ => rfl)

/-- A scaled product. -/
theorem scaled_apply (p : FVec Ideal S8x2048x2048 .f32) (zs ws : EReal) (i : S8x2048x2048.Idx) :
    (truncf .bf16 (mulf p (broadcastTo S8x2048x2048 (mulf (fun _ => zs : FVec Ideal S1x1x1 .f32) (fun _ => ws)) broadcasts_S1x1x1_S8x2048x2048)) bitsLt_bf16_f32 : FVec Ideal S8x2048x2048 .bf16) i
      = (p i * (zs * ws) : EReal) := rfl

/-- The result, from the codes and the scales. -/
theorem k0_pay3_eq (x : Vec Ideal S8x2048x3200 .bf16) (w : Vec Ideal S2048x3200 .f32) (z wz zs ws : EReal) :
    k0_pay3 (F := Ideal) x (fun _ => z) w (fun _ => wz) (fun _ => zs) (fun _ => ws)
      = dx (fun j => codeDy (x j) z) (fun j => codeW (w j) wz) (zs * ws) := by
  funext i
  unfold k0_pay3
  rw [k0_pay1_eq, k0_pay2_eq]
  refine (scaled_apply _ zs ws i).trans ?_
  exact congrArg (fun e : EReal => e * (zs * ws)) (product_apply _ _ i)

variable (m : (r : Loc nD τ sig) → Buf (Elt Ideal) r)

/-- The one grid point stages each array whole. -/
theorem index0 : ∀ t : Fin cfg0.N,
    (win0_0.index t (0 : Fin 3) = 0 ∧ win0_0.index t (1 : Fin 3) = 0 ∧ win0_0.index t (2 : Fin 3) = 0)
    ∧ (win0_1.index t (0 : Fin 2) = 0 ∧ win0_1.index t (1 : Fin 2) = 0)
    ∧ (win0_6.index t (0 : Fin 3) = 0 ∧ win0_6.index t (1 : Fin 3) = 0 ∧ win0_6.index t (2 : Fin 3) = 0)
    ∧ (win0_7.index t (0 : Fin 3) = 0 ∧ win0_7.index t (1 : Fin 3) = 0 ∧ win0_7.index t (2 : Fin 3) = 0)
    ∧ (win0_8.index t (0 : Fin 2) = 0 ∧ win0_8.index t (1 : Fin 2) = 0) :=
  (by decide +kernel : ∀ t : Fin grid0.N, _)

/-- The staged gradient. -/
theorem iblk_0 (c : Dev nD) (t : Fin cfg0.N) : iblk m c 0 t = (m ((c : Thread nD τ).loc main_arg0) : S8x2048x3200.Idx → Elt Ideal .bf16) := by
  obtain ⟨⟨e0, e1, e2⟩, -⟩ := index0 t
  rw [← V_main_arg0 m c]
  funext y
  show V m c main_arg0 (((cfg0.win 0).blk t).view.emb y) = V m c main_arg0 y
  refine congrArg (V m c main_arg0) ?_
  funext a; apply Fin.ext
  match a with
  | ⟨0, _⟩ => show win0_0.index t (0 : Fin 3) * 8 + 1 * (y 0).val = (y 0).val; rw [e0]; omega
  | ⟨1, _⟩ => show win0_0.index t (1 : Fin 3) * 2048 + 1 * (y 1).val = (y 1).val; rw [e1]; omega
  | ⟨2, _⟩ => show win0_0.index t (2 : Fin 3) * 3200 + 1 * (y 2).val = (y 2).val; rw [e2]; omega

/-- The staged weight. -/
theorem iblk_1 (c : Dev nD) (t : Fin cfg0.N) : iblk m c 1 t = (m ((c : Thread nD τ).loc main_arg1) : S2048x3200.Idx → Elt Ideal .f32) := by
  obtain ⟨-, ⟨e0, e1⟩, -⟩ := index0 t
  rw [← V_main_arg1 m c]
  funext y
  show V m c main_arg1 (((cfg0.win 1).blk t).view.emb y) = V m c main_arg1 y
  refine congrArg (V m c main_arg1) ?_
  funext a; apply Fin.ext
  match a with
  | ⟨0, _⟩ => show win0_1.index t (0 : Fin 2) * 2048 + 1 * (y 0).val = (y 0).val; rw [e0]; omega
  | ⟨1, _⟩ => show win0_1.index t (1 : Fin 2) * 3200 + 1 * (y 1).val = (y 1).val; rw [e1]; omega

/-- A constant staged by window 2. -/
theorem const_2 (c : Dev nD) (t : Fin cfg0.N) (X : Buf (Elt Ideal) ((c : Thread nD τ).loc main_v51)) (z : EReal)
    (h : X = (fun _ => z : Buf (Elt Ideal) ((c : Thread nD τ).loc main_v51))) :
    ((cfg0.win 2).blk t).view.read (Elt Ideal) X = fun _ : S1x1x1.Idx => z := by
  rw [h]; rfl
/-- The staged gradient's scale. -/
theorem iblk_2 (c : Dev nD) (t : Fin cfg0.N) : iblk m c 2 t = fun _ : S1x1x1.Idx => scaleOf (topDy m c) 0x37924925#32 := by
  unfold iblk
  exact const_2 c t _ _ (V_v51 m c)

/-- A constant staged by window 3. -/
theorem const_3 (c : Dev nD) (t : Fin cfg0.N) (X : Buf (Elt Ideal) ((c : Thread nD τ).loc main_v52)) (z : EReal)
    (h : X = (fun _ => z : Buf (Elt Ideal) ((c : Thread nD τ).loc main_v52))) :
    ((cfg0.win 3).blk t).view.read (Elt Ideal) X = fun _ : S1x1x1.Idx => z := by
  rw [h]; rfl
/-- The staged gradient's inverse scale. -/
theorem iblk_3 (c : Dev nD) (t : Fin cfg0.N) : iblk m c 3 t = fun _ : S1x1x1.Idx => invOf (topDy m c) 0x37924925#32 := by
  unfold iblk
  exact const_3 c t _ _ (V_v52 m c)

/-- A constant staged by window 4. -/
theorem const_4 (c : Dev nD) (t : Fin cfg0.N) (X : Buf (Elt Ideal) ((c : Thread nD τ).loc main_v53)) (z : EReal)
    (h : X = (fun _ => z : Buf (Elt Ideal) ((c : Thread nD τ).loc main_v53))) :
    ((cfg0.win 4).blk t).view.read (Elt Ideal) X = fun _ : S1x1.Idx => z := by
  rw [h]; rfl
/-- The staged weight's scale. -/
theorem iblk_4 (c : Dev nD) (t : Fin cfg0.N) : iblk m c 4 t = fun _ : S1x1.Idx => scaleOf (topW m c) 0x3B124925#32 := by
  unfold iblk
  exact const_4 c t _ _ (V_v53 m c)

/-- A constant staged by window 5. -/
theorem const_5 (c : Dev nD) (t : Fin cfg0.N) (X : Buf (Elt Ideal) ((c : Thread nD τ).loc main_v54)) (z : EReal)
    (h : X = (fun _ => z : Buf (Elt Ideal) ((c : Thread nD τ).loc main_v54))) :
    ((cfg0.win 5).blk t).view.read (Elt Ideal) X = fun _ : S1x1.Idx => z := by
  rw [h]; rfl
/-- The staged weight's inverse scale. -/
theorem iblk_5 (c : Dev nD) (t : Fin cfg0.N) : iblk m c 5 t = fun _ : S1x1.Idx => invOf (topW m c) 0x3B124925#32 := by
  unfold iblk
  exact const_5 c t _ _ (V_v54 m c)

/-- The gradient's codes in the result. -/
theorem out7_eq (x : Vec Ideal S8x2048x3200 .bf16) (w : Vec Ideal S2048x3200 .f32) (z wz zs ws : EReal) :
    out0_7 (F := Ideal) x w (fun _ => zs) (fun _ => z) (fun _ => ws) (fun _ => wz) = fun j => codeDy (x j) z := by
  unfold out0_7
  refine (View.canon_unit_zero hz3 _ _).trans ?_
  have e1 : View.ld (Val := Elt Ideal) (e' := .bf16) x r0_0 = x := View.ld_unit_zero hz3 _ _
  have e2 : ∀ v : EReal, View.ld (Val := Elt Ideal) (e' := .f32) (fun _ : S1x1x1.Idx => v) r0_1 = fun _ => v := fun v => View.ld_unit_zero hz3 _ _
  rw [e1, e2]
  exact k0_pay1_eq x z

/-- The weight's codes in the result. -/
theorem out8_eq (x : Vec Ideal S8x2048x3200 .bf16) (w : Vec Ideal S2048x3200 .f32) (z wz zs ws : EReal) :
    out0_8 (F := Ideal) x w (fun _ => zs) (fun _ => z) (fun _ => ws) (fun _ => wz) = fun j => codeW (w j) wz := by
  unfold out0_8
  refine (View.canon_unit_zero hz2 _ _).trans ?_
  have e1 : View.ld (Val := Elt Ideal) (e' := .f32) w r0_2 = w := View.ld_unit_zero hz2 _ _
  have e2 : ∀ v : EReal, View.ld (Val := Elt Ideal) (e' := .f32) (fun _ : S1x1.Idx => v) r0_3 = fun _ => v := fun v => View.ld_unit_zero hz2 _ _
  rw [e1, e2]
  exact k0_pay2_eq w wz

/-- The gradient at the layer's input in the result. -/
theorem out6_eq (x : Vec Ideal S8x2048x3200 .bf16) (w : Vec Ideal S2048x3200 .f32) (z wz zs ws : EReal) :
    out0_6 (F := Ideal) x w (fun _ => zs) (fun _ => z) (fun _ => ws) (fun _ => wz)
      = dx (fun j => codeDy (x j) z) (fun j => codeW (w j) wz) (zs * ws) := by
  unfold out0_6
  refine (View.canon_unit_zero hz3 _ _).trans ?_
  have e1 : View.ld (Val := Elt Ideal) (e' := .bf16) x r0_0 = x := View.ld_unit_zero hz3 _ _
  have e2 : ∀ v : EReal, View.ld (Val := Elt Ideal) (e' := .f32) (fun _ : S1x1x1.Idx => v) r0_1 = fun _ => v := fun v => View.ld_unit_zero hz3 _ _
  have e3 : View.ld (Val := Elt Ideal) (e' := .f32) w r0_2 = w := View.ld_unit_zero hz2 _ _
  have e4 : ∀ v : EReal, View.ld (Val := Elt Ideal) (e' := .f32) (fun _ : S1x1.Idx => v) r0_3 = fun _ => v := fun v => View.ld_unit_zero hz2 _ _
  rw [e1, e2, e2, e3, e4, e4]
  exact k0_pay3_eq x w z wz zs ws

/-- The gradient's codes after the run. -/
theorem final7 (c : Dev nD) : (dats m 0 c).arrAt 7 cfg0.N
    = (fun i => codeDy (m ((c : Thread nD τ).loc main_arg0) i) (invOf (topDy m c) 0x37924925#32) : Buf (Elt Ideal) ((c : Thread nD τ).loc main_v55_1)) := by
  refine (dats m 0 c).arrAt_eq_of_cover 7 _ (fun t hf => ?_) (fun i => ?_)
  · show (cfg0.win 7).cut (grid0.coords t) ((dats m 0 c).after 7 t) = _
    rw [after0_7, iblk_0, iblk_1, iblk_2, iblk_3, iblk_4, iblk_5, out7_eq]
    generalize invOf (topDy m c) 0x37924925#32 = z
    obtain ⟨-, -, -, ⟨e0, e1, e2⟩, -⟩ := index0 t
    funext y
    show codeDy (m ((c : Thread nD τ).loc main_arg0) y) z = codeDy (m ((c : Thread nD τ).loc main_arg0) (((cfg0.win 7).blk t).view.emb y)) z
    refine congrArg (fun j => codeDy (m ((c : Thread nD τ).loc main_arg0) j) z) ?_
    funext a; apply Fin.ext
    match a with
    | ⟨0, _⟩ => show (y 0).val = win0_7.index t (0 : Fin 3) * 8 + 1 * (y 0).val; rw [e0]; omega
    | ⟨1, _⟩ => show (y 1).val = win0_7.index t (1 : Fin 3) * 2048 + 1 * (y 1).val; rw [e1]; omega
    | ⟨2, _⟩ => show (y 2).val = win0_7.index t (2 : Fin 3) * 3200 + 1 * (y 2).val; rw [e2]; omega
  · have h0 : (i 0).val < 8 := (i 0).isLt
    have h1 : (i 1).val < 2048 := (i 1).isLt
    have h2 : (i 2).val < 3200 := (i 2).isLt
    refine ⟨t0_0, flush0_7 t0_0, ?_⟩
    show i ∈ ((View.whole main_v55_1).slice (win0_7.rect t0_0)).set
    rw [View.set_slice_whole, Rect.mem_set_unit]
    obtain ⟨-, -, -, ⟨e0, e1, e2⟩, -⟩ := index0 t0_0
    intro a
    match a with
    | ⟨0, _⟩ => show win0_7.index t0_0 (0 : Fin 3) * 8 ≤ (i 0).val ∧ (i 0).val < win0_7.index t0_0 (0 : Fin 3) * 8 + 8; omega
    | ⟨1, _⟩ => show win0_7.index t0_0 (1 : Fin 3) * 2048 ≤ (i 1).val ∧ (i 1).val < win0_7.index t0_0 (1 : Fin 3) * 2048 + 2048; omega
    | ⟨2, _⟩ => show win0_7.index t0_0 (2 : Fin 3) * 3200 ≤ (i 2).val ∧ (i 2).val < win0_7.index t0_0 (2 : Fin 3) * 3200 + 3200; omega

/-- The weight's codes after the run. -/
theorem final8 (c : Dev nD) : (dats m 0 c).arrAt 8 cfg0.N
    = (fun i => codeW (m ((c : Thread nD τ).loc main_arg1) i) (invOf (topW m c) 0x3B124925#32) : Buf (Elt Ideal) ((c : Thread nD τ).loc main_v55_2)) := by
  refine (dats m 0 c).arrAt_eq_of_cover 8 _ (fun t hf => ?_) (fun i => ?_)
  · show (cfg0.win 8).cut (grid0.coords t) ((dats m 0 c).after 8 t) = _
    rw [after0_8, iblk_0, iblk_1, iblk_2, iblk_3, iblk_4, iblk_5, out8_eq]
    generalize invOf (topW m c) 0x3B124925#32 = z
    obtain ⟨-, -, -, -, e0, e1⟩ := index0 t
    funext y
    show codeW (m ((c : Thread nD τ).loc main_arg1) y) z = codeW (m ((c : Thread nD τ).loc main_arg1) (((cfg0.win 8).blk t).view.emb y)) z
    refine congrArg (fun j => codeW (m ((c : Thread nD τ).loc main_arg1) j) z) ?_
    funext a; apply Fin.ext
    match a with
    | ⟨0, _⟩ => show (y 0).val = win0_8.index t (0 : Fin 2) * 2048 + 1 * (y 0).val; rw [e0]; omega
    | ⟨1, _⟩ => show (y 1).val = win0_8.index t (1 : Fin 2) * 3200 + 1 * (y 1).val; rw [e1]; omega
  · have h0 : (i 0).val < 2048 := (i 0).isLt
    have h1 : (i 1).val < 3200 := (i 1).isLt
    refine ⟨t0_0, flush0_8 t0_0, ?_⟩
    show i ∈ ((View.whole main_v55_2).slice (win0_8.rect t0_0)).set
    rw [View.set_slice_whole, Rect.mem_set_unit]
    obtain ⟨-, -, -, -, e0, e1⟩ := index0 t0_0
    intro a
    match a with
    | ⟨0, _⟩ => show win0_8.index t0_0 (0 : Fin 2) * 2048 ≤ (i 0).val ∧ (i 0).val < win0_8.index t0_0 (0 : Fin 2) * 2048 + 2048; omega
    | ⟨1, _⟩ => show win0_8.index t0_0 (1 : Fin 2) * 3200 ≤ (i 1).val ∧ (i 1).val < win0_8.index t0_0 (1 : Fin 2) * 3200 + 3200; omega

/-- The gradient at the layer's input after the run. -/
theorem final6 (c : Dev nD) : (dats m 0 c).arrAt 6 cfg0.N
    = (dx (fun i => codeDy (m ((c : Thread nD τ).loc main_arg0) i) (invOf (topDy m c) 0x37924925#32))
        (fun i => codeW (m ((c : Thread nD τ).loc main_arg1) i) (invOf (topW m c) 0x3B124925#32))
        (scaleOf (topDy m c) 0x37924925#32 * scaleOf (topW m c) 0x3B124925#32) : Buf (Elt Ideal) ((c : Thread nD τ).loc main_v55_0)) := by
  refine (dats m 0 c).arrAt_eq_of_cover 6 _ (fun t hf => ?_) (fun i => ?_)
  · show (cfg0.win 6).cut (grid0.coords t) ((dats m 0 c).after 6 t) = _
    rw [after0_6, iblk_0, iblk_1, iblk_2, iblk_3, iblk_4, iblk_5, out6_eq]
    generalize dx _ _ _ = f
    obtain ⟨-, -, ⟨e0, e1, e2⟩, -⟩ := index0 t
    funext y
    show f y = f (((cfg0.win 6).blk t).view.emb y)
    refine congrArg f ?_
    funext a; apply Fin.ext
    match a with
    | ⟨0, _⟩ => show (y 0).val = win0_6.index t (0 : Fin 3) * 8 + 1 * (y 0).val; rw [e0]; omega
    | ⟨1, _⟩ => show (y 1).val = win0_6.index t (1 : Fin 3) * 2048 + 1 * (y 1).val; rw [e1]; omega
    | ⟨2, _⟩ => show (y 2).val = win0_6.index t (2 : Fin 3) * 2048 + 1 * (y 2).val; rw [e2]; omega
  · have h0 : (i 0).val < 8 := (i 0).isLt
    have h1 : (i 1).val < 2048 := (i 1).isLt
    have h2 : (i 2).val < 2048 := (i 2).isLt
    refine ⟨t0_0, flush0_6 t0_0, ?_⟩
    show i ∈ ((View.whole main_v55_0).slice (win0_6.rect t0_0)).set
    rw [View.set_slice_whole, Rect.mem_set_unit]
    obtain ⟨-, -, ⟨e0, e1, e2⟩, -⟩ := index0 t0_0
    intro a
    match a with
    | ⟨0, _⟩ => show win0_6.index t0_0 (0 : Fin 3) * 8 ≤ (i 0).val ∧ (i 0).val < win0_6.index t0_0 (0 : Fin 3) * 8 + 8; omega
    | ⟨1, _⟩ => show win0_6.index t0_0 (1 : Fin 3) * 2048 ≤ (i 1).val ∧ (i 1).val < win0_6.index t0_0 (1 : Fin 3) * 2048 + 2048; omega
    | ⟨2, _⟩ => show win0_6.index t0_0 (2 : Fin 3) * 2048 ≤ (i 2).val ∧ (i 2).val < win0_6.index t0_0 (2 : Fin 3) * 2048 + 2048; omega

/-- The reference's run: its five results, from the arguments; the arguments as launched. -/
theorem run_values (ρ : Dev nD → PrngReg) :
    θ_run defs (onTc (τ := τ) (main (F := Ideal))) ⟨m, fun _ => 0, ρ⟩ fun r => ∀ c : Dev nD,
      r.2.mem ((c : Thread nD τ).loc main_v55_0)
          = (dx (fun i => codeDy (m ((c : Thread nD τ).loc main_arg0) i) (invOf (topDy m c) 0x37924925#32))
              (fun i => codeW (m ((c : Thread nD τ).loc main_arg1) i) (invOf (topW m c) 0x3B124925#32))
              (scaleOf (topDy m c) 0x37924925#32 * scaleOf (topW m c) 0x3B124925#32) : Buf (Elt Ideal) ((c : Thread nD τ).loc main_v55_0))
      ∧ r.2.mem ((c : Thread nD τ).loc main_v55_1)
          = (fun i => codeDy (m ((c : Thread nD τ).loc main_arg0) i) (invOf (topDy m c) 0x37924925#32) : Buf (Elt Ideal) ((c : Thread nD τ).loc main_v55_1))
      ∧ r.2.mem ((c : Thread nD τ).loc main_v19) = (fun _ => scaleOf (topDy m c) 0x37924925#32 : Buf (Elt Ideal) ((c : Thread nD τ).loc main_v19))
      ∧ r.2.mem ((c : Thread nD τ).loc main_v55_2)
          = (fun i => codeW (m ((c : Thread nD τ).loc main_arg1) i) (invOf (topW m c) 0x3B124925#32) : Buf (Elt Ideal) ((c : Thread nD τ).loc main_v55_2))
      ∧ r.2.mem ((c : Thread nD τ).loc main_v44) = (fun _ => scaleOf (topW m c) 0x3B124925#32 : Buf (Elt Ideal) ((c : Thread nD τ).loc main_v44))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨((h c).1 6).trans (final6 m c), ((h c).1 7).trans (final7 m c),
      ((h c).2 main_v19 (by decide +kernel)).trans (V_v19_eq m c), ((h c).1 8).trans (final8 m c),
      ((h c).2 main_v44 (by decide +kernel)).trans (V_v44_eq m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c)))⟩)
    (run_main m ρ)

end Cert.ReferenceIdeal.Hand

end
-- ==== Proof.lean ====
module

public import proofs.«01_k».proof.Defs
public import proofs.«01_k».proof.Proof.KWhole
public import proofs.«01_k».proof.Proof.IValue
public import proofs.«01_k».proof.Proof.RefValue

@[expose] public section

noncomputable section

namespace Cert.Proof

open Idealize.ShloMosaic Idealize.SL.Sem

/-- The idealized kernel and the idealized reference leave equal arrays in all five results. Both are written from the
largest magnitude of the gradient and of the weight, and each of the two is the one number that bounds its array's
magnitudes and is bounded by every bound of them. -/
theorem algebraic : Cert.algebraic_KernelIdeal_ReferenceIdeal
    (hKernelIdeal := Cert.KernelIdeal.Gen.facts) (hReferenceIdeal := Cert.ReferenceIdeal.Gen.facts) := by
  intro m g m' g' _ hargs
  have ha : ∀ c : Dev Cert.KernelIdeal.nD, Cert.Amax.IsMax (fun i : Cert.KernelIdeal.S8x2048x3200.Idx =>
      Cert.Amax.mag (m ((c.tc : Thread Cert.KernelIdeal.nD Cert.KernelIdeal.τ).loc Cert.KernelIdeal.main_arg0) i)) (Cert.ReferenceIdeal.Hand.topDy m' c) := by
    intro c
    rw [← (hargs c).1]
    exact Cert.ReferenceIdeal.Hand.topDy_isMax m' c
  have hb : ∀ c : Dev Cert.KernelIdeal.nD, Cert.Amax.IsMax (fun i : Cert.KernelIdeal.S2048x3200.Idx =>
      Cert.Amax.mag (m ((c.tc : Thread Cert.KernelIdeal.nD Cert.KernelIdeal.τ).loc Cert.KernelIdeal.main_arg1) i)) (Cert.ReferenceIdeal.Hand.topW m' c) := by
    intro c
    rw [← (hargs c).2]
    exact Cert.ReferenceIdeal.Hand.topW_isMax m' c
  refine ⟨fun c => Cert.KernelIdeal.Hand.W6 m g c (Proc.devRef .tc Cert.KernelIdeal.main_v4_0),
    fun c => Cert.KernelIdeal.Hand.W6 m g c (Proc.devRef .tc Cert.KernelIdeal.main_v4_1),
    fun c => Cert.KernelIdeal.Hand.W6 m g c (Proc.devRef .tc Cert.KernelIdeal.main_v5),
    fun c => Cert.KernelIdeal.Hand.W6 m g c (Proc.devRef .tc Cert.KernelIdeal.main_v1),
    fun c => Cert.KernelIdeal.Hand.W6 m g c (Proc.devRef .tc Cert.KernelIdeal.main_v6),
    (θ_run _ _ _).mono (fun r h c => ?_) (Cert.KernelIdeal.Hand.run m g),
    (θ_run _ _ _).mono (fun r h c => ?_) (Cert.ReferenceIdeal.Hand.run_values m' g')⟩
  · have hu := h.1 c
    exact ⟨hu _ (Cert.KernelIdeal.Hand.mem_uc Cert.KernelIdeal.main_v4_0 (by decide)),
      hu _ (Cert.KernelIdeal.Hand.mem_uc Cert.KernelIdeal.main_v4_1 (by decide)),
      hu _ (Cert.KernelIdeal.Hand.mem_uc Cert.KernelIdeal.main_v5 (by decide)),
      hu _ (Cert.KernelIdeal.Hand.mem_uc Cert.KernelIdeal.main_v1 (by decide)),
      hu _ (Cert.KernelIdeal.Hand.mem_uc Cert.KernelIdeal.main_v6 (by decide)),
      (hu _ (Cert.KernelIdeal.Hand.mem_uc Cert.KernelIdeal.main_arg0 (by decide))).trans (Cert.KernelIdeal.Hand.W6_main_arg0 m g c),
      (hu _ (Cert.KernelIdeal.Hand.mem_uc Cert.KernelIdeal.main_arg1 (by decide))).trans (Cert.KernelIdeal.Hand.W6_main_arg1 m g c)⟩
  · obtain ⟨h0, h1, h2, h3, h4, h5, h6⟩ := h c
    rw [(hargs c).1, (hargs c).2] at h0
    rw [(hargs c).1] at h1
    rw [(hargs c).2] at h3
    exact ⟨h0.trans (Cert.KernelIdeal.Hand.W6_dx (ha c) (hb c)).symm, h1.trans (Cert.KernelIdeal.Hand.W6_dyCodes (ha c)).symm,
      h2.trans (Cert.KernelIdeal.Hand.W6_dyScale (ha c)).symm, h3.trans (Cert.KernelIdeal.Hand.W6_wCodes (hb c)).symm,
      h4.trans (Cert.KernelIdeal.Hand.W6_wScale (hb c)).symm, h5, h6⟩

/-- Everything the certificate claims. -/
theorem claim : Cert.Claim :=
  ⟨Cert.Kernel.Gen.facts, Cert.KernelIdeal.Gen.facts, Cert.ReferenceIdeal.Gen.facts,
    fun m ρ _ => Cert.Kernel.Hand.frame m ρ, fun m ρ _ => Cert.KernelIdeal.Hand.frame m ρ,
    fun m ρ _ => Cert.ReferenceIdeal.Gen.frame m ρ, trivial, algebraic⟩

end Cert.Proof

end
